-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Kernel24Ideal_finite24 [hPre_finite24 : Cert.Pre_finite24.Facts] (m : (ℓ : Loc Cert.Kernel24Ideal.nD Cert.Kernel24Ideal.τ Cert.Kernel24Ideal.sig) → Buf (Elt Ideal) ℓ) : Prop :=
  ∀ c : Dev Cert.Kernel24Ideal.nD,
    (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))).1 = (fun _ => 1#1)
    ∧ (Cert.Pre_finite24.fn (F := Ideal) (m ((c.tc : Thread Cert.Kernel24Ideal.nD Cert.Kernel24Ideal.τ).loc Cert.Kernel24Ideal.main_arg0)) (m ((c.tc : Thread Cert.Kernel24Ideal.nD Cert.Kernel24Ideal.τ).loc Cert.Kernel24Ideal.main_arg1))).2 = (fun _ => 1#1)

def Pre_Reference24Ideal (m : (ℓ : Loc Cert.Reference24Ideal.nD Cert.Reference24Ideal.τ Cert.Reference24Ideal.sig) → Buf (Elt Ideal) ℓ) : Prop :=
  True

def Pre_Reference24Ideal_finite24 [hPre_finite24 : Cert.Pre_finite24.Facts] (m : (ℓ : Loc Cert.Reference24Ideal.nD Cert.Reference24Ideal.τ Cert.Reference24Ideal.sig) → Buf (Elt Ideal) ℓ) : Prop :=
  ∀ c : Dev Cert.Reference24Ideal.nD,
    (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))).1 = (fun _ => 1#1)
    ∧ (Cert.Pre_finite24.fn (F := Ideal) (m ((c.tc : Thread Cert.Reference24Ideal.nD Cert.Reference24Ideal.τ).loc Cert.Reference24Ideal.main_arg0)) (m ((c.tc : Thread Cert.Reference24Ideal.nD Cert.Reference24Ideal.τ).loc Cert.Reference24Ideal.main_arg1))).2 = (fun _ => 1#1)

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Kernel24Ideal_pre_finite24 [hKernel24Ideal : Cert.Kernel24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal_finite24 m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Reference24Ideal_pre_finite24 [hReference24Ideal : Cert.Reference24Ideal.Facts] [hPre_finite24 : Cert.Pre_finite24.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal_finite24 m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30_0)) (v1 : (c : Dev Cert.KernelIdeal.nD) → Buf (Elt Ideal) ((c.tc : Thread Cert.KernelIdeal.nD Cert.KernelIdeal.τ).loc Cert.KernelIdeal.main_v30_1)) (v2 : (c : Dev Cert.KernelIdeal.nD) → Buf (Elt Ideal) ((c.tc : Thread Cert.KernelIdeal.nD Cert.KernelIdeal.τ).loc Cert.KernelIdeal.main_v30_2)) (v3 : (c : Dev Cert.KernelIdeal.nD) → Buf (Elt Ideal) ((c.tc : Thread Cert.KernelIdeal.nD Cert.KernelIdeal.τ).loc Cert.KernelIdeal.main_v30_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30_0) = v0 c
          ∧ r.2.mem ((c.tc : Thread Cert.KernelIdeal.nD Cert.KernelIdeal.τ).loc Cert.KernelIdeal.main_v30_1) = v1 c
          ∧ r.2.mem ((c.tc : Thread Cert.KernelIdeal.nD Cert.KernelIdeal.τ).loc Cert.KernelIdeal.main_v30_2) = v2 c
          ∧ r.2.mem ((c.tc : Thread Cert.KernelIdeal.nD Cert.KernelIdeal.τ).loc Cert.KernelIdeal.main_v30_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v4_0)) (v1 : (c : Dev Cert.Kernel17Ideal.nD) → Buf (Elt Ideal) ((c.tc : Thread Cert.Kernel17Ideal.nD Cert.Kernel17Ideal.τ).loc Cert.Kernel17Ideal.main_v4_1)) (v2 : (c : Dev Cert.Kernel17Ideal.nD) → Buf (Elt Ideal) ((c.tc : Thread Cert.Kernel17Ideal.nD Cert.Kernel17Ideal.τ).loc Cert.Kernel17Ideal.main_v4_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4_0) = v0 c
          ∧ r.2.mem ((c.tc : Thread Cert.Kernel17Ideal.nD Cert.Kernel17Ideal.τ).loc Cert.Kernel17Ideal.main_v4_1) = v1 c
          ∧ r.2.mem ((c.tc : Thread Cert.Kernel17Ideal.nD Cert.Kernel17Ideal.τ).loc Cert.Kernel17Ideal.main_v4_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v24) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v26) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v4_0)) (v1 : (c : Dev Cert.Kernel18Ideal.nD) → Buf (Elt Ideal) ((c.tc : Thread Cert.Kernel18Ideal.nD Cert.Kernel18Ideal.τ).loc Cert.Kernel18Ideal.main_v4_1)) (v2 : (c : Dev Cert.Kernel18Ideal.nD) → Buf (Elt Ideal) ((c.tc : Thread Cert.Kernel18Ideal.nD Cert.Kernel18Ideal.τ).loc Cert.Kernel18Ideal.main_v4_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4_0) = v0 c
          ∧ r.2.mem ((c.tc : Thread Cert.Kernel18Ideal.nD Cert.Kernel18Ideal.τ).loc Cert.Kernel18Ideal.main_v4_1) = v1 c
          ∧ r.2.mem ((c.tc : Thread Cert.Kernel18Ideal.nD Cert.Kernel18Ideal.τ).loc Cert.Kernel18Ideal.main_v4_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_v25) = v1 c
          ∧ r.2.mem ((c.tc : Thread Cert.Reference18Ideal.nD Cert.Reference18Ideal.τ).loc Cert.Reference18Ideal.main_v26) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v17) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal_pre_finite24 [hKernel24Ideal : Cert.Kernel24Ideal.Facts] [hReference24Ideal : Cert.Reference24Ideal.Facts] [hPre_finite24 : Cert.Pre_finite24.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal_finite24 m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v1) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v32) = v0 c
          ∧ r.2.mem ((c.tc : Thread Cert.Reference25Ideal.nD Cert.Reference25Ideal.τ).loc Cert.Reference25Ideal.main_v33) = v1 c
          ∧ r.2.mem ((c.tc : Thread Cert.Reference25Ideal.nD Cert.Reference25Ideal.τ).loc Cert.Reference25Ideal.main_v34) = v2 c
          ∧ r.2.mem ((c.tc : Thread Cert.Reference25Ideal.nD Cert.Reference25Ideal.τ).loc Cert.Reference25Ideal.main_v35) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v17) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v12) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v21) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v29_0)) (v1 : (c : Dev Cert.Kernel30Ideal.nD) → Buf (Elt Ideal) ((c.tc : Thread Cert.Kernel30Ideal.nD Cert.Kernel30Ideal.τ).loc Cert.Kernel30Ideal.main_v29_1)) (v2 : (c : Dev Cert.Kernel30Ideal.nD) → Buf (Elt Ideal) ((c.tc : Thread Cert.Kernel30Ideal.nD Cert.Kernel30Ideal.τ).loc Cert.Kernel30Ideal.main_v29_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v29_0) = v0 c
          ∧ r.2.mem ((c.tc : Thread Cert.Kernel30Ideal.nD Cert.Kernel30Ideal.τ).loc Cert.Kernel30Ideal.main_v29_1) = v1 c
          ∧ r.2.mem ((c.tc : Thread Cert.Kernel30Ideal.nD Cert.Kernel30Ideal.τ).loc Cert.Kernel30Ideal.main_v29_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v57) = v0 c
          ∧ r.2.mem ((c.tc : Thread Cert.Reference30Ideal.nD Cert.Reference30Ideal.τ).loc Cert.Reference30Ideal.main_v59) = v1 c
          ∧ r.2.mem ((c.tc : Thread Cert.Reference30Ideal.nD Cert.Reference30Ideal.τ).loc Cert.Reference30Ideal.main_v60) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hPre_finite : Cert.Pre_finite.Facts) (hPre_finite24 : Cert.Pre_finite24.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Kernel24Ideal_pre_finite24 (hKernel24Ideal := hKernel24Ideal) (hPre_finite24 := hPre_finite24)
    ∧ quiescent_Reference24Ideal (hReference24Ideal := hReference24Ideal)
    ∧ quiescent_Reference24Ideal_pre_finite24 (hReference24Ideal := hReference24Ideal) (hPre_finite24 := hPre_finite24)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal_pre_finite24 (hKernel24Ideal := hKernel24Ideal) (hReference24Ideal := hReference24Ideal) (hPre_finite24 := hPre_finite24)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
-- ==== Pre_finite.lean ====
abbrev S8192x1024 : Shape := ⟨2, ![8192, 1024]⟩
abbrev S8192x256 : Shape := ⟨2, ![8192, 256]⟩
abbrev S8192x512 : Shape := ⟨2, ![8192, 512]⟩
abbrev S8192x128 : Shape := ⟨2, ![8192, 128]⟩
abbrev S65536x128 : Shape := ⟨2, ![65536, 128]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)
  bitsLt_bf16_f32 : FTy.bits .bf16 < FTy.bits .f32
  bcast_S_S8192x512 : S_.BroadcastsInDim S8192x512 (![] : Fin 0 → Fin S8192x512.rank)
  bcast_S_S8192x128 : S_.BroadcastsInDim S8192x128 (![] : Fin 0 → Fin S8192x128.rank)
  bcast_S_S65536x128 : S_.BroadcastsInDim S65536x128 (![] : Fin 0 → Fin S65536x128.rank)

variable [Facts]

def fn_part1 {F : FTy → Type} [FloatOps F] (main_arg6 : FVec F S8192x512 .f32) (main_v2 : IVec S8192x1024 1) (main_v5 : IVec S8192x256 1) (main_v9 : IVec S8192x512 1) (main_v13 : IVec S8192x512 1) (main_v16 : IVec S8192x128 1) (main_v18 : FVec F S65536x128 .f32) : IVec S8192x1024 1 × IVec S8192x256 1 × IVec S8192x512 1 × IVec S8192x512 1 × IVec S8192x128 1 × IVec S65536x128 1 × IVec S8192x512 1 :=
  let main_cst_4 : FVec F S_ .f32 := constant S_ .f32 0x7F800000#32
  let main_v19 : FVec F S65536x128 .f32 := broadcastInDim S65536x128 ![] bcast_S_S65536x128 main_cst_4
  let main_v20 : IVec S65536x128 1 := cmpf .olt main_v18 main_v19
  let main_v21 : FVec F S8192x512 .f32 := Host.absf main_arg6
  let main_cst_5 : FVec F S_ .f32 := constant S_ .f32 0x7F800000#32
  let main_v22 : FVec F S8192x512 .f32 := broadcastInDim S8192x512 ![] bcast_S_S8192x512 main_cst_5
  let main_v23 : IVec S8192x512 1 := cmpf .olt main_v21 main_v22
  (main_v2, main_v5, main_v9, main_v13, main_v16, main_v20, main_v23)

def fn {F : FTy → Type} [FloatOps F] (main_arg0 : FVec F S8192x1024 .f32) (main_arg1 : FVec F S8192x256 .f32) (main_arg2 : FVec F S8192x512 .bf16) (main_arg3 : FVec F S8192x512 .bf16) (main_arg4 : FVec F S8192x128 .f32) (main_arg5 : FVec F S65536x128 .bf16) (main_arg6 : FVec F S8192x512 .f32) : IVec S8192x1024 1 × IVec S8192x256 1 × IVec S8192x512 1 × IVec S8192x512 1 × IVec S8192x128 1 × IVec S65536x128 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x512 .f32 := (extf .f32 · bitsLt_bf16_f32) main_arg2
  let main_v7 : FVec F S8192x512 .f32 := Host.absf main_v6
  let main_cst_1 : FVec F S_ .f32 := constant S_ .f32 0x7F800000#32
  let main_v8 : FVec F S8192x512 .f32 := broadcastInDim S8192x512 ![] bcast_S_S8192x512 main_cst_1
  let main_v9 : IVec S8192x512 1 := cmpf .olt main_v7 main_v8
  let main_v10 : FVec F S8192x512 .f32 := (extf .f32 · bitsLt_bf16_f32) main_arg3
  let main_v11 : FVec F S8192x512 .f32 := Host.absf main_v10
  let main_cst_2 : FVec F S_ .f32 := constant S_ .f32 0x7F800000#32
  let main_v12 : FVec F S8192x512 .f32 := broadcastInDim S8192x512 ![] bcast_S_S8192x512 main_cst_2
  let main_v13 : IVec S8192x512 1 := cmpf .olt main_v11 main_v12
  let main_v14 : FVec F S8192x128 .f32 := Host.absf main_arg4
  let main_cst_3 : FVec F S_ .f32 := constant S_ .f32 0x7F800000#32
  let main_v15 : FVec F S8192x128 .f32 := broadcastInDim S8192x128 ![] bcast_S_S8192x128 main_cst_3
  let main_v16 : IVec S8192x128 1 := cmpf .olt main_v14 main_v15
  let main_v17 : FVec F S65536x128 .f32 := (extf .f32 · bitsLt_bf16_f32) main_arg5
  let main_v18 : FVec F S65536x128 .f32 := Host.absf main_v17
  fn_part1 (F := F) main_arg6 main_v2 main_v5 main_v9 main_v13 main_v16 main_v18
-- ==== Pre_finite24.lean ====
abbrev S8192x5632 : Shape := ⟨2, ![8192, 5632]⟩
abbrev S8192x2816 : Shape := ⟨2, ![8192, 2816]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)
  bcast_S_S8192x2816 : S_.BroadcastsInDim S8192x2816 (![] : Fin 0 → Fin S8192x2816.rank)

variable [Facts]

def fn {F : FTy → Type} [FloatOps F] (main_arg0 : FVec F S8192x5632 .bf16) (main_arg1 : FVec F S8192x2816 .bf16) : IVec S8192x5632 1 × IVec S8192x2816 1 :=
  let main_v0 : FVec F S8192x5632 .f32 := (extf .f32 · bitsLt_bf16_f32) main_arg0
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  (main_v3, main_v7)
-- ==== Kernel.lean ====
abbrev S8192x1024 : Shape := ⟨2, ![8192, 1024]⟩
abbrev S8192x256 : Shape := ⟨2, ![8192, 256]⟩
abbrev S8192x512 : Shape := ⟨2, ![8192, 512]⟩
abbrev S8192x128 : Shape := ⟨2, ![8192, 128]⟩
abbrev S65536x128 : Shape := ⟨2, ![65536, 128]⟩
abbrev S128x1x64x128 : Shape := ⟨4, ![128, 1, 64, 128]⟩
abbrev S128x1x1x4 : Shape := ⟨4, ![128, 1, 1, 4]⟩
abbrev S128x1x4 : Shape := ⟨3, ![128, 1, 4]⟩
abbrev S1x128x64x4x128 : Shape := ⟨5, ![1, 128, 64, 4, 128]⟩
abbrev S128x1x64x4x128 : Shape := ⟨5, ![128, 1, 64, 4, 128]⟩
abbrev S128x1x4x64x128 : Shape := ⟨5, ![128, 1, 4, 64, 128]⟩
abbrev S1x128x64x4x64 : Shape := ⟨5, ![1, 128, 64, 4, 64]⟩
abbrev S128x1x64x4x64 : Shape := ⟨5, ![128, 1, 64, 4, 64]⟩
abbrev S128x1x4x64x64 : Shape := ⟨5, ![128, 1, 4, 64, 64]⟩
abbrev S128x1x4x128x128 : Shape := ⟨5, ![128, 1, 4, 128, 128]⟩
abbrev S1x128x4x64x128 : Shape := ⟨5, ![1, 128, 4, 64, 128]⟩
abbrev S256x512 : Shape := ⟨2, ![256, 512]⟩
abbrev S256x1024 : Shape := ⟨2, ![256, 1024]⟩
abbrev S256x256 : Shape := ⟨2, ![256, 256]⟩
abbrev S256x128 : Shape := ⟨2, ![256, 128]⟩
abbrev S2048x128 : Shape := ⟨2, ![2048, 128]⟩
abbrev S512x128 : Shape := ⟨2, ![512, 128]⟩
abbrev S64x128 : Shape := ⟨2, ![64, 128]⟩
abbrev S128x128 : Shape := ⟨2, ![128, 128]⟩
abbrev S64x64 : Shape := ⟨2, ![64, 64]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 41
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x512, .bf16⟩
  | .hbm, ⟨3, _⟩ => ⟨S8192x512, .bf16⟩
  | .hbm, ⟨4, _⟩ => ⟨S8192x128, .f32⟩
  | .hbm, ⟨5, _⟩ => ⟨S65536x128, .bf16⟩
  | .hbm, ⟨6, _⟩ => ⟨S8192x512, .f32⟩
  | .hbm, ⟨7, _⟩ => ⟨S128x1x64x128, .f32⟩
  | .hbm, ⟨8, _⟩ => ⟨S128x1x1x4, .f32⟩
  | .hbm, ⟨9, _⟩ => ⟨S128x1x4, .f32⟩
  | .hbm, ⟨10, _⟩ => ⟨S8192x512, .f32⟩
  | .hbm, ⟨11, _⟩ => ⟨S1x128x64x4x128, .f32⟩
  | .hbm, ⟨12, _⟩ => ⟨S128x1x64x4x128, .f32⟩
  | .hbm, ⟨13, _⟩ => ⟨S128x1x4x64x128, .f32⟩
  | .hbm, ⟨14, _⟩ => ⟨S8192x512, .f32⟩
  | .hbm, ⟨15, _⟩ => ⟨S1x128x64x4x128, .f32⟩
  | .hbm, ⟨16, _⟩ => ⟨S128x1x64x4x128, .f32⟩
  | .hbm, ⟨17, _⟩ => ⟨S128x1x4x64x128, .f32⟩
  | .hbm, ⟨18, _⟩ => ⟨S8192x512, .f32⟩
  | .hbm, ⟨19, _⟩ => ⟨S1x128x64x4x128, .f32⟩
  | .hbm, ⟨20, _⟩ => ⟨S128x1x64x4x128, .f32⟩
  | .hbm, ⟨21, _⟩ => ⟨S128x1x4x64x128, .f32⟩
  | .hbm, ⟨22, _⟩ => ⟨S1x128x64x4x64, .f32⟩
  | .hbm, ⟨23, _⟩ => ⟨S128x1x64x4x64, .f32⟩
  | .hbm, ⟨24, _⟩ => ⟨S128x1x4x64x64, .f32⟩
  | .hbm, ⟨25, _⟩ => ⟨S8192x512, .f32⟩
  | .hbm, ⟨26, _⟩ => ⟨S1x128x64x4x128, .f32⟩
  | .hbm, ⟨27, _⟩ => ⟨S128x1x64x4x128, .f32⟩
  | .hbm, ⟨28, _⟩ => ⟨S128x1x4x64x128, .f32⟩
  | .hbm, ⟨29, _⟩ => ⟨S65536x128, .f32⟩
  | .hbm, ⟨30, _⟩ => ⟨S128x1x4x128x128, .f32⟩
  | .hbm, ⟨31, _⟩ => ⟨S128x1x4x64x128, .f32⟩
  | .hbm, ⟨32, _⟩ => ⟨S128x1x4x64x128, .f32⟩
  | .hbm, ⟨33, _⟩ => ⟨S1x128x4x64x128, .f32⟩
  | .hbm, ⟨34, _⟩ => ⟨S1x128x64x4x128, .f32⟩
  | .hbm, ⟨35, _⟩ => ⟨S8192x512, .f32⟩
  | .hbm, ⟨36, _⟩ => ⟨S8192x512, .bf16⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x128, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x256, .f32⟩
  | .local _ .vmem, ⟨5, _⟩ => ⟨S256x256, .f32⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x512, .bf16⟩
  | .local _ .vmem, ⟨13, _⟩ => ⟨S256x512, .bf16⟩
  | .local _ .vmem, ⟨14, _⟩ => ⟨S2048x128, .bf16⟩
  | .local _ .vmem, ⟨15, _⟩ => ⟨S2048x128, .bf16⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x128, .f32⟩
  | .local _ .vmem, ⟨23, _⟩ => ⟨S256x128, .f32⟩
  | .local _ .vmem, ⟨24, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30_0 : Ref sig .tc := ⟨.hbm, 37, rfl⟩
abbrev main_v30_1 : Ref sig .tc := ⟨.hbm, 38, rfl⟩
abbrev main_v30_2 : Ref sig .tc := ⟨.hbm, 39, rfl⟩
abbrev main_v30_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S8192x1024 : Shape := ⟨2, ![8192, 1024]⟩
abbrev S8192x256 : Shape := ⟨2, ![8192, 256]⟩
abbrev S8192x512 : Shape := ⟨2, ![8192, 512]⟩
abbrev S8192x128 : Shape := ⟨2, ![8192, 128]⟩
abbrev S65536x128 : Shape := ⟨2, ![65536, 128]⟩
abbrev S128x1x4x128x128 : Shape := ⟨5, ![128, 1, 4, 128, 128]⟩
abbrev S_ : Shape := ⟨0, ![]⟩
abbrev S1x4x128x128 : Shape := ⟨4, ![1, 4, 128, 128]⟩
abbrev S128x1x64x128 : Shape := ⟨4, ![128, 1, 64, 128]⟩
abbrev S128x1x1x4 : Shape := ⟨4, ![128, 1, 1, 4]⟩
abbrev S128x1x4 : Shape := ⟨3, ![128, 1, 4]⟩
abbrev S1x128x64x4x128 : Shape := ⟨5, ![1, 128, 64, 4, 128]⟩
abbrev S128x1x64x4x128 : Shape := ⟨5, ![128, 1, 64, 4, 128]⟩
abbrev S128x1x4x64x128 : Shape := ⟨5, ![128, 1, 4, 64, 128]⟩
abbrev S1x128x64x4x64 : Shape := ⟨5, ![1, 128, 64, 4, 64]⟩
abbrev S128x1x64x4x64 : Shape := ⟨5, ![128, 1, 64, 4, 64]⟩
abbrev S128x1x4x64x64 : Shape := ⟨5, ![128, 1, 4, 64, 64]⟩
abbrev S1x1x4x128x128 : Shape := ⟨5, ![1, 1, 4, 128, 128]⟩
abbrev S1x1x4x64x128 : Shape := ⟨5, ![1, 1, 4, 64, 128]⟩
abbrev S1x4x64x128 : Shape := ⟨4, ![1, 4, 64, 128]⟩
abbrev S1x1x4x64x64 : Shape := ⟨5, ![1, 1, 4, 64, 64]⟩
abbrev S1x4x64x64 : Shape := ⟨4, ![1, 4, 64, 64]⟩
abbrev S1x1x4 : Shape := ⟨3, ![1, 1, 4]⟩
abbrev S1x4 : Shape := ⟨2, ![1, 4]⟩
abbrev S1x4x1x1 : Shape := ⟨4, ![1, 4, 1, 1]⟩
abbrev S1x4x128x64 : Shape := ⟨4, ![1, 4, 128, 64]⟩
abbrev S128x4 : Shape := ⟨2, ![128, 4]⟩
abbrev S128x64x4 : Shape := ⟨3, ![128, 64, 4]⟩
abbrev S8192x4 : Shape := ⟨2, ![8192, 4]⟩
abbrev S8192x124 : Shape := ⟨2, ![8192, 124]⟩
abbrev S1x128x4x64x128 : Shape := ⟨5, ![1, 128, 4, 64, 128]⟩

abbrev nBuf : Space → Nat
  | .hbm => 203
  | .vmem => 0
  | .smem => 0
  | _ => 0

abbrev hbmTy0_0 (i : Nat) : BufTy := match i % 128 with
  | 0 => ⟨S8192x1024, .f32⟩
  | 1 => ⟨S8192x256, .f32⟩
  | 2 => ⟨S8192x512, .bf16⟩
  | 3 => ⟨S8192x512, .bf16⟩
  | 4 => ⟨S8192x128, .f32⟩
  | 5 => ⟨S65536x128, .bf16⟩
  | 6 => ⟨S8192x512, .f32⟩
  | 7 => ⟨S65536x128, .f32⟩
  | 8 => ⟨S128x1x4x128x128, .f32⟩
  | 9 => ⟨S_, .f32⟩
  | 10 => ⟨S1x4x128x128, .f32⟩
  | 11 => ⟨S128x1x64x128, .f32⟩
  | 12 => ⟨S128x1x1x4, .f32⟩
  | 13 => ⟨S128x1x4, .f32⟩
  | 14 => ⟨S8192x512, .f32⟩
  | 15 => ⟨S1x128x64x4x128, .f32⟩
  | 16 => ⟨S128x1x64x4x128, .f32⟩
  | 17 => ⟨S128x1x4x64x128, .f32⟩
  | 18 => ⟨S8192x512, .f32⟩
  | 19 => ⟨S1x128x64x4x128, .f32⟩
  | 20 => ⟨S128x1x64x4x128, .f32⟩
  | 21 => ⟨S128x1x4x64x128, .f32⟩
  | 22 => ⟨S8192x512, .f32⟩
  | 23 => ⟨S1x128x64x4x128, .f32⟩
  | 24 => ⟨S128x1x64x4x128, .f32⟩
  | 25 => ⟨S128x1x4x64x128, .f32⟩
  | 26 => ⟨S1x128x64x4x64, .f32⟩
  | 27 => ⟨S128x1x64x4x64, .f32⟩
  | 28 => ⟨S128x1x4x64x64, .f32⟩
  | 29 => ⟨S8192x512, .f32⟩
  | 30 => ⟨S1x128x64x4x128, .f32⟩
  | 31 => ⟨S128x1x64x4x128, .f32⟩
  | 32 => ⟨S128x1x4x64x128, .f32⟩
  | 33 => ⟨S1x128x64x4x128, .f32⟩
  | 34 => ⟨S128x1x64x4x128, .f32⟩
  | 35 => ⟨S128x1x4x64x128, .f32⟩
  | 36 => ⟨S_, .f32⟩
  | 37 => ⟨S128x1x4x64x128, .f32⟩
  | 38 => ⟨S_, .f32⟩
  | 39 => ⟨S128x1x4x64x128, .f32⟩
  | 40 => ⟨S_, .f32⟩
  | 41 => ⟨S128x1x4x64x128, .f32⟩
  | 42 => ⟨S_, .f32⟩
  | 43 => ⟨S128x1x4x64x64, .f32⟩
  | 44 => ⟨S_, .f32⟩
  | 45 => ⟨S128x1x4x64x128, .f32⟩
  | 46 => ⟨S_, .f32⟩
  | 47 => ⟨S128x1x4, .f32⟩
  | 48 => ⟨S_, .i32⟩
  | 49 => ⟨S128x1x4x128x128, .f32⟩
  | 50 => ⟨S128x1x4x64x128, .f32⟩
  | 51 => ⟨S128x1x4x64x128, .f32⟩
  | 52 => ⟨S128x1x4x64x128, .f32⟩
  | 53 => ⟨S128x1x4x64x64, .f32⟩
  | 54 => ⟨S128x1x4x64x128, .f32⟩
  | 55 => ⟨S128x1x4, .f32⟩
  | 56 => ⟨S128x1x4x64x128, .f32⟩
  | 57 => ⟨S_, .i32⟩
  | 58 => ⟨S1x4x128x128, .f32⟩
  | 59 => ⟨S128x1x4x64x128, .f32⟩
  | 60 => ⟨S128x1x4x64x128, .f32⟩
  | 61 => ⟨S128x1x4x64x128, .f32⟩
  | 62 => ⟨S128x1x4x64x64, .f32⟩
  | 63 => ⟨S128x1x4x64x128, .f32⟩
  | 64 => ⟨S128x1x4, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x1x4x128x128, .f32⟩
  | 76 => ⟨S1x4x128x128, .f32⟩
  | 77 => ⟨S_, .i32⟩
  | 78 => ⟨S_, .i32⟩
  | 79 => ⟨S_, .i32⟩
  | 80 => ⟨S_, .i32⟩
  | 81 => ⟨S1x1x4x64x128, .f32⟩
  | 82 => ⟨S1x4x64x128, .f32⟩
  | 83 => ⟨S_, .i32⟩
  | 84 => ⟨S_, .i32⟩
  | 85 => ⟨S_, .i32⟩
  | 86 => ⟨S_, .i32⟩
  | 87 => ⟨S1x1x4x64x128, .f32⟩
  | 88 => ⟨S1x4x64x128, .f32⟩
  | 89 => ⟨S_, .i32⟩
  | 90 => ⟨S_, .i32⟩
  | 91 => ⟨S_, .i32⟩
  | 92 => ⟨S_, .i32⟩
  | 93 => ⟨S1x1x4x64x128, .f32⟩
  | 94 => ⟨S1x4x64x128, .f32⟩
  | 95 => ⟨S_, .i32⟩
  | 96 => ⟨S_, .i32⟩
  | 97 => ⟨S_, .i32⟩
  | 98 => ⟨S_, .i32⟩
  | 99 => ⟨S1x1x4x64x64, .f32⟩
  | 100 => ⟨S1x4x64x64, .f32⟩
  | 101 => ⟨S_, .i32⟩
  | 102 => ⟨S_, .i32⟩
  | 103 => ⟨S_, .i32⟩
  | 104 => ⟨S_, .i32⟩
  | 105 => ⟨S1x1x4x64x128, .f32⟩
  | 106 => ⟨S1x4x64x128, .f32⟩
  | 107 => ⟨S_, .i32⟩
  | 108 => ⟨S_, .i32⟩
  | 109 => ⟨S1x1x4, .f32⟩
  | 110 => ⟨S1x4, .f32⟩
  | 111 => ⟨S_, .i32⟩
  | 112 => ⟨S_, .i32⟩
  | 113 => ⟨S_, .i32⟩
  | 114 => ⟨S_, .i32⟩
  | 115 => ⟨S1x1x4x64x128, .f32⟩
  | 116 => ⟨S1x4x64x128, .f32⟩
  | 117 => ⟨S1x4x64x128, .f32⟩
  | 118 => ⟨S1x4x64x128, .f32⟩
  | 119 => ⟨S1x4x64x128, .f32⟩
  | 120 => ⟨S1x4x64x128, .f32⟩
  | 121 => ⟨S1x4x64x128, .f32⟩
  | 122 => ⟨S1x4x1x1, .f32⟩
  | 123 => ⟨S1x4x128x128, .f32⟩
  | 124 => ⟨S1x4x128x128, .f32⟩
  | 125 => ⟨S1x4x128x128, .f32⟩
  | 126 => ⟨S1x4x128x128, .f32⟩
  | 127 => ⟨S1x4x128x64, .f32⟩
  | _ => ⟨S8192x1024, .f32⟩

abbrev hbmTy0_1 (i : Nat) : BufTy := match i % 128 with
  | 0 => ⟨S1x4x64x128, .f32⟩
  | 1 => ⟨S1x4x128x64, .f32⟩
  | 2 => ⟨S1x4x64x128, .f32⟩
  | 3 => ⟨S1x4x128x128, .f32⟩
  | 4 => ⟨S_, .f32⟩
  | 5 => ⟨S1x4, .f32⟩
  | 6 => ⟨S1x4x1x1, .f32⟩
  | 7 => ⟨S1x4x128x128, .f32⟩
  | 8 => ⟨S1x4x128x128, .f32⟩
  | 9 => ⟨S1x4, .f32⟩
  | 10 => ⟨S1x4x128x64, .f32⟩
  | 11 => ⟨S1x4x64x128, .f32⟩
  | 12 => ⟨S1x4x64x128, .f32⟩
  | 13 => ⟨S1x4x64x64, .f32⟩
  | 14 => ⟨S1x4x128x128, .f32⟩
  | 15 => ⟨S1x4x128x128, .f32⟩
  | 16 => ⟨S1x4x128x128, .f32⟩
  | 17 => ⟨S1x4x64x128, .f32⟩
  | 18 => ⟨S1x4x64x128, .f32⟩
  | 19 => ⟨S1x4x128x128, .f32⟩
  | 20 => ⟨S1x4x128x128, .f32⟩
  | 21 => ⟨S1x4x128x128, .f32⟩
  | 22 => ⟨S1x4x64x128, .f32⟩
  | 23 => ⟨S1x1x4x64x128, .f32⟩
  | 24 => ⟨S_, .i32⟩
  | 25 => ⟨S_, .i32⟩
  | 26 => ⟨S_, .i32⟩
  | 27 => ⟨S_, .i32⟩
  | 28 => ⟨S128x1x4x64x128, .f32⟩
  | 29 => ⟨S1x1x4x64x128, .f32⟩
  | 30 => ⟨S_, .i32⟩
  | 31 => ⟨S_, .i32⟩
  | 32 => ⟨S_, .i32⟩
  | 33 => ⟨S_, .i32⟩
  | 34 => ⟨S128x1x4x64x128, .f32⟩
  | 35 => ⟨S1x1x4x64x128, .f32⟩
  | 36 => ⟨S_, .i32⟩
  | 37 => ⟨S_, .i32⟩
  | 38 => ⟨S_, .i32⟩
  | 39 => ⟨S_, .i32⟩
  | 40 => ⟨S128x1x4x64x128, .f32⟩
  | 41 => ⟨S1x1x4x64x64, .f32⟩
  | 42 => ⟨S_, .i32⟩
  | 43 => ⟨S_, .i32⟩
  | 44 => ⟨S_, .i32⟩
  | 45 => ⟨S_, .i32⟩
  | 46 => ⟨S128x1x4x64x64, .f32⟩
  | 47 => ⟨S1x1x4x64x128, .f32⟩
  | 48 => ⟨S_, .i32⟩
  | 49 => ⟨S_, .i32⟩
  | 50 => ⟨S_, .i32⟩
  | 51 => ⟨S_, .i32⟩
  | 52 => ⟨S128x1x4x64x128, .f32⟩
  | 53 => ⟨S1x1x4, .f32⟩
  | 54 => ⟨S_, .i32⟩
  | 55 => ⟨S_, .i32⟩
  | 56 => ⟨S128x1x4, .f32⟩
  | 57 => ⟨S_, .i32⟩
  | 58 => ⟨S_, .i32⟩
  | 59 => ⟨S128x4, .f32⟩
  | 60 => ⟨S128x1x4, .f32⟩
  | 61 => ⟨S128x64x4, .f32⟩
  | 62 => ⟨S8192x4, .f32⟩
  | 63 => ⟨S_, .f32⟩
  | 64 => ⟨S8192x124, .f32⟩
  | 65 => ⟨S8192x128, .f32⟩
  | 66 => ⟨S1x128x4x64x128, .f32⟩
  | 67 => ⟨S1x128x64x4x128, .f32⟩
  | 68 => ⟨S8192x512, .f32⟩
  | 69 => ⟨S1x128x4x64x128, .f32⟩
  | 70 => ⟨S1x128x64x4x128, .f32⟩
  | 71 => ⟨S8192x512, .f32⟩
  | 72 => ⟨S1x128x4x64x128, .f32⟩
  | 73 => ⟨S1x128x64x4x128, .f32⟩
  | 74 => ⟨S8192x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_c : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v34_4 : Ref sig .tc := ⟨.hbm, 53, rfl⟩
abbrev main_v34_5 : Ref sig .tc := ⟨.hbm, 54, rfl⟩
abbrev main_v34_6 : Ref sig .tc := ⟨.hbm, 55, rfl⟩
abbrev main_v34_7 : Ref sig .tc := ⟨.hbm, 56, rfl⟩
abbrev main_v34_8 : Ref sig .tc := ⟨.hbm, 57, rfl⟩
abbrev main_v34_9 : Ref sig .tc := ⟨.hbm, 58, rfl⟩
abbrev main_v34_10 : Ref sig .tc := ⟨.hbm, 59, rfl⟩
abbrev main_v34_11 : Ref sig .tc := ⟨.hbm, 60, rfl⟩
abbrev main_v34_12 : Ref sig .tc := ⟨.hbm, 61, rfl⟩
abbrev main_v34_13 : Ref sig .tc := ⟨.hbm, 62, rfl⟩
abbrev main_v34_14 : Ref sig .tc := ⟨.hbm, 63, rfl⟩
abbrev main_v34_15 : Ref sig .tc := ⟨.hbm, 64, rfl⟩
abbrev main_while0c_c_22 : Ref sig .tc := ⟨.hbm, 65, rfl⟩
abbrev main_while0c_v50 : Ref sig .tc := ⟨.hbm, 66, rfl⟩
abbrev main_while0b_c_22 : Ref sig .tc := ⟨.hbm, 67, rfl⟩
abbrev main_while0b_v50 : Ref sig .tc := ⟨.hbm, 68, rfl⟩
abbrev main_while0b_c_23 : Ref sig .tc := ⟨.hbm, 69, rfl⟩
abbrev main_while0b_v51 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_c_2 : Ref sig .tc := ⟨.hbm, 74, rfl⟩
abbrev main_while0b_call0_v0 : Ref sig .tc := ⟨.hbm, 75, rfl⟩
abbrev main_while0b_v52 : Ref sig .tc := ⟨.hbm, 76, rfl⟩
abbrev main_while0b_call1_c : Ref sig .tc := ⟨.hbm, 77, rfl⟩
abbrev main_while0b_call1_c_0 : Ref sig .tc := ⟨.hbm, 78, rfl⟩
abbrev main_while0b_call1_c_1 : Ref sig .tc := ⟨.hbm, 79, rfl⟩
abbrev main_while0b_call1_c_2 : Ref sig .tc := ⟨.hbm, 80, rfl⟩
abbrev main_while0b_call1_v0 : Ref sig .tc := ⟨.hbm, 81, rfl⟩
abbrev main_while0b_v53 : Ref sig .tc := ⟨.hbm, 82, rfl⟩
abbrev main_while0b_call2_c : Ref sig .tc := ⟨.hbm, 83, rfl⟩
abbrev main_while0b_call2_c_0 : Ref sig .tc := ⟨.hbm, 84, rfl⟩
abbrev main_while0b_call2_c_1 : Ref sig .tc := ⟨.hbm, 85, rfl⟩
abbrev main_while0b_call2_c_2 : Ref sig .tc := ⟨.hbm, 86, rfl⟩
abbrev main_while0b_call2_v0 : Ref sig .tc := ⟨.hbm, 87, rfl⟩
abbrev main_while0b_v54 : Ref sig .tc := ⟨.hbm, 88, rfl⟩
abbrev main_while0b_call3_c : Ref sig .tc := ⟨.hbm, 89, rfl⟩
abbrev main_while0b_call3_c_0 : Ref sig .tc := ⟨.hbm, 90, rfl⟩
abbrev main_while0b_call3_c_1 : Ref sig .tc := ⟨.hbm, 91, rfl⟩
abbrev main_while0b_call3_c_2 : Ref sig .tc := ⟨.hbm, 92, rfl⟩
abbrev main_while0b_call3_v0 : Ref sig .tc := ⟨.hbm, 93, rfl⟩
abbrev main_while0b_v55 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v56 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v57 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_v0 : Ref sig .tc := ⟨.hbm, 109, rfl⟩
abbrev main_while0b_v58 : Ref sig .tc := ⟨.hbm, 110, rfl⟩
abbrev main_while0b_call7_c : Ref sig .tc := ⟨.hbm, 111, rfl⟩
abbrev main_while0b_call7_c_0 : Ref sig .tc := ⟨.hbm, 112, rfl⟩
abbrev main_while0b_call7_c_1 : Ref sig .tc := ⟨.hbm, 113, rfl⟩
abbrev main_while0b_call7_c_2 : Ref sig .tc := ⟨.hbm, 114, rfl⟩
abbrev main_while0b_call7_v0 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_v66 : Ref sig .tc := ⟨.hbm, 123, rfl⟩
abbrev main_while0b_v67 : Ref sig .tc := ⟨.hbm, 124, rfl⟩
abbrev main_while0b_v68 : Ref sig .tc := ⟨.hbm, 125, rfl⟩
abbrev main_while0b_v69 : Ref sig .tc := ⟨.hbm, 126, rfl⟩
abbrev main_while0b_v70 : Ref sig .tc := ⟨.hbm, 127, rfl⟩
abbrev main_while0b_v71 : Ref sig .tc := ⟨.hbm, 128, rfl⟩
abbrev main_while0b_v72 : Ref sig .tc := ⟨.hbm, 129, rfl⟩
abbrev main_while0b_v73 : Ref sig .tc := ⟨.hbm, 130, rfl⟩
abbrev main_while0b_v74 : Ref sig .tc := ⟨.hbm, 131, rfl⟩
abbrev main_while0b_cst_24 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_v81 : Ref sig .tc := ⟨.hbm, 139, rfl⟩
abbrev main_while0b_v82 : Ref sig .tc := ⟨.hbm, 140, rfl⟩
abbrev main_while0b_v83 : Ref sig .tc := ⟨.hbm, 141, rfl⟩
abbrev main_while0b_v84 : Ref sig .tc := ⟨.hbm, 142, rfl⟩
abbrev main_while0b_v85 : Ref sig .tc := ⟨.hbm, 143, rfl⟩
abbrev main_while0b_v86 : Ref sig .tc := ⟨.hbm, 144, rfl⟩
abbrev main_while0b_v87 : Ref sig .tc := ⟨.hbm, 145, rfl⟩
abbrev main_while0b_v88 : Ref sig .tc := ⟨.hbm, 146, rfl⟩
abbrev main_while0b_v89 : Ref sig .tc := ⟨.hbm, 147, rfl⟩
abbrev main_while0b_v90 : Ref sig .tc := ⟨.hbm, 148, rfl⟩
abbrev main_while0b_v91 : Ref sig .tc := ⟨.hbm, 149, rfl⟩
abbrev main_while0b_v92 : Ref sig .tc := ⟨.hbm, 150, rfl⟩
abbrev main_while0b_call8_v0 : Ref sig .tc := ⟨.hbm, 151, rfl⟩
abbrev main_while0b_call8_c : Ref sig .tc := ⟨.hbm, 152, rfl⟩
abbrev main_while0b_call8_c_0 : Ref sig .tc := ⟨.hbm, 153, rfl⟩
abbrev main_while0b_call8_c_1 : Ref sig .tc := ⟨.hbm, 154, rfl⟩
abbrev main_while0b_call8_c_2 : Ref sig .tc := ⟨.hbm, 155, rfl⟩
abbrev main_while0b_v93 : Ref sig .tc := ⟨.hbm, 156, rfl⟩
abbrev main_while0b_call9_v0 : Ref sig .tc := ⟨.hbm, 157, rfl⟩
abbrev main_while0b_call9_c : Ref sig .tc := ⟨.hbm, 158, rfl⟩
abbrev main_while0b_call9_c_0 : Ref sig .tc := ⟨.hbm, 159, rfl⟩
abbrev main_while0b_call9_c_1 : Ref sig .tc := ⟨.hbm, 160, rfl⟩
abbrev main_while0b_call9_c_2 : Ref sig .tc := ⟨.hbm, 161, rfl⟩
abbrev main_while0b_v94 : Ref sig .tc := ⟨.hbm, 162, rfl⟩
abbrev main_while0b_call10_v0 : Ref sig .tc := ⟨.hbm, 163, rfl⟩
abbrev main_while0b_call10_c : Ref sig .tc := ⟨.hbm, 164, rfl⟩
abbrev main_while0b_call10_c_0 : Ref sig .tc := ⟨.hbm, 165, rfl⟩
abbrev main_while0b_call10_c_1 : Ref sig .tc := ⟨.hbm, 166, rfl⟩
abbrev main_while0b_call10_c_2 : Ref sig .tc := ⟨.hbm, 167, rfl⟩
abbrev main_while0b_v95 : Ref sig .tc := ⟨.hbm, 168, rfl⟩
abbrev main_while0b_call11_v0 : Ref sig .tc := ⟨.hbm, 169, rfl⟩
abbrev main_while0b_call11_c : Ref sig .tc := ⟨.hbm, 170, rfl⟩
abbrev main_while0b_call11_c_0 : Ref sig .tc := ⟨.hbm, 171, rfl⟩
abbrev main_while0b_call11_c_1 : Ref sig .tc := ⟨.hbm, 172, rfl⟩
abbrev main_while0b_call11_c_2 : Ref sig .tc := ⟨.hbm, 173, rfl⟩
abbrev main_while0b_v96 : Ref sig .tc := ⟨.hbm, 174, rfl⟩
abbrev main_while0b_call12_v0 : Ref sig .tc := ⟨.hbm, 175, rfl⟩
abbrev main_while0b_call12_c : Ref sig .tc := ⟨.hbm, 176, rfl⟩
abbrev main_while0b_call12_c_0 : Ref sig .tc := ⟨.hbm, 177, rfl⟩
abbrev main_while0b_call12_c_1 : Ref sig .tc := ⟨.hbm, 178, rfl⟩
abbrev main_while0b_call12_c_2 : Ref sig .tc := ⟨.hbm, 179, rfl⟩
abbrev main_while0b_v97 : Ref sig .tc := ⟨.hbm, 180, rfl⟩
abbrev main_while0b_call13_v0 : Ref sig .tc := ⟨.hbm, 181, rfl⟩
abbrev main_while0b_call13_c : Ref sig .tc := ⟨.hbm, 182, rfl⟩
abbrev main_while0b_call13_c_0 : Ref sig .tc := ⟨.hbm, 183, rfl⟩
abbrev main_while0b_v98 : Ref sig .tc := ⟨.hbm, 184, rfl⟩
abbrev main_while0b_c_25 : Ref sig .tc := ⟨.hbm, 185, rfl⟩
abbrev main_while0b_v99 : Ref sig .tc := ⟨.hbm, 186, rfl⟩
abbrev main_v35 : Ref sig .tc := ⟨.hbm, 187, rfl⟩
abbrev main_v36 : Ref sig .tc := ⟨.hbm, 188, rfl⟩
abbrev main_v37 : Ref sig .tc := ⟨.hbm, 189, rfl⟩
abbrev main_v38 : Ref sig .tc := ⟨.hbm, 190, rfl⟩
abbrev main_cst_6 : Ref sig .tc := ⟨.hbm, 191, rfl⟩
abbrev main_v39 : Ref sig .tc := ⟨.hbm, 192, rfl⟩
abbrev main_v40 : Ref sig .tc := ⟨.hbm, 193, rfl⟩
abbrev main_v41 : Ref sig .tc := ⟨.hbm, 194, rfl⟩
abbrev main_v42 : Ref sig .tc := ⟨.hbm, 195, rfl⟩
abbrev main_v43 : Ref sig .tc := ⟨.hbm, 196, rfl⟩
abbrev main_v44 : Ref sig .tc := ⟨.hbm, 197, rfl⟩
abbrev main_v45 : Ref sig .tc := ⟨.hbm, 198, rfl⟩
abbrev main_v46 : Ref sig .tc := ⟨.hbm, 199, rfl⟩
abbrev main_v47 : Ref sig .tc := ⟨.hbm, 200, rfl⟩
abbrev main_v48 : Ref sig .tc := ⟨.hbm, 201, rfl⟩
abbrev main_v49 : Ref sig .tc := ⟨.hbm, 202, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S8192x1024 : Shape := ⟨2, ![8192, 1024]⟩
abbrev S8192x7040 : Shape := ⟨2, ![8192, 7040]⟩
abbrev S1024x7040 : Shape := ⟨2, ![1024, 7040]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7040, .bf16⟩
  | .hbm, ⟨2, _⟩ => ⟨S1024x7040, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S8192x7040 : Shape := ⟨2, ![8192, 7040]⟩
abbrev S_ : Shape := ⟨0, ![]⟩
abbrev S1024x7040 : Shape := ⟨2, ![1024, 7040]⟩
abbrev S7040x1024 : Shape := ⟨2, ![7040, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7040, .bf16⟩
  | .hbm, ⟨2, _⟩ => ⟨S_, .f32⟩
  | .hbm, ⟨3, _⟩ => ⟨S1024x7040, .f32⟩
  | .hbm, ⟨4, _⟩ => ⟨S8192x1024, .f32⟩
  | .hbm, ⟨5, _⟩ => ⟨S8192x7040, .f32⟩
  | .hbm, ⟨6, _⟩ => ⟨S8192x7040, .f32⟩
  | .hbm, ⟨7, _⟩ => ⟨S7040x1024, .f32⟩
  | .hbm, ⟨8, _⟩ => ⟨S1024x7040, .f32⟩
  | .hbm, ⟨9, _⟩ => ⟨S1024x7040, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x7040 : Shape := ⟨2, ![8192, 7040]⟩
abbrev S1024x7040 : Shape := ⟨2, ![1024, 7040]⟩
abbrev S8192x1024 : Shape := ⟨2, ![8192, 1024]⟩
abbrev S512x7040 : Shape := ⟨2, ![512, 7040]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x7040, .bf16⟩
  | .hbm, ⟨1, _⟩ => ⟨S1024x7040, .bf16⟩
  | .hbm, ⟨2, _⟩ => ⟨S8192x1024, .f32⟩
  | .local _ .vmem, ⟨0, _⟩ => ⟨S512x7040, .bf16⟩
  | .local _ .vmem, ⟨1, _⟩ => ⟨S512x7040, .bf16⟩
  | .local _ .vmem, ⟨2, _⟩ => ⟨S1024x7040, .bf16⟩
  | .local _ .vmem, ⟨3, _⟩ => ⟨S512x1024, .f32⟩
  | .local _ .vmem, ⟨4, _⟩ => ⟨S512x1024, .f32⟩
  | _, _ => ⟨S8192x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x7040 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x7040 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x7040 : Shape := ⟨2, ![8192, 7040]⟩
abbrev S1024x7040 : Shape := ⟨2, ![1024, 7040]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x7040, .bf16⟩
  | .hbm, ⟨1, _⟩ => ⟨S1024x7040, .bf16⟩
  | .hbm, ⟨2, _⟩ => ⟨S_, .f32⟩
  | .hbm, ⟨3, _⟩ => ⟨S8192x1024, .f32⟩
  | .hbm, ⟨4, _⟩ => ⟨S1024x7040, .f32⟩
  | .hbm, ⟨5, _⟩ => ⟨S8192x7040, .f32⟩
  | .hbm, ⟨6, _⟩ => ⟨S8192x7040, .f32⟩
  | .hbm, ⟨7, _⟩ => ⟨S8192x1024, .f32⟩
  | _, _ => ⟨S8192x7040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x5632 : Shape := ⟨2, ![8192, 5632]⟩
abbrev S1024x5632 : Shape := ⟨2, ![1024, 5632]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S8192x1024, .f32⟩
  | .local _ .vmem, ⟨0, _⟩ => ⟨S1024x5632, .bf16⟩
  | .local _ .vmem, ⟨1, _⟩ => ⟨S1024x5632, .bf16⟩
  | .local _ .vmem, ⟨2, _⟩ => ⟨S1024x5632, .bf16⟩
  | .local _ .vmem, ⟨3, _⟩ => ⟨S1024x1024, .f32⟩
  | .local _ .vmem, ⟨4, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x5632 : Shape := ⟨2, ![8192, 5632]⟩
abbrev S1024x5632 : Shape := ⟨2, ![1024, 5632]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x5632, .f32⟩
  | .hbm, ⟨7, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x1024 : Shape := ⟨2, ![8192, 1024]⟩
abbrev S2816x1024 : Shape := ⟨2, ![2816, 1024]⟩
abbrev S8192x2816 : Shape := ⟨2, ![8192, 2816]⟩
abbrev S2048x1024 : Shape := ⟨2, ![2048, 1024]⟩
abbrev S1408x1024 : Shape := ⟨2, ![1408, 1024]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .local _ .vmem, ⟨0, _⟩ => ⟨S2048x1024, .f32⟩
  | .local _ .vmem, ⟨1, _⟩ => ⟨S2048x1024, .f32⟩
  | .local _ .vmem, ⟨2, _⟩ => ⟨S1408x1024, .bf16⟩
  | .local _ .vmem, ⟨3, _⟩ => ⟨S1408x1024, .bf16⟩
  | .local _ .vmem, ⟨4, _⟩ => ⟨S2048x1408, .bf16⟩
  | .local _ .vmem, ⟨5, _⟩ => ⟨S2048x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x2816, .f32⟩
  | .hbm, ⟨7, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S8192x1024 : Shape := ⟨2, ![8192, 1024]⟩
abbrev S512x1024 : Shape := ⟨2, ![512, 1024]⟩
abbrev S8192x512 : Shape := ⟨2, ![8192, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S512x1024 : Shape := ⟨2, ![512, 1024]⟩
abbrev S_ : Shape := ⟨0, ![]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S_, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S1024x7040 : Shape := ⟨2, ![1024, 7040]⟩
abbrev S8192x7040 : Shape := ⟨2, ![8192, 7040]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x7040, .bf16⟩
  | .hbm, ⟨2, _⟩ => ⟨S8192x7040, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S1024x7040 : Shape := ⟨2, ![1024, 7040]⟩
abbrev S8192x7040 : Shape := ⟨2, ![8192, 7040]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x7040, .bf16⟩
  | .hbm, ⟨2, _⟩ => ⟨S8192x1024, .f32⟩
  | .hbm, ⟨3, _⟩ => ⟨S1024x7040, .f32⟩
  | .hbm, ⟨4, _⟩ => ⟨S8192x7040, .f32⟩
  | .hbm, ⟨5, _⟩ => ⟨S8192x7040, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S8192x1024 : Shape := ⟨2, ![8192, 1024]⟩
abbrev S1024x5632 : Shape := ⟨2, ![1024, 5632]⟩
abbrev S8192x5632 : Shape := ⟨2, ![8192, 5632]⟩
abbrev S2048x1024 : Shape := ⟨2, ![2048, 1024]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x5632, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2048x1408, .bf16⟩
  | .local _ .vmem, ⟨5, _⟩ => ⟨S2048x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x512 : Shape := ⟨2, ![8192, 512]⟩
abbrev S512x1024 : Shape := ⟨2, ![512, 1024]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x1024, .bf16⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S2048x1024, .bf16⟩
  | .local _ .vmem, ⟨4, _⟩ => ⟨S2048x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x1024, .bf16⟩
  | .hbm, ⟨2, _⟩ => ⟨S8192x512, .f32⟩
  | .hbm, ⟨3, _⟩ => ⟨S512x1024, .f32⟩
  | .hbm, ⟨4, _⟩ => ⟨S8192x1024, .f32⟩
  | .hbm, ⟨5, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference15Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference16Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S2x1024x1730 : Shape := ⟨3, ![2, 1024, 1730]⟩
abbrev S1730x2x1024 : Shape := ⟨3, ![1730, 2, 1024]⟩
abbrev S173x2x1024 : Shape := ⟨3, ![173, 2, 1024]⟩

abbrev nBuf : Space → Nat
  | .hbm => 11
  | .vmem => 14
  | .smem => 0
  | _ => 0

abbrev bufTy : (tb : Table) → Fin (tcTables nBuf tb) → BufTy
  | .hbm, ⟨0, _⟩ => ⟨S2x1024x1730, .f32⟩
  | .hbm, ⟨1, _⟩ => ⟨S2x1024x1730, .f32⟩
  | .hbm, ⟨2, _⟩ => ⟨S2x1024x1730, .f32⟩
  | .hbm, ⟨3, _⟩ => ⟨S2x1024x1730, .f32⟩
  | .hbm, ⟨4, _⟩ => ⟨S1730x2x1024, .f32⟩
  | .hbm, ⟨5, _⟩ => ⟨S1730x2x1024, .f32⟩
  | .hbm, ⟨6, _⟩ => ⟨S1730x2x1024, .f32⟩
  | .hbm, ⟨7, _⟩ => ⟨S1730x2x1024, .f32⟩
  | .hbm, ⟨8, _⟩ => ⟨S1730x2x1024, .f32⟩
  | .hbm, ⟨9, _⟩ => ⟨S1730x2x1024, .f32⟩
  | .hbm, ⟨10, _⟩ => ⟨S1730x2x1024, .f32⟩
  | .local _ .vmem, ⟨0, _⟩ => ⟨S173x2x1024, .f32⟩
  | .local _ .vmem, ⟨1, _⟩ => ⟨S173x2x1024, .f32⟩
  | .local _ .vmem, ⟨2, _⟩ => ⟨S173x2x1024, .f32⟩
  | .local _ .vmem, ⟨3, _⟩ => ⟨S173x2x1024, .f32⟩
  | .local _ .vmem, ⟨4, _⟩ => ⟨S173x2x1024, .f32⟩
  | .local _ .vmem, ⟨5, _⟩ => ⟨S173x2x1024, .f32⟩
  | .local _ .vmem, ⟨6, _⟩ => ⟨S173x2x1024, .f32⟩
  | .local _ .vmem, ⟨7, _⟩ => ⟨S173x2x1024, .f32⟩
  | .local _ .vmem, ⟨8, _⟩ => ⟨S173x2x1024, .f32⟩
  | .local _ .vmem, ⟨9, _⟩ => ⟨S173x2x1024, .f32⟩
  | .local _ .vmem, ⟨10, _⟩ => ⟨S173x2x1024, .f32⟩
  | .local _ .vmem, ⟨11, _⟩ => ⟨S173x2x1024, .f32⟩
  | .local _ .vmem, ⟨12, _⟩ => ⟨S173x2x1024, .f32⟩
  | .local _ .vmem, ⟨13, _⟩ => ⟨S173x2x1024, .f32⟩
  | _, _ => ⟨S2x1024x1730, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![10, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S173x2x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S173x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S173x2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S173x2x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S173x2x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S173x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S173x2x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference17Ideal.lean ====
abbrev S2x1024x1730 : Shape := ⟨3, ![2, 1024, 1730]⟩
abbrev S_ : Shape := ⟨0, ![]⟩
abbrev S1730x2x1024 : Shape := ⟨3, ![1730, 2, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x1024x1730, .f32⟩
  | .hbm, ⟨1, _⟩ => ⟨S2x1024x1730, .f32⟩
  | .hbm, ⟨2, _⟩ => ⟨S2x1024x1730, .f32⟩
  | .hbm, ⟨3, _⟩ => ⟨S2x1024x1730, .f32⟩
  | .hbm, ⟨4, _⟩ => ⟨S_, .f32⟩
  | .hbm, ⟨5, _⟩ => ⟨S2x1024x1730, .f32⟩
  | .hbm, ⟨6, _⟩ => ⟨S2x1024x1730, .f32⟩
  | .hbm, ⟨7, _⟩ => ⟨S_, .f32⟩
  | .hbm, ⟨8, _⟩ => ⟨S2x1024x1730, .f32⟩
  | .hbm, ⟨9, _⟩ => ⟨S2x1024x1730, .f32⟩
  | .hbm, ⟨10, _⟩ => ⟨S2x1024x1730, .f32⟩
  | .hbm, ⟨11, _⟩ => ⟨S_, .f32⟩
  | .hbm, ⟨12, _⟩ => ⟨S2x1024x1730, .f32⟩
  | .hbm, ⟨13, _⟩ => ⟨S2x1024x1730, .f32⟩
  | .hbm, ⟨14, _⟩ => ⟨S2x1024x1730, .f32⟩
  | .hbm, ⟨15, _⟩ => ⟨S_, .f32⟩
  | .hbm, ⟨16, _⟩ => ⟨S2x1024x1730, .f32⟩
  | .hbm, ⟨17, _⟩ => ⟨S2x1024x1730, .f32⟩
  | .hbm, ⟨18, _⟩ => ⟨S2x1024x1730, .f32⟩
  | .hbm, ⟨19, _⟩ => ⟨S_, .f32⟩
  | .hbm, ⟨20, _⟩ => ⟨S2x1024x1730, .f32⟩
  | .hbm, ⟨21, _⟩ => ⟨S2x1024x1730, .f32⟩
  | .hbm, ⟨22, _⟩ => ⟨S_, .f32⟩
  | .hbm, ⟨23, _⟩ => ⟨S2x1024x1730, .f32⟩
  | .hbm, ⟨24, _⟩ => ⟨S2x1024x1730, .f32⟩
  | .hbm, ⟨25, _⟩ => ⟨S2x1024x1730, .f32⟩
  | .hbm, ⟨26, _⟩ => ⟨S_, .f32⟩
  | .hbm, ⟨27, _⟩ => ⟨S2x1024x1730, .f32⟩
  | .hbm, ⟨28, _⟩ => ⟨S2x1024x1730, .f32⟩
  | .hbm, ⟨29, _⟩ => ⟨S2x1024x1730, .f32⟩
  | .hbm, ⟨30, _⟩ => ⟨S_, .f32⟩
  | .hbm, ⟨31, _⟩ => ⟨S2x1024x1730, .f32⟩
  | .hbm, ⟨32, _⟩ => ⟨S2x1024x1730, .f32⟩
  | .hbm, ⟨33, _⟩ => ⟨S2x1024x1730, .f32⟩
  | .hbm, ⟨34, _⟩ => ⟨S_, .f32⟩
  | .hbm, ⟨35, _⟩ => ⟨S2x1024x1730, .f32⟩
  | .hbm, ⟨36, _⟩ => ⟨S2x1024x1730, .f32⟩
  | .hbm, ⟨37, _⟩ => ⟨S1730x2x1024, .f32⟩
  | .hbm, ⟨38, _⟩ => ⟨S1730x2x1024, .f32⟩
  | .hbm, ⟨39, _⟩ => ⟨S1730x2x1024, .f32⟩
  | _, _ => ⟨S2x1024x1730, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel18.lean ====
abbrev S2x3x512x256 : Shape := ⟨4, ![2, 3, 512, 256]⟩
abbrev S6x512x256 : Shape := ⟨3, ![6, 512, 256]⟩
abbrev S1x256x256 : Shape := ⟨3, ![1, 256, 256]⟩

abbrev nBuf : Space → Nat
  | .hbm => 11
  | .vmem => 14
  | .smem => 0
  | _ => 0

abbrev bufTy : (tb : Table) → Fin (tcTables nBuf tb) → BufTy
  | .hbm, ⟨0, _⟩ => ⟨S2x3x512x256, .f32⟩
  | .hbm, ⟨1, _⟩ => ⟨S2x3x512x256, .f32⟩
  | .hbm, ⟨2, _⟩ => ⟨S2x3x512x256, .f32⟩
  | .hbm, ⟨3, _⟩ => ⟨S2x3x512x256, .f32⟩
  | .hbm, ⟨4, _⟩ => ⟨S6x512x256, .f32⟩
  | .hbm, ⟨5, _⟩ => ⟨S6x512x256, .f32⟩
  | .hbm, ⟨6, _⟩ => ⟨S6x512x256, .f32⟩
  | .hbm, ⟨7, _⟩ => ⟨S6x512x256, .f32⟩
  | .hbm, ⟨8, _⟩ => ⟨S6x512x256, .f32⟩
  | .hbm, ⟨9, _⟩ => ⟨S6x512x256, .f32⟩
  | .hbm, ⟨10, _⟩ => ⟨S6x512x256, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | _, _ => ⟨S2x3x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![6, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference18Ideal.lean ====
abbrev S2x3x512x256 : Shape := ⟨4, ![2, 3, 512, 256]⟩
abbrev S_ : Shape := ⟨0, ![]⟩
abbrev S6x512x256 : Shape := ⟨3, ![6, 512, 256]⟩

abbrev nBuf : Space → Nat
  | .hbm => 40
  | .vmem => 0
  | .smem => 0
  | _ => 0

abbrev bufTy : (tb : Table) → Fin (tcTables nBuf tb) → BufTy
  | .hbm, ⟨0, _⟩ => ⟨S2x3x512x256, .f32⟩
  | .hbm, ⟨1, _⟩ => ⟨S2x3x512x256, .f32⟩
  | .hbm, ⟨2, _⟩ => ⟨S2x3x512x256, .f32⟩
  | .hbm, ⟨3, _⟩ => ⟨S2x3x512x256, .f32⟩
  | .hbm, ⟨4, _⟩ => ⟨S_, .f32⟩
  | .hbm, ⟨5, _⟩ => ⟨S2x3x512x256, .f32⟩
  | .hbm, ⟨6, _⟩ => ⟨S2x3x512x256, .f32⟩
  | .hbm, ⟨7, _⟩ => ⟨S_, .f32⟩
  | .hbm, ⟨8, _⟩ => ⟨S2x3x512x256, .f32⟩
  | .hbm, ⟨9, _⟩ => ⟨S2x3x512x256, .f32⟩
  | .hbm, ⟨10, _⟩ => ⟨S2x3x512x256, .f32⟩
  | .hbm, ⟨11, _⟩ => ⟨S_, .f32⟩
  | .hbm, ⟨12, _⟩ => ⟨S2x3x512x256, .f32⟩
  | .hbm, ⟨13, _⟩ => ⟨S2x3x512x256, .f32⟩
  | .hbm, ⟨14, _⟩ => ⟨S2x3x512x256, .f32⟩
  | .hbm, ⟨15, _⟩ => ⟨S_, .f32⟩
  | .hbm, ⟨16, _⟩ => ⟨S2x3x512x256, .f32⟩
  | .hbm, ⟨17, _⟩ => ⟨S2x3x512x256, .f32⟩
  | .hbm, ⟨18, _⟩ => ⟨S2x3x512x256, .f32⟩
  | .hbm, ⟨19, _⟩ => ⟨S_, .f32⟩
  | .hbm, ⟨20, _⟩ => ⟨S2x3x512x256, .f32⟩
  | .hbm, ⟨21, _⟩ => ⟨S2x3x512x256, .f32⟩
  | .hbm, ⟨22, _⟩ => ⟨S_, .f32⟩
  | .hbm, ⟨23, _⟩ => ⟨S2x3x512x256, .f32⟩
  | .hbm, ⟨24, _⟩ => ⟨S2x3x512x256, .f32⟩
  | .hbm, ⟨25, _⟩ => ⟨S2x3x512x256, .f32⟩
  | .hbm, ⟨26, _⟩ => ⟨S_, .f32⟩
  | .hbm, ⟨27, _⟩ => ⟨S2x3x512x256, .f32⟩
  | .hbm, ⟨28, _⟩ => ⟨S2x3x512x256, .f32⟩
  | .hbm, ⟨29, _⟩ => ⟨S2x3x512x256, .f32⟩
  | .hbm, ⟨30, _⟩ => ⟨S_, .f32⟩
  | .hbm, ⟨31, _⟩ => ⟨S2x3x512x256, .f32⟩
  | .hbm, ⟨32, _⟩ => ⟨S2x3x512x256, .f32⟩
  | .hbm, ⟨33, _⟩ => ⟨S2x3x512x256, .f32⟩
  | .hbm, ⟨34, _⟩ => ⟨S_, .f32⟩
  | .hbm, ⟨35, _⟩ => ⟨S2x3x512x256, .f32⟩
  | .hbm, ⟨36, _⟩ => ⟨S2x3x512x256, .f32⟩
  | .hbm, ⟨37, _⟩ => ⟨S6x512x256, .f32⟩
  | .hbm, ⟨38, _⟩ => ⟨S6x512x256, .f32⟩
  | .hbm, ⟨39, _⟩ => ⟨S6x512x256, .f32⟩
  | _, _ => ⟨S2x3x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel19.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference19Ideal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S2x1024x1408 : Shape := ⟨3, ![2, 1024, 1408]⟩
abbrev S1x256x1408 : Shape := ⟨3, ![1, 256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S2x1024x1408 : Shape := ⟨3, ![2, 1024, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S2x1024x1408, .f32⟩
  | .hbm, ⟨4, _⟩ => ⟨S_, .f32⟩
  | .hbm, ⟨5, _⟩ => ⟨S2x1024x1408, .f32⟩
  | .hbm, ⟨6, _⟩ => ⟨S2x1024x1408, .f32⟩
  | .hbm, ⟨7, _⟩ => ⟨S_, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S_, .f32⟩
  | .hbm, ⟨12, _⟩ => ⟨S2x1024x1408, .f32⟩
  | .hbm, ⟨13, _⟩ => ⟨S2x1024x1408, .f32⟩
  | .hbm, ⟨14, _⟩ => ⟨S2x1024x1408, .f32⟩
  | .hbm, ⟨15, _⟩ => ⟨S_, .f32⟩
  | .hbm, ⟨16, _⟩ => ⟨S2x1024x1408, .f32⟩
  | .hbm, ⟨17, _⟩ => ⟨S2x1024x1408, .f32⟩
  | .hbm, ⟨18, _⟩ => ⟨S2x1024x1408, .f32⟩
  | .hbm, ⟨19, _⟩ => ⟨S_, .f32⟩
  | .hbm, ⟨20, _⟩ => ⟨S2x1024x1408, .f32⟩
  | .hbm, ⟨21, _⟩ => ⟨S2x1024x1408, .f32⟩
  | .hbm, ⟨22, _⟩ => ⟨S_, .f32⟩
  | .hbm, ⟨23, _⟩ => ⟨S2x1024x1408, .f32⟩
  | .hbm, ⟨24, _⟩ => ⟨S2x1024x1408, .f32⟩
  | .hbm, ⟨25, _⟩ => ⟨S2x1024x1408, .f32⟩
  | .hbm, ⟨26, _⟩ => ⟨S_, .f32⟩
  | .hbm, ⟨27, _⟩ => ⟨S2x1024x1408, .f32⟩
  | .hbm, ⟨28, _⟩ => ⟨S2x1024x1408, .f32⟩
  | .hbm, ⟨29, _⟩ => ⟨S2x1024x1408, .f32⟩
  | .hbm, ⟨30, _⟩ => ⟨S_, .f32⟩
  | .hbm, ⟨31, _⟩ => ⟨S2x1024x1408, .f32⟩
  | .hbm, ⟨32, _⟩ => ⟨S2x1024x1408, .f32⟩
  | .hbm, ⟨33, _⟩ => ⟨S2x1024x1408, .f32⟩
  | .hbm, ⟨34, _⟩ => ⟨S_, .f32⟩
  | .hbm, ⟨35, _⟩ => ⟨S2x1024x1408, .f32⟩
  | .hbm, ⟨36, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference21Ideal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S2x4x384 : Shape := ⟨3, ![2, 4, 384]⟩
abbrev S1x4x384 : Shape := ⟨3, ![1, 4, 384]⟩

abbrev nBuf : Space → Nat
  | .hbm => 7
  | .vmem => 14
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S2x4x384, .f32⟩
  | .hbm, ⟨5, _⟩ => ⟨S2x4x384, .f32⟩
  | .hbm, ⟨6, _⟩ => ⟨S2x4x384, .f32⟩
  | .local _ .vmem, ⟨0, _⟩ => ⟨S1x4x384, .f32⟩
  | .local _ .vmem, ⟨1, _⟩ => ⟨S1x4x384, .f32⟩
  | .local _ .vmem, ⟨2, _⟩ => ⟨S1x4x384, .f32⟩
  | .local _ .vmem, ⟨3, _⟩ => ⟨S1x4x384, .f32⟩
  | .local _ .vmem, ⟨4, _⟩ => ⟨S1x4x384, .f32⟩
  | .local _ .vmem, ⟨5, _⟩ => ⟨S1x4x384, .f32⟩
  | .local _ .vmem, ⟨6, _⟩ => ⟨S1x4x384, .f32⟩
  | .local _ .vmem, ⟨7, _⟩ => ⟨S1x4x384, .f32⟩
  | .local _ .vmem, ⟨8, _⟩ => ⟨S1x4x384, .f32⟩
  | .local _ .vmem, ⟨9, _⟩ => ⟨S1x4x384, .f32⟩
  | .local _ .vmem, ⟨10, _⟩ => ⟨S1x4x384, .f32⟩
  | .local _ .vmem, ⟨11, _⟩ => ⟨S1x4x384, .f32⟩
  | .local _ .vmem, ⟨12, _⟩ => ⟨S1x4x384, .f32⟩
  | .local _ .vmem, ⟨13, _⟩ => ⟨S1x4x384, .f32⟩
  | _, _ => ⟨S2x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference22Ideal.lean ====
abbrev S2x4x384 : Shape := ⟨3, ![2, 4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x4x384, .f32⟩
  | .hbm, ⟨1, _⟩ => ⟨S2x4x384, .f32⟩
  | .hbm, ⟨2, _⟩ => ⟨S2x4x384, .f32⟩
  | .hbm, ⟨3, _⟩ => ⟨S2x4x384, .f32⟩
  | .hbm, ⟨4, _⟩ => ⟨S_, .f32⟩
  | .hbm, ⟨5, _⟩ => ⟨S2x4x384, .f32⟩
  | .hbm, ⟨6, _⟩ => ⟨S2x4x384, .f32⟩
  | .hbm, ⟨7, _⟩ => ⟨S_, .f32⟩
  | .hbm, ⟨8, _⟩ => ⟨S2x4x384, .f32⟩
  | .hbm, ⟨9, _⟩ => ⟨S2x4x384, .f32⟩
  | .hbm, ⟨10, _⟩ => ⟨S2x4x384, .f32⟩
  | .hbm, ⟨11, _⟩ => ⟨S_, .f32⟩
  | .hbm, ⟨12, _⟩ => ⟨S2x4x384, .f32⟩
  | .hbm, ⟨13, _⟩ => ⟨S2x4x384, .f32⟩
  | .hbm, ⟨14, _⟩ => ⟨S2x4x384, .f32⟩
  | .hbm, ⟨15, _⟩ => ⟨S_, .f32⟩
  | .hbm, ⟨16, _⟩ => ⟨S2x4x384, .f32⟩
  | .hbm, ⟨17, _⟩ => ⟨S2x4x384, .f32⟩
  | .hbm, ⟨18, _⟩ => ⟨S2x4x384, .f32⟩
  | .hbm, ⟨19, _⟩ => ⟨S_, .f32⟩
  | .hbm, ⟨20, _⟩ => ⟨S2x4x384, .f32⟩
  | .hbm, ⟨21, _⟩ => ⟨S2x4x384, .f32⟩
  | .hbm, ⟨22, _⟩ => ⟨S_, .f32⟩
  | .hbm, ⟨23, _⟩ => ⟨S2x4x384, .f32⟩
  | .hbm, ⟨24, _⟩ => ⟨S2x4x384, .f32⟩
  | .hbm, ⟨25, _⟩ => ⟨S2x4x384, .f32⟩
  | .hbm, ⟨26, _⟩ => ⟨S_, .f32⟩
  | .hbm, ⟨27, _⟩ => ⟨S2x4x384, .f32⟩
  | .hbm, ⟨28, _⟩ => ⟨S2x4x384, .f32⟩
  | .hbm, ⟨29, _⟩ => ⟨S2x4x384, .f32⟩
  | .hbm, ⟨30, _⟩ => ⟨S_, .f32⟩
  | .hbm, ⟨31, _⟩ => ⟨S2x4x384, .f32⟩
  | .hbm, ⟨32, _⟩ => ⟨S2x4x384, .f32⟩
  | .hbm, ⟨33, _⟩ => ⟨S2x4x384, .f32⟩
  | .hbm, ⟨34, _⟩ => ⟨S_, .f32⟩
  | .hbm, ⟨35, _⟩ => ⟨S2x4x384, .f32⟩
  | .hbm, ⟨36, _⟩ => ⟨S2x4x384, .f32⟩
  | _, _ => ⟨S2x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_14 : BitVec 32 := 0#32
  let v37 : BitVec 1 := Scalar.cmpi .ne v36 c0_i32_14
  v37

def k0_cond2 (i : grid0.Coords) : BitVec 1 :=
  let arg0 : BitVec 32 := BitVec.ofNat 32 (i 0).val
  let c0_i32_15 : BitVec 32 := 0#32
  let v38 : BitVec 1 := Scalar.cmpi .sgt arg0 c0_i32_15
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel24.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | .local _ .vmem, ⟨4, _⟩ => ⟨S256x5632, .bf16⟩
  | .local _ .vmem, ⟨5, _⟩ => ⟨S256x5632, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference24Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x5632, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v2_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v2_1 : Ref sig .tc := ⟨.hbm, 15, rfl⟩
abbrev main_v2_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel25.lean ====
abbrev S8192x7040 : Shape := ⟨2, ![8192, 7040]⟩
abbrev S8192x1024 : Shape := ⟨2, ![8192, 1024]⟩
abbrev S512x1024 : Shape := ⟨2, ![512, 1024]⟩
abbrev S512x3072 : Shape := ⟨2, ![512, 3072]⟩
abbrev S8192x3072 : Shape := ⟨2, ![8192, 3072]⟩

abbrev nBuf : Space → Nat
  | .hbm => 10
  | .vmem => 22
  | .smem => 0
  | _ => 0

abbrev bufTy : (tb : Table) → Fin (tcTables nBuf tb) → BufTy
  | .hbm, ⟨0, _⟩ => ⟨S8192x7040, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8192x7040, .bf16⟩
  | .hbm, ⟨9, _⟩ => ⟨S8192x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x3072, .bf16⟩
  | .local _ .vmem, ⟨21, _⟩ => ⟨S512x3072, .bf16⟩
  | _, _ => ⟨S8192x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference25Ideal.lean ====
abbrev S8192x7040 : Shape := ⟨2, ![8192, 7040]⟩
abbrev S8192x1024 : Shape := ⟨2, ![8192, 1024]⟩
abbrev S8192x3072 : Shape := ⟨2, ![8192, 3072]⟩
abbrev S8192x3x1024 : Shape := ⟨3, ![8192, 3, 1024]⟩
abbrev S_ : Shape := ⟨0, ![]⟩
abbrev S8192x1x1024 : Shape := ⟨3, ![8192, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x7040, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .f32⟩
  | .hbm, ⟨5, _⟩ => ⟨S8192x3072, .bf16⟩
  | .hbm, ⟨6, _⟩ => ⟨S8192x3072, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x3x1024, .f32⟩
  | .hbm, ⟨11, _⟩ => ⟨S8192x3x1024, .f32⟩
  | .hbm, ⟨12, _⟩ => ⟨S8192x3x1024, .f32⟩
  | .hbm, ⟨13, _⟩ => ⟨S_, .f32⟩
  | .hbm, ⟨14, _⟩ => ⟨S8192x3x1024, .f32⟩
  | .hbm, ⟨15, _⟩ => ⟨S8192x3x1024, .f32⟩
  | .hbm, ⟨16, _⟩ => ⟨S_, .f32⟩
  | .hbm, ⟨17, _⟩ => ⟨S8192x3x1024, .f32⟩
  | .hbm, ⟨18, _⟩ => ⟨S8192x3x1024, .f32⟩
  | .hbm, ⟨19, _⟩ => ⟨S_, .f32⟩
  | .hbm, ⟨20, _⟩ => ⟨S8192x3x1024, .f32⟩
  | .hbm, ⟨21, _⟩ => ⟨S8192x3x1024, .f32⟩
  | .hbm, ⟨22, _⟩ => ⟨S8192x3x1024, .f32⟩
  | .hbm, ⟨23, _⟩ => ⟨S8192x1x1024, .f32⟩
  | .hbm, ⟨24, _⟩ => ⟨S8192x1x1024, .f32⟩
  | .hbm, ⟨25, _⟩ => ⟨S8192x1x1024, .f32⟩
  | .hbm, ⟨26, _⟩ => ⟨S8192x3x1024, .f32⟩
  | .hbm, ⟨27, _⟩ => ⟨S8192x3x1024, .f32⟩
  | .hbm, ⟨28, _⟩ => ⟨S_, .f32⟩
  | .hbm, ⟨29, _⟩ => ⟨S8192x1024, .f32⟩
  | .hbm, ⟨30, _⟩ => ⟨S8192x3x1024, .f32⟩
  | .hbm, ⟨31, _⟩ => ⟨S8192x3x1024, .f32⟩
  | .hbm, ⟨32, _⟩ => ⟨S8192x3x1024, .f32⟩
  | .hbm, ⟨33, _⟩ => ⟨S8192x1x1024, .f32⟩
  | .hbm, ⟨34, _⟩ => ⟨S8192x1024, .f32⟩
  | .hbm, ⟨35, _⟩ => ⟨S8192x1x1024, .f32⟩
  | .hbm, ⟨36, _⟩ => ⟨S8192x1024, .f32⟩
  | .hbm, ⟨37, _⟩ => ⟨S8192x1x1024, .f32⟩
  | .hbm, ⟨38, _⟩ => ⟨S8192x1024, .f32⟩
  | .hbm, ⟨39, _⟩ => ⟨S8192x3x1024, .f32⟩
  | .hbm, ⟨40, _⟩ => ⟨S8192x3072, .f32⟩
  | .hbm, ⟨41, _⟩ => ⟨S8192x1024, .bf16⟩
  | .hbm, ⟨42, _⟩ => ⟨S8192x1024, .bf16⟩
  | .hbm, ⟨43, _⟩ => ⟨S8192x1024, .bf16⟩
  | .hbm, ⟨44, _⟩ => ⟨S8192x3072, .bf16⟩
  | _, _ => ⟨S8192x7040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel26.lean ====
abbrev S8192x5632 : Shape := ⟨2, ![8192, 5632]⟩
abbrev S8192x2816 : Shape := ⟨2, ![8192, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S8192x5632, .bf16⟩
  | .hbm, ⟨1, _⟩ => ⟨S8192x2816, .bf16⟩
  | .local _ .vmem, ⟨0, _⟩ => ⟨S256x5632, .bf16⟩
  | .local _ .vmem, ⟨1, _⟩ => ⟨S256x5632, .bf16⟩
  | .local _ .vmem, ⟨2, _⟩ => ⟨S256x2816, .bf16⟩
  | .local _ .vmem, ⟨3, _⟩ => ⟨S256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference26Ideal.lean ====
abbrev S8192x5632 : Shape := ⟨2, ![8192, 5632]⟩
abbrev S8192x2816 : Shape := ⟨2, ![8192, 2816]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩

abbrev nD : Nat := 1
abbrev τ : Topo := Topo.v7x

variable {F : FTy → Type} [FloatOps F]
-- ==== Kernel27.lean ====
abbrev S8192x7040 : Shape := ⟨2, ![8192, 7040]⟩
abbrev S8192x1024 : Shape := ⟨2, ![8192, 1024]⟩
abbrev S512x1024 : Shape := ⟨2, ![512, 1024]⟩

abbrev nBuf : Space → Nat
  | .hbm => 5
  | .vmem => 14
  | .smem => 0
  | _ => 0

abbrev bufTy : (tb : Table) → Fin (tcTables nBuf tb) → BufTy
  | .hbm, ⟨0, _⟩ => ⟨S8192x7040, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S8192x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference27Ideal.lean ====
abbrev S8192x7040 : Shape := ⟨2, ![8192, 7040]⟩
abbrev S8192x1024 : Shape := ⟨2, ![8192, 1024]⟩
abbrev S8192x3072 : Shape := ⟨2, ![8192, 3072]⟩
abbrev S8192x3x1024 : Shape := ⟨3, ![8192, 3, 1024]⟩
abbrev S_ : Shape := ⟨0, ![]⟩
abbrev S1x8192x1024 : Shape := ⟨3, ![1, 8192, 1024]⟩
abbrev S3x8192x1024 : Shape := ⟨3, ![3, 8192, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x7040, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x3072, .bf16⟩
  | .hbm, ⟨5, _⟩ => ⟨S8192x3072, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3x1024, .f32⟩
  | .hbm, ⟨10, _⟩ => ⟨S8192x3x1024, .f32⟩
  | .hbm, ⟨11, _⟩ => ⟨S8192x3x1024, .f32⟩
  | .hbm, ⟨12, _⟩ => ⟨S_, .f32⟩
  | .hbm, ⟨13, _⟩ => ⟨S8192x3x1024, .f32⟩
  | .hbm, ⟨14, _⟩ => ⟨S8192x3x1024, .f32⟩
  | .hbm, ⟨15, _⟩ => ⟨S_, .f32⟩
  | .hbm, ⟨16, _⟩ => ⟨S8192x3x1024, .f32⟩
  | .hbm, ⟨17, _⟩ => ⟨S8192x3x1024, .f32⟩
  | .hbm, ⟨18, _⟩ => ⟨S1x8192x1024, .f32⟩
  | .hbm, ⟨19, _⟩ => ⟨S1x8192x1024, .f32⟩
  | .hbm, ⟨20, _⟩ => ⟨S1x8192x1024, .f32⟩
  | .hbm, ⟨21, _⟩ => ⟨S3x8192x1024, .f32⟩
  | .hbm, ⟨22, _⟩ => ⟨S8192x1024, .f32⟩
  | .hbm, ⟨23, _⟩ => ⟨S8192x1024, .bf16⟩
  | _, _ => ⟨S8192x7040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel28.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel29.lean ====
abbrev S8192x512 : Shape := ⟨2, ![8192, 512]⟩
abbrev S8192x7040 : Shape := ⟨2, ![8192, 7040]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x7040, .bf16⟩
  | .hbm, ⟨2, _⟩ => ⟨S1x128, .f32⟩
  | .hbm, ⟨3, _⟩ => ⟨S8192x512, .bf16⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S1x128, .f32⟩
  | .local _ .vmem, ⟨5, _⟩ => ⟨S512x512, .bf16⟩
  | .local _ .vmem, ⟨6, _⟩ => ⟨S512x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference29Ideal.lean ====
abbrev S8192x512 : Shape := ⟨2, ![8192, 512]⟩
abbrev S8192x7040 : Shape := ⟨2, ![8192, 7040]⟩
abbrev S1x128 : Shape := ⟨2, ![1, 128]⟩
abbrev S8192x4x128 : Shape := ⟨3, ![8192, 4, 128]⟩
abbrev S128 : Shape := ⟨1, ![128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x7040, .bf16⟩
  | .hbm, ⟨2, _⟩ => ⟨S1x128, .f32⟩
  | .hbm, ⟨3, _⟩ => ⟨S8192x512, .bf16⟩
  | .hbm, ⟨4, _⟩ => ⟨S8192x512, .f32⟩
  | .hbm, ⟨5, _⟩ => ⟨S8192x4x128, .f32⟩
  | .hbm, ⟨6, _⟩ => ⟨S8192x4x128, .f32⟩
  | .hbm, ⟨7, _⟩ => ⟨S128, .f32⟩
  | .hbm, ⟨8, _⟩ => ⟨S8192x4x128, .f32⟩
  | .hbm, ⟨9, _⟩ => ⟨S_, .f32⟩
  | .hbm, ⟨10, _⟩ => ⟨S8192x4, .f32⟩
  | .hbm, ⟨11, _⟩ => ⟨S8192x4x1, .f32⟩
  | .hbm, ⟨12, _⟩ => ⟨S_, .f32⟩
  | .hbm, ⟨13, _⟩ => ⟨S8192x4x1, .f32⟩
  | .hbm, ⟨14, _⟩ => ⟨S8192x4x1, .f32⟩
  | .hbm, ⟨15, _⟩ => ⟨S_, .f32⟩
  | .hbm, ⟨16, _⟩ => ⟨S8192x4x1, .f32⟩
  | .hbm, ⟨17, _⟩ => ⟨S8192x4x1, .f32⟩
  | .hbm, ⟨18, _⟩ => ⟨S8192x4x1, .f32⟩
  | .hbm, ⟨19, _⟩ => ⟨S8192x4x128, .f32⟩
  | .hbm, ⟨20, _⟩ => ⟨S8192x4x128, .f32⟩
  | .hbm, ⟨21, _⟩ => ⟨S1x1x128, .f32⟩
  | .hbm, ⟨22, _⟩ => ⟨S8192x4x128, .f32⟩
  | .hbm, ⟨23, _⟩ => ⟨S8192x4x128, .f32⟩
  | .hbm, ⟨24, _⟩ => ⟨S8192x4x128, .f32⟩
  | .hbm, ⟨25, _⟩ => ⟨S8192x4x128, .f32⟩
  | .hbm, ⟨26, _⟩ => ⟨S_, .f32⟩
  | .hbm, ⟨27, _⟩ => ⟨S8192x4x128, .f32⟩
  | .hbm, ⟨28, _⟩ => ⟨S8192x4x128, .f32⟩
  | .hbm, ⟨29, _⟩ => ⟨S_, .f32⟩
  | .hbm, ⟨30, _⟩ => ⟨S8192x4x128, .f32⟩
  | .hbm, ⟨31, _⟩ => ⟨S8192x4x128, .f32⟩
  | .hbm, ⟨32, _⟩ => ⟨S8192x4x128, .f32⟩
  | .hbm, ⟨33, _⟩ => ⟨S8192x4x128, .f32⟩
  | .hbm, ⟨34, _⟩ => ⟨S8192x512, .f32⟩
  | .hbm, ⟨35, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel30.lean ====
abbrev S8192x7040 : Shape := ⟨2, ![8192, 7040]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S8192x512 : Shape := ⟨2, ![8192, 512]⟩
abbrev S512x512 : Shape := ⟨2, ![512, 512]⟩
abbrev S512x128 : Shape := ⟨2, ![512, 128]⟩

abbrev nBuf : Space → Nat
  | .hbm => 40
  | .vmem => 16
  | .smem => 0
  | _ => 0

abbrev bufTy : (tb : Table) → Fin (tcTables nBuf tb) → BufTy
  | .hbm, ⟨0, _⟩ => ⟨S8192x7040, .bf16⟩
  | .hbm, ⟨1, _⟩ => ⟨S8192, .i32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192, .f32⟩
  | .hbm, ⟨17, _⟩ => ⟨S8192x1, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x8, .f32⟩
  | .hbm, ⟨24, _⟩ => ⟨S_, .f32⟩
  | .hbm, ⟨25, _⟩ => ⟨S8192x48, .f32⟩
  | .hbm, ⟨26, _⟩ => ⟨S8192x64, .f32⟩
  | .hbm, ⟨27, _⟩ => ⟨S8192x8, .f32⟩
  | .hbm, ⟨28, _⟩ => ⟨S_, .f32⟩
  | .hbm, ⟨29, _⟩ => ⟨S8192x48, .f32⟩
  | .hbm, ⟨30, _⟩ => ⟨S8192x64, .f32⟩
  | .hbm, ⟨31, _⟩ => ⟨S1x8192x1x64, .f32⟩
  | .hbm, ⟨32, _⟩ => ⟨S1x8192x2x64, .f32⟩
  | .hbm, ⟨33, _⟩ => ⟨S8192x128, .f32⟩
  | .hbm, ⟨34, _⟩ => ⟨S1x8192x1x64, .f32⟩
  | .hbm, ⟨35, _⟩ => ⟨S1x8192x2x64, .f32⟩
  | .hbm, ⟨36, _⟩ => ⟨S8192x128, .f32⟩
  | .hbm, ⟨37, _⟩ => ⟨S8192x512, .bf16⟩
  | .hbm, ⟨38, _⟩ => ⟨S8192x128, .bf16⟩
  | .hbm, ⟨39, _⟩ => ⟨S8192x128, .bf16⟩
  | .local _ .vmem, ⟨0, _⟩ => ⟨S512x512, .bf16⟩
  | .local _ .vmem, ⟨1, _⟩ => ⟨S512x512, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | _, _ => ⟨S8192x7040, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c52_i32 : BitVec 32 := 52#32
  let c0_i32 : BitVec 32 := 0#32
  ![arg0.toNat, c52_i32.toNat]

def cc0_transform_2 (i : grid0.Coords) : Fin 2 → Nat :=
  let arg0 : BitVec 32 := BitVec.ofNat 32 (i 0).val
  let c53_i32 : BitVec 32 := 53#32
  let c0_i32 : BitVec 32 := 0#32
  ![arg0.toNat, c53_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference30Ideal.lean ====
abbrev S8192x7040 : Shape := ⟨2, ![8192, 7040]⟩
abbrev S8192 : Shape := ⟨1, ![8192]⟩
abbrev S8 : Shape := ⟨1, ![8]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S8192x512 : Shape := ⟨2, ![8192, 512]⟩
abbrev S8192x8x64 : Shape := ⟨3, ![8192, 8, 64]⟩
abbrev S8192x128 : Shape := ⟨2, ![8192, 128]⟩
abbrev S8192x2x64 : Shape := ⟨3, ![8192, 2, 64]⟩
abbrev S8192x8x8 : Shape := ⟨3, ![8192, 8, 8]⟩
abbrev S8192x8x48 : Shape := ⟨3, ![8192, 8, 48]⟩
abbrev S8192x2x8 : Shape := ⟨3, ![8192, 2, 8]⟩
abbrev S8192x2x48 : Shape := ⟨3, ![8192, 2, 48]⟩

abbrev nBuf : Space → Nat
  | .hbm => 68
  | .vmem => 0
  | .smem => 0
  | _ => 0

abbrev bufTy : (tb : Table) → Fin (tcTables nBuf tb) → BufTy
  | .hbm, ⟨0, _⟩ => ⟨S8192x7040, .bf16⟩
  | .hbm, ⟨1, _⟩ => ⟨S8192, .i32⟩
  | .hbm, ⟨2, _⟩ => ⟨S8, .f32⟩
  | .hbm, ⟨3, _⟩ => ⟨S_, .f32⟩
  | .hbm, ⟨4, _⟩ => ⟨S8, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S8192, .f32⟩
  | .hbm, ⟨17, _⟩ => ⟨S8192x1, .f32⟩
  | .hbm, ⟨18, _⟩ => ⟨S1x8, .f32⟩
  | .hbm, ⟨19, _⟩ => ⟨S8192x8, .f32⟩
  | .hbm, ⟨20, _⟩ => ⟨S8192x8, .f32⟩
  | .hbm, ⟨21, _⟩ => ⟨S8192x8, .f32⟩
  | .hbm, ⟨22, _⟩ => ⟨S8192x8, .f32⟩
  | .hbm, ⟨23, _⟩ => ⟨S8192x1x8, .f32⟩
  | .hbm, ⟨24, _⟩ => ⟨S8192x8, .f32⟩
  | .hbm, ⟨25, _⟩ => ⟨S8192x1x8, .f32⟩
  | .hbm, ⟨26, _⟩ => ⟨S8192x512, .bf16⟩
  | .hbm, ⟨27, _⟩ => ⟨S8192x512, .f32⟩
  | .hbm, ⟨28, _⟩ => ⟨S8192x8x64, .f32⟩
  | .hbm, ⟨29, _⟩ => ⟨S8192x128, .bf16⟩
  | .hbm, ⟨30, _⟩ => ⟨S8192x128, .f32⟩
  | .hbm, ⟨31, _⟩ => ⟨S8192x2x64, .f32⟩
  | .hbm, ⟨32, _⟩ => ⟨S8192x8x8, .f32⟩
  | .hbm, ⟨33, _⟩ => ⟨S8192x8x8, .f32⟩
  | .hbm, ⟨34, _⟩ => ⟨S8192x8x48, .f32⟩
  | .hbm, ⟨35, _⟩ => ⟨S8192x8x8, .f32⟩
  | .hbm, ⟨36, _⟩ => ⟨S8192x8x8, .f32⟩
  | .hbm, ⟨37, _⟩ => ⟨S8192x8x8, .f32⟩
  | .hbm, ⟨38, _⟩ => ⟨S8192x8x8, .f32⟩
  | .hbm, ⟨39, _⟩ => ⟨S8192x8x8, .f32⟩
  | .hbm, ⟨40, _⟩ => ⟨S8192x8x8, .f32⟩
  | .hbm, ⟨41, _⟩ => ⟨S8192x8x8, .f32⟩
  | .hbm, ⟨42, _⟩ => ⟨S8192x8x8, .f32⟩
  | .hbm, ⟨43, _⟩ => ⟨S8192x8x8, .f32⟩
  | .hbm, ⟨44, _⟩ => ⟨S8192x8x8, .f32⟩
  | .hbm, ⟨45, _⟩ => ⟨S8192x8x64, .f32⟩
  | .hbm, ⟨46, _⟩ => ⟨S_, .f32⟩
  | .hbm, ⟨47, _⟩ => ⟨S8192x8x64, .f32⟩
  | .hbm, ⟨48, _⟩ => ⟨S8192x8x64, .f32⟩
  | .hbm, ⟨49, _⟩ => ⟨S8192x2x8, .f32⟩
  | .hbm, ⟨50, _⟩ => ⟨S8192x2x8, .f32⟩
  | .hbm, ⟨51, _⟩ => ⟨S8192x2x48, .f32⟩
  | .hbm, ⟨52, _⟩ => ⟨S8192x2x8, .f32⟩
  | .hbm, ⟨53, _⟩ => ⟨S8192x2x8, .f32⟩
  | .hbm, ⟨54, _⟩ => ⟨S8192x2x8, .f32⟩
  | .hbm, ⟨55, _⟩ => ⟨S8192x2x8, .f32⟩
  | .hbm, ⟨56, _⟩ => ⟨S8192x2x8, .f32⟩
  | .hbm, ⟨57, _⟩ => ⟨S8192x2x8, .f32⟩
  | .hbm, ⟨58, _⟩ => ⟨S8192x2x8, .f32⟩
  | .hbm, ⟨59, _⟩ => ⟨S8192x2x8, .f32⟩
  | .hbm, ⟨60, _⟩ => ⟨S8192x2x8, .f32⟩
  | .hbm, ⟨61, _⟩ => ⟨S8192x2x8, .f32⟩
  | .hbm, ⟨62, _⟩ => ⟨S8192x2x64, .f32⟩
  | .hbm, ⟨63, _⟩ => ⟨S8192x512, .f32⟩
  | .hbm, ⟨64, _⟩ => ⟨S8192x512, .bf16⟩
  | .hbm, ⟨65, _⟩ => ⟨S8192x128, .f32⟩
  | .hbm, ⟨66, _⟩ => ⟨S8192x128, .bf16⟩
  | .hbm, ⟨67, _⟩ => ⟨S8192x128, .bf16⟩
  | _, _ => ⟨S8192x7040, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩

abbrev nD : Nat := 1
abbrev τ : Topo := Topo.v7x

variable {F : FTy → Type} [FloatOps F]
-- ==== Proof.Scan.Model.lean ====
/- The backward recurrence of the scan over one head's chunk, over the extended reals: the functions of one chunk's
   data that both programs compute, and the finiteness facts that make them equal. -/
module

public import Idealize.ShloMosaic.Lib.Pointwise

@[expose] public section

noncomputable section

namespace Cert.Scan

open Idealize.ShloMosaic

/-- A chunk of 64 tokens by 128 lanes of one head. -/
abbrev Mat := Fin 64 → Fin 128 → EReal
/-- The 64 by 64 attention of one head's chunk. -/
abbrev Att := Fin 64 → Fin 64 → EReal
/-- One head's state. -/
abbrev Sta := Fin 128 → Fin 128 → EReal

/-- The gradient of the chunk's new values. -/
def dvn (at_ : Att) (kd dO : Mat) (D : Sta) : Mat := fun k e =>
  (∑ i, at_ i k * dO i e) + ∑ d, kd k d * D d e

/-- The gradient of the chunk's `w`. -/
def dw (v : Mat) (s : Sta) : Mat := fun k d => -∑ e, v k e * s d e

/-- The gradient of the chunk's decayed keys. -/
def dkd (vn : Mat) (D : Sta) : Mat := fun k d => ∑ e, vn k e * D d e

/-- The gradient of the chunk's decay. -/
def dc (D s : Sta) : EReal := ∑ d, ∑ e, D d e * s d e

/-- The gradient of the state handed to the chunk before. -/
def nextD (c : EReal) (q dO w v : Mat) (D : Sta) : Sta := fun d e =>
  (D d e * c + ∑ k, q k d * dO k e) - ∑ k, w k d * v k e

/-- A finite extended real. -/
def Fin' (x : EReal) : Prop := x ≠ ⊤ ∧ x ≠ ⊥

theorem Fin'.zero : Fin' 0 := by simp [Fin']
theorem fin_iff {x : EReal} : Fin' x ↔ ∃ r : ℝ, x = r := by
  constructor
  · rintro ⟨h, h'⟩; exact ⟨x.toReal, (EReal.coe_toReal h h').symm⟩
  · rintro ⟨r, rfl⟩; exact ⟨EReal.coe_ne_top r, EReal.coe_ne_bot r⟩
theorem Fin'.add {x y : EReal} (hx : Fin' x) (hy : Fin' y) : Fin' (x + y) := by
  obtain ⟨a, rfl⟩ := fin_iff.1 hx; obtain ⟨b, rfl⟩ := fin_iff.1 hy
  exact fin_iff.2 ⟨a + b, by norm_cast⟩
theorem Fin'.sub {x y : EReal} (hx : Fin' x) (hy : Fin' y) : Fin' (x - y) := by
  obtain ⟨a, rfl⟩ := fin_iff.1 hx; obtain ⟨b, rfl⟩ := fin_iff.1 hy
  exact fin_iff.2 ⟨a - b, by norm_cast⟩
theorem Fin'.mul {x y : EReal} (hx : Fin' x) (hy : Fin' y) : Fin' (x * y) := by
  obtain ⟨a, rfl⟩ := fin_iff.1 hx; obtain ⟨b, rfl⟩ := fin_iff.1 hy
  exact fin_iff.2 ⟨a * b, by norm_cast⟩
theorem coe_sum {n : ℕ} (g : Fin n → ℝ) : ((∑ i, g i : ℝ) : EReal) = ∑ i, (g i : EReal) := by
  induction n with
  | zero => simp
  | succ n ih => rw [Fin.sum_univ_succ, Fin.sum_univ_succ, EReal.coe_add, ih]
theorem Fin'.sum {n : ℕ} {f : Fin n → EReal} (h : ∀ i, Fin' (f i)) : Fin' (∑ i, f i) := by
  choose g hg using fun i => fin_iff.1 (h i)
  exact fin_iff.2 ⟨∑ i, g i, by simp only [hg, coe_sum]⟩

/-- A sum of negated finite products is the negated sum. -/
theorem sum_neg_mul {n : ℕ} {f g : Fin n → EReal} (hf : ∀ i, Fin' (f i)) (hg : ∀ i, Fin' (g i)) :
    ∑ i, (-f i) * g i = -∑ i, f i * g i := by
  choose a ha using fun i => fin_iff.1 (hf i)
  choose b hb using fun i => fin_iff.1 (hg i)
  simp only [ha, hb]
  have : (∑ i, (-a i) * b i : ℝ) = -∑ i, a i * b i := by rw [← Finset.sum_neg_distrib]; simp
  have h2 := congrArg (fun r : ℝ => (r : EReal)) this
  simpa only [EReal.coe_neg, coe_sum, EReal.coe_mul] using h2

theorem dvn_fin {at_ : Att} {kd dO : Mat} {D : Sta} (ha : ∀ i k, Fin' (at_ i k)) (hk : ∀ k d, Fin' (kd k d))
    (ho : ∀ k d, Fin' (dO k d)) (hD : ∀ d e, Fin' (D d e)) (k : Fin 64) (e : Fin 128) : Fin' (dvn at_ kd dO D k e) :=
  (Fin'.sum fun i => (ha i k).mul (ho i e)).add (Fin'.sum fun d => (hk k d).mul (hD d e))

theorem nextD_fin {c : EReal} {q dO w v : Mat} {D : Sta} (hc : Fin' c) (hq : ∀ k d, Fin' (q k d))
    (ho : ∀ k d, Fin' (dO k d)) (hw : ∀ k d, Fin' (w k d)) (hv : ∀ k d, Fin' (v k d)) (hD : ∀ d e, Fin' (D d e))
    (d e : Fin 128) : Fin' (nextD c q dO w v D d e) :=
  (((hD d e).mul hc).add (Fin'.sum fun k => (hq k d).mul (ho k e))).sub (Fin'.sum fun k => (hw k d).mul (hv k e))

/-- What the recurrence reads: per chunk and head. -/
structure Data where
  at_ : Fin 128 → Fin 4 → Att
  q : Fin 128 → Fin 4 → Mat
  w : Fin 128 → Fin 4 → Mat
  u : Fin 128 → Fin 4 → Mat
  kd : Fin 128 → Fin 4 → Mat
  dO : Fin 128 → Fin 4 → Mat
  s : Fin 128 → Fin 4 → Sta
  c : Fin 128 → Fin 4 → EReal

/-- The chunk that trip `j` handles: the last first. -/
def ch (j : ℕ) : Fin 128 := ⟨127 - j, by omega⟩

/-- The chunk's new values. -/
def Data.vn (X : Data) (n : Fin 128) (h : Fin 4) : Mat := fun k e => X.u n h k e - ∑ d, X.w n h k d * X.s n h d e

/-- The state's gradient before trip `j`. -/
def Data.D (X : Data) (h : Fin 4) : ℕ → Sta
  | 0 => fun _ _ => 0
  | j + 1 => nextD (X.c (ch j) h) (X.q (ch j) h) (X.dO (ch j) h) (X.w (ch j) h)
      (dvn (X.at_ (ch j) h) (X.kd (ch j) h) (X.dO (ch j) h) (X.D h j)) (X.D h j)

/-- The gradient of chunk `n`'s new values. -/
def Data.dv (X : Data) (n : Fin 128) (h : Fin 4) : Mat :=
  dvn (X.at_ n h) (X.kd n h) (X.dO n h) (X.D h (127 - n.val))

/-- Every value read is finite. -/
structure Data.Finite (X : Data) : Prop where
  at_ : ∀ n h i k, Fin' (X.at_ n h i k)
  q : ∀ n h k d, Fin' (X.q n h k d)
  w : ∀ n h k d, Fin' (X.w n h k d)
  kd : ∀ n h k d, Fin' (X.kd n h k d)
  dO : ∀ n h k d, Fin' (X.dO n h k d)
  s : ∀ n h d e, Fin' (X.s n h d e)
  c : ∀ n h, Fin' (X.c n h)

theorem Data.Finite.D {X : Data} (F : X.Finite) (h : Fin 4) (j : ℕ) (d e : Fin 128) : Fin' (X.D h j d e) := by
  induction j generalizing d e with
  | zero => exact Fin'.zero
  | succ j ih =>
    exact nextD_fin (F.c _ _) (F.q _ _) (F.dO _ _) (F.w _ _)
      (dvn_fin (F.at_ _ _) (F.kd _ _) (F.dO _ _) ih) ih d e

/-- Token `k` of chunk `n`. -/
def tok (n : Fin 128) (k : Fin 64) : Fin 8192 := ⟨n.val * 64 + k.val, by omega⟩
/-- Lane `d` of head `h`, of 512. -/
def lane (h : Fin 4) (d : Fin 128) : Fin 512 := ⟨h.val * 128 + d.val, by omega⟩

/-- The recurrence's data out of the seven arrays. -/
def data (uw : (⟨2, ![8192, 1024]⟩ : Shape).Idx → EReal) (at_ : (⟨2, ![8192, 256]⟩ : Shape).Idx → EReal)
    (qd kd : (⟨2, ![8192, 512]⟩ : Shape).Idx → EReal) (dec : (⟨2, ![8192, 128]⟩ : Shape).Idx → EReal)
    (st : (⟨2, ![65536, 128]⟩ : Shape).Idx → EReal) (dO : (⟨2, ![8192, 512]⟩ : Shape).Idx → EReal) : Data where
  at_ n h i k := at_ (ix2 (tok n i) ⟨h.val * 64 + k.val, by omega⟩)
  q n h k d := qd (ix2 (tok n k) (lane h d))
  w n h k d := uw (ix2 (tok n k) ⟨512 + (h.val * 128 + d.val), by omega⟩)
  u n h k d := uw (ix2 (tok n k) ⟨h.val * 128 + d.val, by omega⟩)
  kd n h k d := kd (ix2 (tok n k) (lane h d))
  dO n h k d := dO (ix2 (tok n k) (lane h d))
  s n h d e := st (ix2 ⟨n.val * 512 + h.val * 128 + d.val, by omega⟩ e)
  c n h := dec (ix2 (tok n 0) ⟨h.val, by omega⟩)

/-- An array of 512 lanes out of its chunks and heads. -/
def spread (f : Fin 128 → Fin 4 → Mat) : (⟨2, ![8192, 512]⟩ : Shape).Idx → EReal := fun i =>
  f ⟨(i 0).val / 64, by have := (i 0).isLt; simp at this; omega⟩ ⟨(i 1).val / 128, by have := (i 1).isLt; simp at this; omega⟩
    ⟨(i 0).val % 64, by omega⟩ ⟨(i 1).val % 128, by omega⟩

/-- The decay's gradient, one lane per head, the same on every token of the chunk, zero on the lanes past the heads. -/
def spreadC (f : Fin 128 → Fin 4 → EReal) : (⟨2, ![8192, 128]⟩ : Shape).Idx → EReal := fun i =>
  if h : (i 1).val < 4 then f ⟨(i 0).val / 64, by have := (i 0).isLt; simp at this; omega⟩ ⟨(i 1).val, h⟩ else 0

/-- The gradient of chunk `n`'s `w`. -/
def Data.dw (X : Data) (n : Fin 128) (h : Fin 4) : Mat := Scan.dw (X.dv n h) (X.s n h)
/-- The gradient of chunk `n`'s decayed keys. -/
def Data.dkd (X : Data) (n : Fin 128) (h : Fin 4) : Mat := Scan.dkd (X.vn n h) (X.D h (127 - n.val))
/-- The gradient of chunk `n`'s decay. -/
def Data.dc (X : Data) (n : Fin 128) (h : Fin 4) : EReal := Scan.dc (X.D h (127 - n.val)) (X.s n h)

end Cert.Scan

end
-- ==== Proof.Scan.Block.lean ====
module

public import proofs.«01_k».proof.Proof.Scan.Model
public import proofs.«01_k».proof.Proof.Gen.KernelIdeal.Frame
public import Idealize.ShloMosaic.Lib.Pipeline.ReadBack
public import Idealize.ShloMosaic.Lib.Pipeline.ValueKit

@[expose] public section

set_option maxRecDepth 16384

noncomputable section

namespace Cert.Scan.Kernel

open Idealize.ShloMosaic Cert.KernelIdeal Cert.KernelIdeal.Gen

def fn {a b : ℕ} (x : (⟨2, ![a, b]⟩ : Shape).Idx → EReal) : Fin a → Fin b → EReal := fun i j => x (ix2 i j)

/-- The block of an array that begins at row `r` and lane `l`. -/
def sub {a b p q : ℕ} (x : (⟨2, ![a, b]⟩ : Shape).Idx → EReal) (r l : ℕ) : Fin p → Fin q → EReal := fun i j =>
  if h : r + i.val < a ∧ l + j.val < b then x (ix2 ⟨r + i.val, h.1⟩ ⟨l + j.val, h.2⟩) else 0

theorem fn_ldf32 {a b p q r l : ℕ} (x : Vec Ideal ⟨2, ![a, b]⟩ .f32)
    (h : ∀ i : Fin 2, ![r, l] i + ![p, q] i ≤ (⟨2, ![a, b]⟩ : Shape).size i) :
    fn (a := p) (b := q) (View.ld x (Rect.unit ![r, l] ![p, q] h)) = sub x r l := by
  funext i j
  have h0 := h 0
  have h1 := h 1
  simp at h0 h1
  rw [sub, dif_pos ⟨by omega, by omega⟩]
  exact View.ld_unit_apply_of x _ _ _ _ _ (fun a => by fin_cases a <;> rfl)
theorem fn_ldbf16 {a b p q r l : ℕ} (x : Vec Ideal ⟨2, ![a, b]⟩ .bf16)
    (h : ∀ i : Fin 2, ![r, l] i + ![p, q] i ≤ (⟨2, ![a, b]⟩ : Shape).size i) :
    fn (a := p) (b := q) (View.ld x (Rect.unit ![r, l] ![p, q] h)) = sub x r l := by
  funext i j
  have h0 := h 0
  have h1 := h 1
  simp at h0 h1
  rw [sub, dif_pos ⟨by omega, by omega⟩]
  exact View.ld_unit_apply_of x _ _ _ _ _ (fun a => by fin_cases a <;> rfl)
theorem fn_ld0 (t : Fin cfg0.N) (x : ((cfg0.win 0).xblock (cfg0.grid.coords t)).Idx → Elt Ideal (cfg0.win 0).elt) (r l : ℕ)
    (h : ∀ i : Fin 2, ![r, l] i + ![64, 128] i ≤ S256x512.size i) :
    fn (a := 64) (b := 128) (View.ld x (Rect.unit ![r, l] ![64, 128] h)) = sub (show Vec Ideal S256x512 .f32 from x) r l :=
  fn_ldf32 (a := 256) (b := 512) x h
theorem fn_ld1 (t : Fin cfg0.N) (x : ((cfg0.win 1).xblock (cfg0.grid.coords t)).Idx → Elt Ideal (cfg0.win 1).elt) (r l : ℕ)
    (h : ∀ i : Fin 2, ![r, l] i + ![64, 128] i ≤ S256x1024.size i) :
    fn (a := 64) (b := 128) (View.ld x (Rect.unit ![r, l] ![64, 128] h)) = sub (show Vec Ideal S256x1024 .f32 from x) r l :=
  fn_ldf32 (a := 256) (b := 1024) x h
theorem fn_ld3 (t : Fin cfg0.N) (x : ((cfg0.win 3).xblock (cfg0.grid.coords t)).Idx → Elt Ideal (cfg0.win 3).elt) (r l : ℕ)
    (h : ∀ i : Fin 2, ![r, l] i + ![64, 128] i ≤ S256x512.size i) :
    fn (a := 64) (b := 128) (View.ld x (Rect.unit ![r, l] ![64, 128] h)) = sub (show Vec Ideal S256x512 .bf16 from x) r l :=
  fn_ldbf16 (a := 256) (b := 512) x h
theorem fn_ld4 (t : Fin cfg0.N) (x : ((cfg0.win 4).xblock (cfg0.grid.coords t)).Idx → Elt Ideal (cfg0.win 4).elt) (r l : ℕ)
    (h : ∀ i : Fin 2, ![r, l] i + ![64, 128] i ≤ S256x512.size i) :
    fn (a := 64) (b := 128) (View.ld x (Rect.unit ![r, l] ![64, 128] h)) = sub (show Vec Ideal S256x512 .bf16 from x) r l :=
  fn_ldbf16 (a := 256) (b := 512) x h
theorem fn_ld6 (t : Fin cfg0.N) (x : ((cfg0.win 6).xblock (cfg0.grid.coords t)).Idx → Elt Ideal (cfg0.win 6).elt) (r l : ℕ)
    (h : ∀ i : Fin 2, ![r, l] i + ![64, 128] i ≤ S256x512.size i) :
    fn (a := 64) (b := 128) (View.ld x (Rect.unit ![r, l] ![64, 128] h)) = sub (show Vec Ideal S256x512 .bf16 from x) r l :=
  fn_ldbf16 (a := 256) (b := 512) x h
theorem fn_ld2 (t : Fin cfg0.N) (x : ((cfg0.win 2).xblock (cfg0.grid.coords t)).Idx → Elt Ideal (cfg0.win 2).elt) (r l : ℕ)
    (h : ∀ i : Fin 2, ![r, l] i + ![64, 64] i ≤ S256x256.size i) :
    fn (a := 64) (b := 64) (View.ld x (Rect.unit ![r, l] ![64, 64] h)) = sub (show Vec Ideal S256x256 .f32 from x) r l :=
  fn_ldf32 (a := 256) (b := 256) x h
theorem fn_ld7 (t : Fin cfg0.N) (x : ((cfg0.win 7).xblock (cfg0.grid.coords t)).Idx → Elt Ideal (cfg0.win 7).elt) (r l : ℕ)
    (h : ∀ i : Fin 2, ![r, l] i + ![128, 128] i ≤ S2048x128.size i) :
    fn (a := 128) (b := 128) (View.ld x (Rect.unit ![r, l] ![128, 128] h)) = sub (show Vec Ideal S2048x128 .bf16 from x) r l :=
  fn_ldbf16 (a := 2048) (b := 128) x h
theorem fn_ld5 (t : Fin cfg0.N) (x : ((cfg0.win 5).xblock (cfg0.grid.coords t)).Idx → Elt Ideal (cfg0.win 5).elt) (r l : ℕ)
    (h : ∀ i : Fin 2, ![r, l] i + ![1, 1] i ≤ S256x128.size i) :
    fn (a := 1) (b := 1) (View.ld x (Rect.unit ![r, l] ![1, 1] h)) = sub (show Vec Ideal S256x128 .f32 from x) r l :=
  fn_ldf32 (a := 256) (b := 128) x h

/-- What a block of 256 tokens and 512 lanes holds, chunk by chunk and head by head. -/
def bspread (f : ℕ → ℕ → Mat) : Vec Ideal S256x512 .f32 := fun i =>
  f ((i 0).val / 64) ((i 1).val / 128) ⟨(i 0).val % 64, by omega⟩ ⟨(i 1).val % 128, by omega⟩

theorem bspread_at (f : ℕ → ℕ → Mat) (y : S256x512.Idx) (cb h : ℕ) (k : Fin 64) (e : Fin 128)
    (h0 : (y 0).val = cb * 64 + k.val) (h1 : (y 1).val = h * 128 + e.val) : bspread f y = f cb h k e := by
  have hk : (⟨(y 0).val % 64, by omega⟩ : Fin 64) = k := Fin.ext (by simp only; omega)
  have he : (⟨(y 1).val % 128, by omega⟩ : Fin 128) = e := Fin.ext (by simp only; omega)
  rw [bspread, hk, he, show (y 0).val / 64 = cb by omega, show (y 1).val / 128 = h by omega]

/-- What a block of 256 tokens and 128 lanes holds, chunk by chunk, the same on each token. -/
def brow (f : ℕ → Fin 128 → EReal) : Vec Ideal S256x128 .f32 := fun i => f ((i 0).val / 64) (i 1)

theorem brow_at (f : ℕ → Fin 128 → EReal) (y : S256x128.Idx) (cb : ℕ) (k : Fin 64) (e : Fin 128)
    (h0 : (y 0).val = cb * 64 + k.val) (h1 : (y 1).val = e.val) : brow f y = f cb e := by
  have he : (y 1 : Fin 128) = e := Fin.ext h1
  rw [brow, show (y 0).val / 64 = cb by omega]
  exact congrArg (f cb) he

/-- What the carried rows hold, head by head. -/
def bstate (f : ℕ → Sta) : Vec Ideal S512x128 .f32 := fun i => f ((i 0).val / 128) ⟨(i 0).val % 128, by omega⟩ (i 1)

theorem bstate_at (f : ℕ → Sta) (y : S512x128.Idx) (h : ℕ) (d e : Fin 128)
    (h0 : (y 0).val = h * 128 + d.val) (h1 : (y 1).val = e.val) : bstate f y = f h d e := by
  have he : (y 1 : Fin 128) = e := Fin.ext h1
  have hd : (⟨(y 0).val % 128, by omega⟩ : Fin 128) = d := Fin.ext (by simp only; omega)
  rw [bstate, hd, show (y 0).val / 128 = h by omega]
  exact congrArg (f h d) he

section
variable (x0 : Vec Ideal S256x512 .f32) (x1 : Vec Ideal S256x1024 .f32) (x2 : Vec Ideal S256x256 .f32)
  (x3 x4 x6 : Vec Ideal S256x512 .bf16) (x5 : Vec Ideal S256x128 .f32) (x7 : Vec Ideal S2048x128 .bf16) (xs : Vec Ideal S512x128 .f32)
/-- The state's gradient of head `h` after the block's last `r` chunks. -/
def BD (h : ℕ) : ℕ → Sta
  | 0 => sub xs (h * 128) 0
  | r + 1 => nextD (sub (p := 1) (q := 1) x5 ((3 - r) * 64) h 0 0) (sub x3 ((3 - r) * 64) (h * 128)) (sub x0 ((3 - r) * 64) (h * 128))
      (sub x1 ((3 - r) * 64) (512 + h * 128))
      (dvn (sub x2 ((3 - r) * 64) (h * 64)) (sub x4 ((3 - r) * 64) (h * 128)) (sub x0 ((3 - r) * 64) (h * 128)) (BD h r)) (BD h r)
/-- The gradient of the new values of the block's chunk `cb`, head `h`. -/
def BV (cb h : ℕ) : Mat := dvn (sub x2 (cb * 64) (h * 64)) (sub x4 (cb * 64) (h * 128)) (sub x0 (cb * 64) (h * 128)) (BD x0 x1 x2 x3 x4 x5 xs h (3 - cb))
/-- The gradient of `w`. -/
def BDw (cb h : ℕ) : Mat := Scan.dw (BV x0 x1 x2 x3 x4 x5 xs cb h) (sub x7 (cb * 512 + h * 128) 0)
/-- The gradient of the decayed keys. -/
def BK (cb h : ℕ) : Mat := Scan.dkd (sub x6 (cb * 64) (h * 128)) (BD x0 x1 x2 x3 x4 x5 xs h (3 - cb))
/-- The gradient of the decay. -/
def BDc (cb h : ℕ) : EReal := Scan.dc (BD x0 x1 x2 x3 x4 x5 xs h (3 - cb)) (sub x7 (cb * 512 + h * 128) 0)
/-- One lane of the row of the decays' gradients. -/
def BR (cb : ℕ) (l : Fin 128) : EReal :=
  (((0 + if BitVec.ofNat 32 l.val = 0#32 then BDc x0 x1 x2 x3 x4 x5 x7 xs cb 0 else 0) +
    if BitVec.ofNat 32 l.val = 1#32 then BDc x0 x1 x2 x3 x4 x5 x7 xs cb 1 else 0) +
    if BitVec.ofNat 32 l.val = 2#32 then BDc x0 x1 x2 x3 x4 x5 x7 xs cb 2 else 0) +
    if BitVec.ofNat 32 l.val = 3#32 then BDc x0 x1 x2 x3 x4 x5 x7 xs cb 3 else 0
end

def Vdvn (o : Vec Ideal S64x128 .f32) (a : Vec Ideal S64x64 .f32) (kd : FVec Ideal S64x128 .bf16) (D : Vec Ideal S128x128 .f32) :
    FVec Ideal S64x128 .f32 :=
  addf (matmul dot_S64x64_S64x128_S64x128_0_0_1_1_n_n none (truncf .bf16 a bitsLt_bf16_f32) (truncf .bf16 o bitsLt_bf16_f32) (constant S64x128 .f32 0x00000000#32))
    (matmul dot_S64x128_S128x128_S64x128_1_0_0_1_n_n none kd (truncf .bf16 D bitsLt_bf16_f32) (constant S64x128 .f32 0x00000000#32))

theorem Vdvn_fold (o : Vec Ideal S64x128 .f32) (a : Vec Ideal S64x64 .f32) (kd : FVec Ideal S64x128 .bf16) (D : Vec Ideal S128x128 .f32) :
  addf (matmul dot_S64x64_S64x128_S64x128_0_0_1_1_n_n none (truncf .bf16 a bitsLt_bf16_f32) (truncf .bf16 o bitsLt_bf16_f32) (constant S64x128 .f32 0x00000000#32))
    (matmul dot_S64x128_S128x128_S64x128_1_0_0_1_n_n none kd (truncf .bf16 D bitsLt_bf16_f32) (constant S64x128 .f32 0x00000000#32)) = Vdvn o a kd D := rfl

theorem Vdvn_fn (o a kd D) : fn (Vdvn o a kd D) = dvn (fn a) (fn kd) (fn o) (fn D) := by
  funext k e
  unfold fn
  pointwise [Vdvn, dvn]

def Vnext (o : Vec Ideal S64x128 .f32) (c : Vec Ideal S1x1 .f32) (q : FVec Ideal S64x128 .bf16) (w v : Vec Ideal S64x128 .f32) (D : Vec Ideal S128x128 .f32) :
    FVec Ideal S128x128 .f32 :=
  shapeCast S128x128 (subf (addf (mulf D (broadcastTo S128x128 c broadcasts_S1x1_S128x128))
    (matmul dot_S64x128_S64x128_S128x128_0_0_1_1_n_n none q (truncf .bf16 o bitsLt_bf16_f32) (constant S128x128 .f32 0x00000000#32)))
    (matmul dot_S64x128_S64x128_S128x128_0_0_1_1_n_n none (truncf .bf16 w bitsLt_bf16_f32) (truncf .bf16 v bitsLt_bf16_f32) (constant S128x128 .f32 0x00000000#32)))
    shapeCasts_S128x128_S128x128

theorem Vnext_fold (o : Vec Ideal S64x128 .f32) (c : Vec Ideal S1x1 .f32) (q : FVec Ideal S64x128 .bf16) (w v : Vec Ideal S64x128 .f32) (D : Vec Ideal S128x128 .f32) :
  shapeCast S128x128 (subf (addf (mulf D (broadcastTo S128x128 c broadcasts_S1x1_S128x128))
    (matmul dot_S64x128_S64x128_S128x128_0_0_1_1_n_n none q (truncf .bf16 o bitsLt_bf16_f32) (constant S128x128 .f32 0x00000000#32)))
    (matmul dot_S64x128_S64x128_S128x128_0_0_1_1_n_n none (truncf .bf16 w bitsLt_bf16_f32) (truncf .bf16 v bitsLt_bf16_f32) (constant S128x128 .f32 0x00000000#32)))
    shapeCasts_S128x128_S128x128 = Vnext o c q w v D := rfl

theorem Vnext_fn (o c q w v D) : fn (Vnext o c q w v D) = nextD (fn c 0 0) (fn q) (fn o) (fn w) (fn v) (fn D) := by
  funext k e
  unfold fn
  pointwise [Vnext, nextD]

def Vdw (v : FVec Ideal S64x128 .f32) (s : FVec Ideal S128x128 .bf16) : FVec Ideal S64x128 .f32 :=
  subf (broadcast S64x128 (Scalar.ofBits .f32 0x00000000#32))
    (matmul dot_S64x128_S128x128_S64x128_1_1_0_0_n_n none (truncf .bf16 v bitsLt_bf16_f32) s (constant S64x128 .f32 0x00000000#32))

theorem Vdw_fold (v : FVec Ideal S64x128 .f32) (s : FVec Ideal S128x128 .bf16) :
  subf (broadcast S64x128 (Scalar.ofBits .f32 0x00000000#32))
    (matmul dot_S64x128_S128x128_S64x128_1_1_0_0_n_n none (truncf .bf16 v bitsLt_bf16_f32) s (constant S64x128 .f32 0x00000000#32)) = Vdw v s := rfl

theorem Vdw_fn (v s) : fn (Vdw v s) = Scan.dw (fn v) (fn s) := by
  funext k e
  unfold fn
  pointwise [Vdw, Scan.dw]
  rw [zero_sub]

def Vdkd (vn : FVec Ideal S64x128 .bf16) (D : FVec Ideal S128x128 .f32) : FVec Ideal S64x128 .f32 :=
  matmul dot_S64x128_S128x128_S64x128_1_1_0_0_n_n none (shapeCast S64x128 vn shapeCasts_S64x128_S64x128) (truncf .bf16 D bitsLt_bf16_f32) (constant S64x128 .f32 0x00000000#32)

theorem Vdkd_fold (vn : FVec Ideal S64x128 .bf16) (D : FVec Ideal S128x128 .f32) :
  matmul dot_S64x128_S128x128_S64x128_1_1_0_0_n_n none (shapeCast S64x128 vn shapeCasts_S64x128_S64x128) (truncf .bf16 D bitsLt_bf16_f32) (constant S64x128 .f32 0x00000000#32) = Vdkd vn D := rfl

theorem Vdkd_fn (vn D) : fn (Vdkd vn D) = Scan.dkd (fn vn) (fn D) := by
  funext k e
  unfold fn
  pointwise [Vdkd, Scan.dkd]

def Vrow (h : BitVec 32) (p : FVec Ideal S64x128 .f32) (D : FVec Ideal S128x128 .f32) (s : FVec Ideal S128x128 .bf16) : FVec Ideal S64x128 .f32 :=
  addf p (select (cmpi .eq (iota .tc S64x128 32 [1] iota_S64x128_d1_w32) (broadcast S64x128 h))
    (broadcastTo S64x128 (shapeCast S1x1 (shapeCast S1x1 (multiReduction .add [0] S1 (shapeCast S128x1
      (multiReduction .add [1] S128 (mulf D (extf .f32 s bitsLt_bf16_f32)) 0x00000000#32 reduces_S128x128_S128 (.inl rfl) rfl) shapeCasts_S128_S128x1)
      0x00000000#32 reduces_S128x1_S1 (.inl rfl) rfl) shapeCasts_S1_S1x1) shapeCasts_S1x1_S1x1) broadcasts_S1x1_S64x128)
    (broadcast S64x128 (Scalar.ofBits .f32 0x00000000#32)))

theorem Vrow_fold (h : BitVec 32) (p : FVec Ideal S64x128 .f32) (D : FVec Ideal S128x128 .f32) (s : FVec Ideal S128x128 .bf16) :
  addf p (select (cmpi .eq (iota .tc S64x128 32 [1] iota_S64x128_d1_w32) (broadcast S64x128 h))
    (broadcastTo S64x128 (shapeCast S1x1 (shapeCast S1x1 (multiReduction .add [0] S1 (shapeCast S128x1
      (multiReduction .add [1] S128 (mulf D (extf .f32 s bitsLt_bf16_f32)) 0x00000000#32 reduces_S128x128_S128 (.inl rfl) rfl) shapeCasts_S128_S128x1)
      0x00000000#32 reduces_S128x1_S1 (.inl rfl) rfl) shapeCasts_S1_S1x1) shapeCasts_S1x1_S1x1) broadcasts_S1x1_S64x128)
    (broadcast S64x128 (Scalar.ofBits .f32 0x00000000#32))) = Vrow h p D s := rfl

theorem Vrow_fn (h p D s) : fn (Vrow h p D s) = fun k l => fn p k l + if BitVec.ofNat 32 l.val = h then Scan.dc (fn D) (fn s) else 0 := by
  funext k e
  unfold fn
  pointwise [Vrow, Scan.dc]
  by_cases hh : BitVec.ofNat 32 e.val = h
  · simp [hh, IntOp.cmpi, Scalar.select]
  · simp [hh, IntOp.cmpi, Scalar.select, beq_false_of_ne hh]

theorem fn_zero : fn (broadcast S64x128 (Scalar.ofBits (F := Ideal) .f32 0x00000000#32)) = fun _ _ => 0 := by
  funext k e
  unfold fn
  pointwise

/-- The last store first: where it holds the index its value counts, elsewhere the stores before it. -/
theorem canon_step {S : Shape} {e : EltTy} (off size : Fin S.rank → ℕ) (inb : ∀ a, off a + size a ≤ S.size a)
    (w : (Rect.unit off size inb).shape.Idx → Elt Ideal e) (L : List (View.Piece (Elt Ideal) S e)) (y : S.Idx) (v : Elt Ideal e)
    (h1 : View.TileAt (Val := Elt Ideal) y off size w v) (h2 : (¬ ∀ a, off a ≤ (y a).val ∧ (y a).val < off a + size a) → View.canon L y = v) :
    View.canon ((⟨Rect.unit off size inb, w⟩ : View.Piece (Elt Ideal) S e) :: L) y = v := by
  by_cases hm : y ∈ (Rect.unit off size inb).set
  · obtain ⟨x, rfl⟩ := (Rect.unit off size inb).exists_idx_of_mem hm
    rw [show (Rect.unit off size inb).idx x = (Rect.unit off size inb).emb x from rfl, View.canon_cons_emb]
    exact h1 x fun a => Rect.idx_unit_val off size inb x a
  · rw [View.canon_cons_of_not_mem _ _ hm]
    exact h2 fun h => hm (Rect.mem_set_unit.mpr h)

end Cert.Scan.Kernel
end
-- ==== Proof.Scan.Arrays.lean ====
/- What the kernel's blocks are of the arrays it is given, and the host's new values. -/
module

public import proofs.«01_k».proof.Proof.Scan.Block
public import proofs.«01_k».proof.Proof.Gen.KernelIdeal.Value

@[expose] public section

set_option maxRecDepth 16384

noncomputable section

namespace Cert.Scan.Kernel

open Idealize.ShloMosaic Idealize.ShloMosaic.TcCoe Cert.KernelIdeal Cert.KernelIdeal.Gen

variable (m : (ℓ : Loc nD τ sig) → Buf (Elt Ideal) ℓ) (c : Dev nD) (t : Fin cfg0.N)

/-- The recurrence's data as launched on a device. -/
def X : Data := data (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

theorem idx : ∀ t : Fin cfg0.N, win0_0.index t = ![31 - t.val, 0] ∧ win0_1.index t = ![31 - t.val, 0] ∧ win0_2.index t = ![31 - t.val, 0] ∧
    win0_3.index t = ![31 - t.val, 0] ∧ win0_4.index t = ![31 - t.val, 0] ∧ win0_5.index t = ![31 - t.val, 0] ∧ win0_6.index t = ![31 - t.val, 0] ∧
    win0_7.index t = ![31 - t.val, 0] ∧ win0_8.index t = ![31 - t.val, 0] ∧ win0_9.index t = ![31 - t.val, 0] ∧ win0_10.index t = ![31 - t.val, 0] ∧
    win0_11.index t = ![31 - t.val, 0] :=
  (by decide +kernel : ∀ t : Fin grid0.N, win0_0.index t = ![31 - t.val, 0] ∧ win0_1.index t = ![31 - t.val, 0] ∧ win0_2.index t = ![31 - t.val, 0] ∧
    win0_3.index t = ![31 - t.val, 0] ∧ win0_4.index t = ![31 - t.val, 0] ∧ win0_5.index t = ![31 - t.val, 0] ∧ win0_6.index t = ![31 - t.val, 0] ∧
    win0_7.index t = ![31 - t.val, 0] ∧ win0_8.index t = ![31 - t.val, 0] ∧ win0_9.index t = ![31 - t.val, 0] ∧ win0_10.index t = ![31 - t.val, 0] ∧
    win0_11.index t = ![31 - t.val, 0])

/-- The chunk `cb` of the block of point `t`. -/
def chk (cb : ℕ) : Fin 128 := ⟨(31 - t.val) * 4 + (cb % 4), by omega⟩

theorem tlt : t.val < 32 := lt_of_lt_of_eq t.isLt N_0

theorem vn_eq (n : Fin 128) (h : Fin 4) (k : Fin 64) (e : Fin 128) :
    (V m c (Pipeline.arrRef spec0 6) : S8192x512.Idx → EReal) (ix2 (tok n k) (lane h e)) = (X m c).vn n h k e := by
  have hn := n.isLt
  have hh := h.isLt
  have hk := k.isLt
  have he := e.isLt
  have e1 : (tok n k).val / 64 = n.val := by simp only [tok]; omega
  have e2 : (tok n k).val % 64 = k.val := by simp only [tok]; omega
  have e3 : (lane h e).val / 128 = h.val := by simp only [lane]; omega
  have e4 : (lane h e).val % 128 = e.val := by simp only [lane]; omega
  entry_read
  pointwise
  simp only [e1, e2, e3, e4]
  rfl

theorem blk0 (cb h : Fin 4) : sub (p := 64) (q := 128) (show Vec Ideal S256x512 .f32 from iblk m c 0 t) (cb.val * 64) (h.val * 128) = (X m c).dO (chk t cb.val) h := by
  funext k d
  rw [sub, dif_pos ⟨by omega, by omega⟩]
  have ht := tlt t
  simp only [X, data]
  blk_ext [iblk, V, idx t, tok, lane, chk]

theorem blk1 (cb h : Fin 4) : sub (p := 64) (q := 128) (show Vec Ideal S256x1024 .f32 from iblk m c 1 t) (cb.val * 64) (512 + h.val * 128) = (X m c).w (chk t cb.val) h := by
  funext k d
  rw [sub, dif_pos ⟨by omega, by omega⟩]
  have ht := tlt t
  simp only [X, data]
  blk_ext [iblk, V, idx t, tok, lane, chk]

theorem blk2 (cb h : Fin 4) : sub (p := 64) (q := 64) (show Vec Ideal S256x256 .f32 from iblk m c 2 t) (cb.val * 64) (h.val * 64) = (X m c).at_ (chk t cb.val) h := by
  funext k d
  rw [sub, dif_pos ⟨by omega, by omega⟩]
  have ht := tlt t
  simp only [X, data]
  blk_ext [iblk, V, idx t, tok, lane, chk]

theorem blk3 (cb h : Fin 4) : sub (p := 64) (q := 128) (show Vec Ideal S256x512 .bf16 from iblk m c 3 t) (cb.val * 64) (h.val * 128) = (X m c).q (chk t cb.val) h := by
  funext k d
  rw [sub, dif_pos ⟨by omega, by omega⟩]
  have ht := tlt t
  simp only [X, data]
  blk_ext [iblk, V, idx t, tok, lane, chk]

theorem blk4 (cb h : Fin 4) : sub (p := 64) (q := 128) (show Vec Ideal S256x512 .bf16 from iblk m c 4 t) (cb.val * 64) (h.val * 128) = (X m c).kd (chk t cb.val) h := by
  funext k d
  rw [sub, dif_pos ⟨by omega, by omega⟩]
  have ht := tlt t
  simp only [X, data]
  blk_ext [iblk, V, idx t, tok, lane, chk]

theorem blk6 (cb h : Fin 4) : sub (p := 64) (q := 128) (show Vec Ideal S256x512 .bf16 from iblk m c 6 t) (cb.val * 64) (h.val * 128) = (X m c).vn (chk t cb.val) h := by
  funext k d
  rw [sub, dif_pos ⟨by omega, by omega⟩]
  have ht := tlt t
  rw [← vn_eq]
  blk_ext [iblk, idx t, tok, lane, chk]

theorem blk5 (cb h : Fin 4) : sub (p := 1) (q := 1) (show Vec Ideal S256x128 .f32 from iblk m c 5 t) (cb.val * 64) h.val 0 0 = (X m c).c (chk t cb.val) h := by
  rw [sub, dif_pos ⟨by simp; omega, by simp; omega⟩]
  have ht := tlt t
  simp only [X, data]
  blk_ext [iblk, V, idx t, tok, lane, chk]

theorem blk7 (cb h : Fin 4) : sub (p := 128) (q := 128) (show Vec Ideal S2048x128 .bf16 from iblk m c 7 t) (cb.val * 512 + h.val * 128) 0 = (X m c).s (chk t cb.val) h := by
  funext k d
  rw [sub, dif_pos ⟨by omega, by omega⟩]
  have ht := tlt t
  simp only [X, data]
  blk_ext [iblk, V, idx t, tok, lane, chk]

end Cert.Scan.Kernel
end
-- ==== Proof.Scan.StepA8.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out8_A (hc : t.val % 32 = 0) : (outsAt0 m c t.val t.isLt).1 =
    bspread (BV (iblk m c 0 t) (iblk m c 1 t) (iblk m c 2 t) (iblk m c 3 t) (iblk m c 4 t) (iblk m c 5 t) (k0_pay2 (F := Ideal))) := by
  rw [outsAt0_A m c t hc]
  frame_open
  simp (disch := decide) only [↓ View.readCov_skip, ↓ View.readCov_cons_toLoadRect, ↓ View.readCov_fill]
  frame_out
  generalize k0_pay2 (F := Ideal) = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  open_payloads_core
  simp only [Vdvn_fold, Vnext_fold, Vdw_fold, Vdkd_fold, Vrow_fold]
  funext y
  canon_tiles x h
  case piece0 =>
    rw [eq_ix2 x, bspread_at _ y 0 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, bspread_at _ y 0 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, bspread_at _ y 0 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, bspread_at _ y 0 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece4 =>
    rw [eq_ix2 x, bspread_at _ y 1 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece5 =>
    rw [eq_ix2 x, bspread_at _ y 1 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece6 =>
    rw [eq_ix2 x, bspread_at _ y 1 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece7 =>
    rw [eq_ix2 x, bspread_at _ y 1 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece8 =>
    rw [eq_ix2 x, bspread_at _ y 2 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece9 =>
    rw [eq_ix2 x, bspread_at _ y 2 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece10 =>
    rw [eq_ix2 x, bspread_at _ y 2 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece11 =>
    rw [eq_ix2 x, bspread_at _ y 2 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece12 =>
    rw [eq_ix2 x, bspread_at _ y 3 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece13 =>
    rw [eq_ix2 x, bspread_at _ y 3 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece14 =>
    rw [eq_ix2 x, bspread_at _ y 3 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece15 =>
    rw [eq_ix2 x, bspread_at _ y 3 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepA9.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out9_A (hc : t.val % 32 = 0) : (outsAt0 m c t.val t.isLt).2.1 =
    bspread (BDw (iblk m c 0 t) (iblk m c 1 t) (iblk m c 2 t) (iblk m c 3 t) (iblk m c 4 t) (iblk m c 5 t) (iblk m c 7 t) (k0_pay2 (F := Ideal))) := by
  rw [outsAt0_A m c t hc]
  frame_open
  simp (disch := decide) only [↓ View.readCov_skip, ↓ View.readCov_cons_toLoadRect, ↓ View.readCov_fill]
  frame_out
  generalize k0_pay2 (F := Ideal) = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  open_payloads_core
  simp only [Vdvn_fold, Vnext_fold, Vdw_fold, Vdkd_fold, Vrow_fold]
  funext y
  canon_tiles x h
  case piece0 =>
    rw [eq_ix2 x, bspread_at _ y 0 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, bspread_at _ y 0 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, bspread_at _ y 0 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, bspread_at _ y 0 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece4 =>
    rw [eq_ix2 x, bspread_at _ y 1 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece5 =>
    rw [eq_ix2 x, bspread_at _ y 1 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece6 =>
    rw [eq_ix2 x, bspread_at _ y 1 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece7 =>
    rw [eq_ix2 x, bspread_at _ y 1 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece8 =>
    rw [eq_ix2 x, bspread_at _ y 2 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece9 =>
    rw [eq_ix2 x, bspread_at _ y 2 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece10 =>
    rw [eq_ix2 x, bspread_at _ y 2 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece11 =>
    rw [eq_ix2 x, bspread_at _ y 2 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece12 =>
    rw [eq_ix2 x, bspread_at _ y 3 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece13 =>
    rw [eq_ix2 x, bspread_at _ y 3 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece14 =>
    rw [eq_ix2 x, bspread_at _ y 3 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece15 =>
    rw [eq_ix2 x, bspread_at _ y 3 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepA10.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out10_A (hc : t.val % 32 = 0) : (outsAt0 m c t.val t.isLt).2.2.1 =
    bspread (BK (iblk m c 0 t) (iblk m c 1 t) (iblk m c 2 t) (iblk m c 3 t) (iblk m c 4 t) (iblk m c 6 t) (iblk m c 5 t) (k0_pay2 (F := Ideal))) := by
  rw [outsAt0_A m c t hc]
  frame_open
  simp (disch := decide) only [↓ View.readCov_skip, ↓ View.readCov_cons_toLoadRect, ↓ View.readCov_fill]
  frame_out
  generalize k0_pay2 (F := Ideal) = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  open_payloads_core
  simp only [Vdvn_fold, Vnext_fold, Vdw_fold, Vdkd_fold, Vrow_fold]
  funext y
  canon_tiles x h
  case piece0 =>
    rw [eq_ix2 x, bspread_at _ y 0 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, bspread_at _ y 0 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, bspread_at _ y 0 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, bspread_at _ y 0 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece4 =>
    rw [eq_ix2 x, bspread_at _ y 1 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece5 =>
    rw [eq_ix2 x, bspread_at _ y 1 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece6 =>
    rw [eq_ix2 x, bspread_at _ y 1 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece7 =>
    rw [eq_ix2 x, bspread_at _ y 1 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece8 =>
    rw [eq_ix2 x, bspread_at _ y 2 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece9 =>
    rw [eq_ix2 x, bspread_at _ y 2 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece10 =>
    rw [eq_ix2 x, bspread_at _ y 2 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece11 =>
    rw [eq_ix2 x, bspread_at _ y 2 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece12 =>
    rw [eq_ix2 x, bspread_at _ y 3 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece13 =>
    rw [eq_ix2 x, bspread_at _ y 3 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece14 =>
    rw [eq_ix2 x, bspread_at _ y 3 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece15 =>
    rw [eq_ix2 x, bspread_at _ y 3 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepA11.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out11_A (hc : t.val % 32 = 0) : (outsAt0 m c t.val t.isLt).2.2.2.1 =
    brow (BR (iblk m c 0 t) (iblk m c 1 t) (iblk m c 2 t) (iblk m c 3 t) (iblk m c 4 t) (iblk m c 5 t) (iblk m c 7 t) (k0_pay2 (F := Ideal))) := by
  rw [outsAt0_A m c t hc]
  frame_open
  simp (disch := decide) only [↓ View.readCov_skip, ↓ View.readCov_cons_toLoadRect, ↓ View.readCov_fill]
  frame_out
  generalize k0_pay2 (F := Ideal) = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  open_payloads_core
  simp only [Vdvn_fold, Vnext_fold, Vdw_fold, Vdkd_fold, Vrow_fold]
  funext y
  canon_tiles x h
  case piece0 =>
    rw [eq_ix2 x, brow_at _ y 0 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, brow_at _ y 1 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, brow_at _ y 2 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, brow_at _ y 3 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepA12.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out12_A (hc : t.val % 32 = 0) : (outsAt0 m c t.val t.isLt).2.2.2.2 =
    bstate (fun h => BD (iblk m c 0 t) (iblk m c 1 t) (iblk m c 2 t) (iblk m c 3 t) (iblk m c 4 t) (iblk m c 5 t) (k0_pay2 (F := Ideal)) h 4) := by
  rw [outsAt0_A m c t hc]
  frame_open
  simp (disch := decide) only [↓ View.readCov_skip, ↓ View.readCov_cons_toLoadRect, ↓ View.readCov_fill]
  frame_out
  generalize k0_pay2 (F := Ideal) = xs
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  open_payloads_core
  simp only [Vdvn_fold, Vnext_fold, Vdw_fold, Vdkd_fold, Vrow_fold]
  funext y
  have hy := (y 0).isLt
  have hy1 := (y 1).isLt
  simp only [S512x128] at hy hy1
  refine canon_step _ _ _ _ _ y _ ?piece0 fun n0 => canon_step _ _ _ _ _ y _ ?piece1 fun n1 => canon_step _ _ _ _ _ y _ ?piece2 fun n2 =>
    canon_step _ _ _ _ _ y _ ?piece3 fun n3 => ?none
  case none =>
    exfalso
    simp only [Fin.forall_fin_two] at n0 n1 n2 n3
    simp at n0 n1 n2 n3 hy hy1
    omega
  case piece0 =>
    intro x hx
    have h0 := hx 0
    have h1 := hx 1
    rw [eq_ix2 x, bstate_at _ y 3 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    intro x hx
    have h0 := hx 0
    have h1 := hx 1
    rw [eq_ix2 x, bstate_at _ y 2 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    intro x hx
    have h0 := hx 0
    have h1 := hx 1
    rw [eq_ix2 x, bstate_at _ y 1 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    intro x hx
    have h0 := hx 0
    have h1 := hx 1
    rw [eq_ix2 x, bstate_at _ y 0 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepB8.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out8_B (hc : ¬ t.val % 32 = 0) : (outsAt0 m c t.val t.isLt).1 =
    bspread (BV (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2) := by
  rw [outsAt0_B m c t hc]
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) _).2.2.2.2 = xs
  open_payloads_core
  simp only [Vdvn_fold, Vnext_fold, Vdw_fold, Vdkd_fold, Vrow_fold]
  funext y
  canon_tiles x h
  case piece0 =>
    rw [eq_ix2 x, bspread_at _ y 0 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, bspread_at _ y 0 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, bspread_at _ y 0 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, bspread_at _ y 0 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece4 =>
    rw [eq_ix2 x, bspread_at _ y 1 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece5 =>
    rw [eq_ix2 x, bspread_at _ y 1 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece6 =>
    rw [eq_ix2 x, bspread_at _ y 1 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece7 =>
    rw [eq_ix2 x, bspread_at _ y 1 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece8 =>
    rw [eq_ix2 x, bspread_at _ y 2 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece9 =>
    rw [eq_ix2 x, bspread_at _ y 2 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece10 =>
    rw [eq_ix2 x, bspread_at _ y 2 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece11 =>
    rw [eq_ix2 x, bspread_at _ y 2 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece12 =>
    rw [eq_ix2 x, bspread_at _ y 3 3 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece13 =>
    rw [eq_ix2 x, bspread_at _ y 3 2 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece14 =>
    rw [eq_ix2 x, bspread_at _ y 3 1 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece15 =>
    rw [eq_ix2 x, bspread_at _ y 3 0 (x 0) (x 1) (h0.trans (by simp)) (h1.trans (by simp))]
    change fn (Vdvn _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepB9.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out9_B (hc : ¬ t.val % 32 = 0) : (outsAt0 m c t.val t.isLt).2.1 =
    bspread (BDw (iblk m c 0 t) (iblk m c 1 t) (iblk m c 2 t) (iblk m c 3 t) (iblk m c 4 t) (iblk m c 5 t) (iblk m c 7 t) (outsAt0 m c (t.val - 1) (Nat.lt_of_le_of_lt (Nat.sub_le _ _) t.isLt)).2.2.2.2) := by
  rw [outsAt0_B m c t hc]
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) _).2.2.2.2 = xs
  open_payloads_core
  simp only [Vdvn_fold, Vnext_fold, Vdw_fold, Vdkd_fold, Vrow_fold]
  funext y
  canon_tiles x h
  case piece0 =>
    rw [eq_ix2 x, bspread_at _ y 0 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, bspread_at _ y 0 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, bspread_at _ y 0 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, bspread_at _ y 0 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece4 =>
    rw [eq_ix2 x, bspread_at _ y 1 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece5 =>
    rw [eq_ix2 x, bspread_at _ y 1 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece6 =>
    rw [eq_ix2 x, bspread_at _ y 1 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece7 =>
    rw [eq_ix2 x, bspread_at _ y 1 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece8 =>
    rw [eq_ix2 x, bspread_at _ y 2 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece9 =>
    rw [eq_ix2 x, bspread_at _ y 2 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece10 =>
    rw [eq_ix2 x, bspread_at _ y 2 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece11 =>
    rw [eq_ix2 x, bspread_at _ y 2 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece12 =>
    rw [eq_ix2 x, bspread_at _ y 3 3 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece13 =>
    rw [eq_ix2 x, bspread_at _ y 3 2 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece14 =>
    rw [eq_ix2 x, bspread_at _ y 3 1 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece15 =>
    rw [eq_ix2 x, bspread_at _ y 3 0 (x 0) (x 1) (h0.trans (by simp)) (h1.trans (by simp))]
    change fn (Vdw _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepB10.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out10_B (hc : ¬ t.val % 32 = 0) : (outsAt0 m c t.val t.isLt).2.2.1 =
    bspread (BK (iblk m c 0 t) (iblk m c 1 t) (iblk m c 2 t) (iblk m c 3 t) (iblk m c 4 t) (iblk m c 6 t) (iblk m c 5 t) (outsAt0 m c (t.val - 1) (Nat.lt_of_le_of_lt (Nat.sub_le _ _) t.isLt)).2.2.2.2) := by
  rw [outsAt0_B m c t hc]
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) _).2.2.2.2 = xs
  open_payloads_core
  simp only [Vdvn_fold, Vnext_fold, Vdw_fold, Vdkd_fold, Vrow_fold]
  funext y
  canon_tiles x h
  case piece0 =>
    rw [eq_ix2 x, bspread_at _ y 0 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, bspread_at _ y 0 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, bspread_at _ y 0 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, bspread_at _ y 0 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece4 =>
    rw [eq_ix2 x, bspread_at _ y 1 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece5 =>
    rw [eq_ix2 x, bspread_at _ y 1 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece6 =>
    rw [eq_ix2 x, bspread_at _ y 1 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece7 =>
    rw [eq_ix2 x, bspread_at _ y 1 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece8 =>
    rw [eq_ix2 x, bspread_at _ y 2 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece9 =>
    rw [eq_ix2 x, bspread_at _ y 2 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece10 =>
    rw [eq_ix2 x, bspread_at _ y 2 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece11 =>
    rw [eq_ix2 x, bspread_at _ y 2 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece12 =>
    rw [eq_ix2 x, bspread_at _ y 3 3 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece13 =>
    rw [eq_ix2 x, bspread_at _ y 3 2 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece14 =>
    rw [eq_ix2 x, bspread_at _ y 3 1 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece15 =>
    rw [eq_ix2 x, bspread_at _ y 3 0 (x 0) (x 1) (h0.trans (by simp)) (h1.trans (by simp))]
    change fn (Vdkd _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepB11.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out11_B (hc : ¬ t.val % 32 = 0) : (outsAt0 m c t.val t.isLt).2.2.2.1 =
    brow (BR (iblk m c 0 t) (iblk m c 1 t) (iblk m c 2 t) (iblk m c 3 t) (iblk m c 4 t) (iblk m c 5 t) (iblk m c 7 t) (outsAt0 m c (t.val - 1) (Nat.lt_of_le_of_lt (Nat.sub_le _ _) t.isLt)).2.2.2.2) := by
  rw [outsAt0_B m c t hc]
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) _).2.2.2.2 = xs
  open_payloads_core
  simp only [Vdvn_fold, Vnext_fold, Vdw_fold, Vdkd_fold, Vrow_fold]
  funext y
  canon_tiles x h
  case piece0 =>
    rw [eq_ix2 x, brow_at _ y 0 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    rw [eq_ix2 x, brow_at _ y 1 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    rw [eq_ix2 x, brow_at _ y 2 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    rw [eq_ix2 x, brow_at _ y 3 (x 0) (x 1) (h0.trans (by simp)) (h1.trans (by simp))]
    change fn (Vrow 3#32 (Vrow 2#32 (Vrow 1#32 (Vrow 0#32 (broadcast S64x128 (Scalar.ofBits .f32 0x00000000#32)) _ _) _ _) _ _) _ _) (x 0) (x 1) = _
    simp only [Vdvn_fn, Vnext_fn, Vdw_fn, Vdkd_fn, Vrow_fn, fn_zero, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.StepB12.lean ====
module

public import proofs.«01_k».proof.Proof.Scan.Block

@[expose] public section

set_option maxRecDepth 16384

noncomputable section

namespace Cert.Scan.Kernel

open Idealize.ShloMosaic Cert.KernelIdeal Cert.KernelIdeal.Gen

variable (m : (ℓ : Loc nD τ sig) → Buf (Elt Ideal) ℓ) (c : Dev nD) (t : Fin cfg0.N)

theorem out12_B (hc : ¬ t.val % 32 = 0) : (outsAt0 m c t.val t.isLt).2.2.2.2 =
    bstate (fun h => BD (iblk m c 0 t) (iblk m c 1 t) (iblk m c 2 t) (iblk m c 3 t) (iblk m c 4 t) (iblk m c 5 t) (outsAt0 m c (t.val - 1) (Nat.lt_of_le_of_lt (Nat.sub_le _ _) t.isLt)).2.2.2.2 h 4) := by
  rw [outsAt0_B m c t hc]
  frame_open
  simp (disch := decide) only [↓ View.readCov_skip, ↓ View.readCov_cons_toLoadRect, ↓ View.readCov_fill]
  frame_out
  simp only [read_unread_whole]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize (outsAt0 m c (t.val - 1) _).2.2.2.2 = xs
  open_payloads_core
  simp only [Vdvn_fold, Vnext_fold, Vdw_fold, Vdkd_fold, Vrow_fold]
  funext y
  have hy := (y 0).isLt
  have hy1 := (y 1).isLt
  simp only [S512x128] at hy hy1
  refine canon_step _ _ _ _ _ y _ ?piece0 fun n0 => canon_step _ _ _ _ _ y _ ?piece1 fun n1 => canon_step _ _ _ _ _ y _ ?piece2 fun n2 =>
    canon_step _ _ _ _ _ y _ ?piece3 fun n3 => ?none
  case none =>
    exfalso
    simp only [Fin.forall_fin_two] at n0 n1 n2 n3
    simp at n0 n1 n2 n3 hy hy1
    omega
  case piece0 =>
    intro x hx
    have h0 := hx 0
    have h1 := hx 1
    rw [eq_ix2 x, bstate_at _ y 3 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece1 =>
    intro x hx
    have h0 := hx 0
    have h1 := hx 1
    rw [eq_ix2 x, bstate_at _ y 2 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece2 =>
    intro x hx
    have h0 := hx 0
    have h1 := hx 1
    rw [eq_ix2 x, bstate_at _ y 1 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]
  case piece3 =>
    intro x hx
    have h0 := hx 0
    have h1 := hx 1
    rw [eq_ix2 x, bstate_at _ y 0 (x 0) (x 1) (h0.trans (by simp)) (h1.trans (by simp))]
    change fn (Vnext _ _ _ _ _ _) (x 0) (x 1) = _
    simp only [Vdvn_fn, Vnext_fn, Vdw_fn, Vdkd_fn, Vrow_fn, fn_ld0, fn_ld1, fn_ld2, fn_ld3, fn_ld4, fn_ld5, fn_ld6, fn_ld7, fn_ldf32]
    simp only [BV, BD, BDw, BK, BR, BDc, Nat.reduceMul, Nat.reduceSub, Nat.reduceAdd]

end Cert.Scan.Kernel
end
-- ==== Proof.Scan.Kernel.lean ====
/- The kernel's four results as whole arrays. -/
module

public import proofs.«01_k».proof.Proof.Scan.Arrays
public import proofs.«01_k».proof.Proof.Scan.StepA8
public import proofs.«01_k».proof.Proof.Scan.StepA9
public import proofs.«01_k».proof.Proof.Scan.StepA10
public import proofs.«01_k».proof.Proof.Scan.StepA11
public import proofs.«01_k».proof.Proof.Scan.StepA12
public import proofs.«01_k».proof.Proof.Scan.StepB8
public import proofs.«01_k».proof.Proof.Scan.StepB9
public import proofs.«01_k».proof.Proof.Scan.StepB10
public import proofs.«01_k».proof.Proof.Scan.StepB11
public import proofs.«01_k».proof.Proof.Scan.StepB12

@[expose] public section

set_option maxRecDepth 16384

noncomputable section

namespace Cert.Scan.Kernel

open Idealize.ShloMosaic Idealize.ShloMosaic.TcCoe Cert.KernelIdeal Cert.KernelIdeal.Gen

variable (m : (ℓ : Loc nD τ sig) → Buf (Elt Ideal) ℓ) (c : Dev nD) (t : Fin cfg0.N)

theorem sub_bstate (f : ℕ → Sta) (h : Fin 4) : sub (p := 128) (q := 128) (bstate f) (h.val * 128) 0 = f h.val := by
  funext d e
  rw [sub, dif_pos ⟨by omega, by omega⟩]
  exact bstate_at f _ h.val d e rfl (Nat.zero_add _)

theorem chk_ch (r : ℕ) (hr : r < 4) : chk t (3 - r) = ch (4 * t.val + r) := by
  have ht := tlt t
  apply Fin.ext
  simp only [chk, ch]
  omega

/-- Over a carried state that is the recurrence's, a block's steps are the recurrence's. -/
theorem BD_eq (xs : Vec Ideal S512x128 .f32) (h : Fin 4) (hx : sub xs (h.val * 128) 0 = (X m c).D h (4 * t.val)) (r : ℕ) (hr : r ≤ 4) :
    BD (iblk m c 0 t) (iblk m c 1 t) (iblk m c 2 t) (iblk m c 3 t) (iblk m c 4 t) (iblk m c 5 t) xs h.val r = (X m c).D h (4 * t.val + r) := by
  induction r with
  | zero => exact hx
  | succ r ih =>
    have e5 := blk5 m c t ⟨3 - r, by omega⟩ h
    have e3 := blk3 m c t ⟨3 - r, by omega⟩ h
    have e0 := blk0 m c t ⟨3 - r, by omega⟩ h
    have e1 := blk1 m c t ⟨3 - r, by omega⟩ h
    have e2 := blk2 m c t ⟨3 - r, by omega⟩ h
    have e4 := blk4 m c t ⟨3 - r, by omega⟩ h
    simp only [chk_ch t r (by omega)] at e0 e1 e2 e3 e4 e5
    rw [BD, ih (by omega), ← Nat.add_assoc, Data.D]
    rw [← e0, ← e1, ← e2, ← e3, ← e4, ← e5]

theorem BV_eq (xs : Vec Ideal S512x128 .f32) (h cb : Fin 4) (hx : sub xs (h.val * 128) 0 = (X m c).D h (4 * t.val)) :
    BV (iblk m c 0 t) (iblk m c 1 t) (iblk m c 2 t) (iblk m c 3 t) (iblk m c 4 t) (iblk m c 5 t) xs cb.val h.val = (X m c).dv (chk t cb.val) h := by
  have ht := tlt t
  have e : 127 - (chk t cb.val).val = 4 * t.val + (3 - cb.val) := by simp only [chk]; omega
  rw [BV, Data.dv, e, ← BD_eq m c t xs h hx (3 - cb.val) (by omega), ← blk0, ← blk2, ← blk4]

theorem BDw_eq (xs : Vec Ideal S512x128 .f32) (h cb : Fin 4) (hx : sub xs (h.val * 128) 0 = (X m c).D h (4 * t.val)) :
    BDw (iblk m c 0 t) (iblk m c 1 t) (iblk m c 2 t) (iblk m c 3 t) (iblk m c 4 t) (iblk m c 5 t) (iblk m c 7 t) xs cb.val h.val = (X m c).dw (chk t cb.val) h := by
  have ht := tlt t
  have e : 127 - (chk t cb.val).val = 4 * t.val + (3 - cb.val) := by simp only [chk]; omega
  rw [BDw, Data.dw, BV_eq m c t xs h cb hx, ← blk7]

theorem BK_eq (xs : Vec Ideal S512x128 .f32) (h cb : Fin 4) (hx : sub xs (h.val * 128) 0 = (X m c).D h (4 * t.val)) :
    BK (iblk m c 0 t) (iblk m c 1 t) (iblk m c 2 t) (iblk m c 3 t) (iblk m c 4 t) (iblk m c 6 t) (iblk m c 5 t) xs cb.val h.val = (X m c).dkd (chk t cb.val) h := by
  have ht := tlt t
  have e : 127 - (chk t cb.val).val = 4 * t.val + (3 - cb.val) := by simp only [chk]; omega
  rw [BK, Data.dkd, e, ← BD_eq m c t xs h hx (3 - cb.val) (by omega), ← blk6]

theorem BDc_eq (xs : Vec Ideal S512x128 .f32) (h cb : Fin 4) (hx : sub xs (h.val * 128) 0 = (X m c).D h (4 * t.val)) :
    BDc (iblk m c 0 t) (iblk m c 1 t) (iblk m c 2 t) (iblk m c 3 t) (iblk m c 4 t) (iblk m c 5 t) (iblk m c 7 t) xs cb.val h.val = (X m c).dc (chk t cb.val) h := by
  have ht := tlt t
  have e : 127 - (chk t cb.val).val = 4 * t.val + (3 - cb.val) := by simp only [chk]; omega
  rw [BDc, Data.dc, e, ← BD_eq m c t xs h hx (3 - cb.val) (by omega), ← blk7]

theorem pay2_zero : k0_pay2 (F := Ideal) = fun _ => 0 := by
  funext y
  pointwise [k0_pay2]

/-- What the point before leaves, or the zeros that the first point stores. -/
def carried : Vec Ideal S512x128 .f32 :=
  if t.val % 32 = 0 then k0_pay2 (F := Ideal) else (outsAt0 m c (t.val - 1) (Nat.lt_of_le_of_lt (Nat.sub_le _ _) t.isLt)).2.2.2.2

theorem out8 : (outsAt0 m c t.val t.isLt).1 = bspread (BV (iblk m c 0 t) (iblk m c 1 t) (iblk m c 2 t) (iblk m c 3 t) (iblk m c 4 t) (iblk m c 5 t) (carried m c t)) := by
  by_cases h : t.val % 32 = 0
  · rw [carried, if_pos h, out8_A m c t h]
  · rw [carried, if_neg h, out8_B m c t h]

theorem out9 : (outsAt0 m c t.val t.isLt).2.1 = bspread (BDw (iblk m c 0 t) (iblk m c 1 t) (iblk m c 2 t) (iblk m c 3 t) (iblk m c 4 t) (iblk m c 5 t) (iblk m c 7 t) (carried m c t)) := by
  by_cases h : t.val % 32 = 0
  · rw [carried, if_pos h, out9_A m c t h]
  · rw [carried, if_neg h, out9_B m c t h]

theorem out10 : (outsAt0 m c t.val t.isLt).2.2.1 = bspread (BK (iblk m c 0 t) (iblk m c 1 t) (iblk m c 2 t) (iblk m c 3 t) (iblk m c 4 t) (iblk m c 6 t) (iblk m c 5 t) (carried m c t)) := by
  by_cases h : t.val % 32 = 0
  · rw [carried, if_pos h, out10_A m c t h]
  · rw [carried, if_neg h, out10_B m c t h]

theorem out11 : (outsAt0 m c t.val t.isLt).2.2.2.1 = brow (BR (iblk m c 0 t) (iblk m c 1 t) (iblk m c 2 t) (iblk m c 3 t) (iblk m c 4 t) (iblk m c 5 t) (iblk m c 7 t) (carried m c t)) := by
  by_cases h : t.val % 32 = 0
  · rw [carried, if_pos h, out11_A m c t h]
  · rw [carried, if_neg h, out11_B m c t h]

theorem out12 : (outsAt0 m c t.val t.isLt).2.2.2.2 = bstate (fun h => BD (iblk m c 0 t) (iblk m c 1 t) (iblk m c 2 t) (iblk m c 3 t) (iblk m c 4 t) (iblk m c 5 t) (carried m c t) h 4) := by
  by_cases h : t.val % 32 = 0
  · rw [carried, if_pos h, out12_A m c t h]
  · rw [carried, if_neg h, out12_B m c t h]

/-- The state a point begins with is the recurrence's. -/
theorem carried_eq (n : ℕ) (hn : n < cfg0.N) (h : Fin 4) :
    sub (carried m c ⟨n, hn⟩) (h.val * 128) 0 = (X m c).D h (4 * n) := by
  induction n with
  | zero =>
    rw [carried, if_pos (Nat.zero_mod _), pay2_zero]
    funext d e
    rw [sub, dif_pos ⟨by omega, by omega⟩]
    rfl
  | succ n ih =>
    have hN := tlt ⟨n + 1, hn⟩
    simp only at hN
    have e := out12 m c ⟨n, by omega⟩
    rw [carried, if_neg (by simp only; omega)]
    simp only [Nat.add_sub_cancel]
    rw [e, sub_bstate]
    exact BD_eq m c ⟨n, by omega⟩ _ h (ih (by omega)) 4 (le_refl _)

/-- A block that holds, chunk by chunk and head by head, what the array's chunks hold is the array's block. -/
theorem spread_blk (f : Fin 128 → Fin 4 → Mat) (g : ℕ → ℕ → Mat) (hfg : ∀ cb h : Fin 4, g cb.val h.val = f (chk t cb.val) h)
    (y : S256x512.Idx) (i : S8192x512.Idx) (e0 : (i 0).val = (31 - t.val) * 256 + (y 0).val) (e1 : (i 1).val = (y 1).val) :
    bspread g y = spread f i := by
  have ht := tlt t
  have hy : (y 0).val < 256 := (y 0).isLt
  have hy1 : (y 1).val < 512 := (y 1).isLt
  have h := hfg ⟨(y 0).val / 64, by omega⟩ ⟨(y 1).val / 128, by omega⟩
  simp only at h
  have hf : ∀ (n n' : Fin 128) (a a' : Fin 4) (k k' : Fin 64) (d d' : Fin 128), n.val = n'.val → a.val = a'.val → k.val = k'.val → d.val = d'.val →
      f n a k d = f n' a' k' d' := by
    intro n n' a a' k k' d d' h1 h2 h3 h4
    rw [Fin.ext h1, Fin.ext h2, Fin.ext h3, Fin.ext h4]
  rw [bspread, spread, h]
  apply hf <;> simp only [chk] <;> omega

/-- The same of the rows of the decays' gradients. -/
theorem spreadC_blk (f : Fin 128 → Fin 4 → EReal) (g : ℕ → Fin 128 → EReal)
    (hfg : ∀ (cb : Fin 4) (l : Fin 128), g cb.val l = if h : l.val < 4 then f (chk t cb.val) ⟨l.val, h⟩ else 0)
    (y : S256x128.Idx) (i : S8192x128.Idx) (e0 : (i 0).val = (31 - t.val) * 256 + (y 0).val) (e1 : (i 1).val = (y 1).val) :
    brow g y = spreadC f i := by
  have ht := tlt t
  have hy : (y 0).val < 256 := (y 0).isLt
  have h := hfg ⟨(y 0).val / 64, by omega⟩ (y 1)
  have hf : ∀ (n n' : Fin 128) (a a' : Fin 4), n.val = n'.val → a.val = a'.val → f n a = f n' a' := by
    intro n n' a a' h1 h2
    rw [Fin.ext h1, Fin.ext h2]
  rw [brow, spreadC]
  refine h.trans ?_
  by_cases hl : (y 1).val < 4
  · rw [dif_pos hl, dif_pos (by omega)]
    apply hf <;> simp only [chk] <;> omega
  · rw [dif_neg hl, dif_neg (by omega)]

theorem BR_eq (xs : Vec Ideal S512x128 .f32) (cb : Fin 4) (hx : ∀ h : Fin 4, sub xs (h.val * 128) 0 = (X m c).D h (4 * t.val)) (l : Fin 128) :
    BR (iblk m c 0 t) (iblk m c 1 t) (iblk m c 2 t) (iblk m c 3 t) (iblk m c 4 t) (iblk m c 5 t) (iblk m c 7 t) xs cb.val l = if h : l.val < 4 then (X m c).dc (chk t cb.val) ⟨l.val, h⟩ else 0 := by
  have e0 := BDc_eq m c t xs 0 cb (hx 0)
  have e1 := BDc_eq m c t xs 1 cb (hx 1)
  have e2 := BDc_eq m c t xs 2 cb (hx 2)
  have e3 := BDc_eq m c t xs 3 cb (hx 3)
  have key : ∀ k : ℕ, k < 4 → (BitVec.ofNat 32 l.val = BitVec.ofNat 32 k ↔ l.val = k) := by
    intro k hk
    constructor
    · intro h
      have h' := congrArg BitVec.toNat h
      simp only [BitVec.toNat_ofNat] at h'
      omega
    · intro h
      rw [h]
  rw [BR]
  simp only [show (0#32 : BitVec 32) = BitVec.ofNat 32 0 from rfl, show (1#32 : BitVec 32) = BitVec.ofNat 32 1 from rfl,
    show (2#32 : BitVec 32) = BitVec.ofNat 32 2 from rfl, show (3#32 : BitVec 32) = BitVec.ofNat 32 3 from rfl,
    key 0 (by omega), key 1 (by omega), key 2 (by omega), key 3 (by omega)]
  change ((0 + if l.val = 0 then BDc _ _ _ _ _ _ _ _ cb.val (0 : Fin 4).val else 0) + (if l.val = 1 then BDc _ _ _ _ _ _ _ _ cb.val (1 : Fin 4).val else 0) +
    (if l.val = 2 then BDc _ _ _ _ _ _ _ _ cb.val (2 : Fin 4).val else 0) + if l.val = 3 then BDc _ _ _ _ _ _ _ _ cb.val (3 : Fin 4).val else 0) = _
  rw [e0, e1, e2, e3]
  by_cases h : l.val < 4
  · rw [dif_pos h]
    obtain ⟨l, hl⟩ := l
    simp only at h ⊢
    interval_cases l <;> simp
  · rw [dif_neg h, if_neg (by omega), if_neg (by omega), if_neg (by omega), if_neg (by omega)]
    simp

theorem arr8 : (dats m 0 c).arrAt 8 cfg0.N = spread (X m c).dv := by
  refine (dats m 0 c).arrAt_eq_of_covers 8 _ (by decide +kernel) fun t hf y => ?_
  blk_simp
  rw [after0_8, out8]
  exact spread_blk t _ _ (fun cb h => BV_eq m c t _ h cb (carried_eq m c t.val t.isLt h)) y _ (by blk_simp [idx t]) (by blk_simp [idx t])

theorem arr9 : (dats m 0 c).arrAt 9 cfg0.N = spread (X m c).dw := by
  refine (dats m 0 c).arrAt_eq_of_covers 9 _ (by decide +kernel) fun t hf y => ?_
  blk_simp
  rw [after0_9, out9]
  exact spread_blk t _ _ (fun cb h => BDw_eq m c t _ h cb (carried_eq m c t.val t.isLt h)) y _ (by blk_simp [idx t]) (by blk_simp [idx t])

theorem arr10 : (dats m 0 c).arrAt 10 cfg0.N = spread (X m c).dkd := by
  refine (dats m 0 c).arrAt_eq_of_covers 10 _ (by decide +kernel) fun t hf y => ?_
  blk_simp
  rw [after0_10, out10]
  exact spread_blk t _ _ (fun cb h => BK_eq m c t _ h cb (carried_eq m c t.val t.isLt h)) y _ (by blk_simp [idx t]) (by blk_simp [idx t])

theorem arr11 : (dats m 0 c).arrAt 11 cfg0.N = spreadC (X m c).dc := by
  refine (dats m 0 c).arrAt_eq_of_covers 11 _ (by decide +kernel) fun t hf y => ?_
  blk_simp
  rw [after0_11, out11]
  exact spreadC_blk t _ _ (fun cb l => BR_eq m c t _ cb (fun h => carried_eq m c t.val t.isLt h) l) y _ (by blk_simp [idx t]) (by blk_simp [idx t])

end Cert.Scan.Kernel
end
-- ==== Proof.Scan.Reference.lean ====
/- One trip of the reference's loop read at an index, and the loop's values by induction over the trips. -/
module

public import proofs.«01_k».proof.Proof.Scan.Model
public import proofs.«01_k».proof.Proof.Gen.ReferenceIdeal.Step
public import Idealize.ShloMosaic.Lib.Pipeline.Value
public import Idealize.ShloMosaic.Lib.DynamicIndex

@[expose] public section

set_option maxRecDepth 16384

noncomputable section

namespace Cert.Scan.Reference

open Idealize.ShloMosaic Cert.ReferenceIdeal Cert.ReferenceIdeal.Gen Cert.ReferenceIdeal.Step

variable (j : ℕ) (hj : j < 128) (s : State Ideal)

include hj in
theorem b3_toInt (i : S_.Idx) : ((b3 j s) i).toInt = ((127 - j : ℕ) : ℤ) := by
  have : (b3 j s) i = BitVec.ofNat 32 (127 - j) := by
    show (128#32 - BitVec.ofNat 32 j) - 1#32 = _
    apply BitVec.eq_of_toNat_eq
    simp only [BitVec.toNat_sub, BitVec.toNat_ofNat]
    omega
  rw [this, BitVec.toInt_eq_toNat_of_lt (by rw [BitVec.toNat_ofNat]; omega), BitVec.toNat_ofNat]
  omega

include hj in
theorem start5 (i : S_.Idx) (a : Fin 5) :
    ((![(b3 j s), constantI S_ 32 0#32, constantI S_ 32 0#32, constantI S_ 32 0#32, constantI S_ 32 0#32] : Fin 5 → (⟨S_, .i32⟩ : BufTy).Contents (Elt Ideal)) a i).toInt
      = ((![127 - j, 0, 0, 0, 0] a : ℕ) : ℤ) := by
  fin_cases a
  · exact b3_toInt j hj s i
  all_goals rfl

include hj in
theorem start3 (i : S_.Idx) (a : Fin 3) :
    ((![(b3 j s), constantI S_ 32 0#32, constantI S_ 32 0#32] : Fin 3 → (⟨S_, .i32⟩ : BufTy).Contents (Elt Ideal)) a i).toInt
      = ((![127 - j, 0, 0] a : ℕ) : ℤ) := by
  fin_cases a
  · exact b3_toInt j hj s i
  all_goals rfl

include hj in
theorem b9_apply (h : Fin 4) (d e : Fin 128) : b9 j s (ix4 0 h d e) = s.main_v34_0 (ix5 (ch j) 0 h d e) := by
  have : b8 j s = extractStridedSlice S1x1x4x128x128 ![127 - j, 0, 0, 0, 0] s.main_v34_0 ⟨rfl, by intro a; fin_cases a <;> simp <;> omega⟩ :=
    Host.dynamicSlice_eq_extractStridedSlice _ _ _ _ _ _ (fun a => start5 j hj s _ a)
  unfold b9
  rw [this]
  pointwise
  rfl

include hj in
theorem b15_apply (h : Fin 4) (d : Fin 64) (e : Fin 128) : b15 j s (ix4 0 h d e) = s.main_v34_1 (ix5 (ch j) 0 h d e) := by
  have : b14 j s = extractStridedSlice S1x1x4x64x128 ![127 - j, 0, 0, 0, 0] s.main_v34_1 ⟨rfl, by intro a; fin_cases a <;> simp <;> omega⟩ :=
    Host.dynamicSlice_eq_extractStridedSlice _ _ _ _ _ _ (fun a => start5 j hj s _ a)
  unfold b15
  rw [this]
  pointwise
  rfl

include hj in
theorem b21_apply (h : Fin 4) (d : Fin 64) (e : Fin 128) : b21 j s (ix4 0 h d e) = s.main_v34_2 (ix5 (ch j) 0 h d e) := by
  have : b20 j s = extractStridedSlice S1x1x4x64x128 ![127 - j, 0, 0, 0, 0] s.main_v34_2 ⟨rfl, by intro a; fin_cases a <;> simp <;> omega⟩ :=
    Host.dynamicSlice_eq_extractStridedSlice _ _ _ _ _ _ (fun a => start5 j hj s _ a)
  unfold b21
  rw [this]
  pointwise
  rfl

include hj in
theorem b27_apply (h : Fin 4) (d : Fin 64) (e : Fin 128) : b27 j s (ix4 0 h d e) = s.main_v34_3 (ix5 (ch j) 0 h d e) := by
  have : b26 j s = extractStridedSlice S1x1x4x64x128 ![127 - j, 0, 0, 0, 0] s.main_v34_3 ⟨rfl, by intro a; fin_cases a <;> simp <;> omega⟩ :=
    Host.dynamicSlice_eq_extractStridedSlice _ _ _ _ _ _ (fun a => start5 j hj s _ a)
  unfold b27
  rw [this]
  pointwise
  rfl

include hj in
theorem b33_apply (h : Fin 4) (d e : Fin 64) : b33 j s (ix4 0 h d e) = s.main_v34_4 (ix5 (ch j) 0 h d e) := by
  have : b32 j s = extractStridedSlice S1x1x4x64x64 ![127 - j, 0, 0, 0, 0] s.main_v34_4 ⟨rfl, by intro a; fin_cases a <;> simp <;> omega⟩ :=
    Host.dynamicSlice_eq_extractStridedSlice _ _ _ _ _ _ (fun a => start5 j hj s _ a)
  unfold b33
  rw [this]
  pointwise
  rfl

include hj in
theorem b39_apply (h : Fin 4) (d : Fin 64) (e : Fin 128) : b39 j s (ix4 0 h d e) = s.main_v34_5 (ix5 (ch j) 0 h d e) := by
  have : b38 j s = extractStridedSlice S1x1x4x64x128 ![127 - j, 0, 0, 0, 0] s.main_v34_5 ⟨rfl, by intro a; fin_cases a <;> simp <;> omega⟩ :=
    Host.dynamicSlice_eq_extractStridedSlice _ _ _ _ _ _ (fun a => start5 j hj s _ a)
  unfold b39
  rw [this]
  pointwise
  rfl

include hj in
theorem b49_apply (h : Fin 4) (d : Fin 64) (e : Fin 128) : b49 j s (ix4 0 h d e) = s.main_v34_7 (ix5 (ch j) 0 h d e) := by
  have : b48 j s = extractStridedSlice S1x1x4x64x128 ![127 - j, 0, 0, 0, 0] s.main_v34_7 ⟨rfl, by intro a; fin_cases a <;> simp <;> omega⟩ :=
    Host.dynamicSlice_eq_extractStridedSlice _ _ _ _ _ _ (fun a => start5 j hj s _ a)
  unfold b49
  rw [this]
  pointwise
  rfl

include hj in
theorem b43_apply (h : Fin 4) : b43 j s (ix2 0 h) = s.main_v34_6 (ix3 (ch j) 0 h) := by
  have : b42 j s = extractStridedSlice S1x1x4 ![127 - j, 0, 0] s.main_v34_6 ⟨rfl, by intro a; fin_cases a <;> simp <;> omega⟩ :=
    Host.dynamicSlice_eq_extractStridedSlice _ _ _ _ _ _ (fun a => start3 j hj s _ a)
  unfold b43
  rw [this]
  pointwise
  rfl

theorem b73_apply (h : Fin 4) (k : Fin 64) (e : Fin 128) : b73 j s (ix4 0 h k e) =
    dvn (fun i k => b33 j s (ix4 0 h i k)) (fun k d => b39 j s (ix4 0 h k d)) (fun k d => b49 j s (ix4 0 h k d))
      (fun d e => s.main_v34_9 (ix4 0 h d e)) k e := by
  unfold b73 b72 b71 b61 b60
  pointwise [dvn]
  rw [add_comm]
  congr 1 <;> exact Finset.sum_congr rfl fun _ _ => mul_comm _ _

theorem b51_apply (h : Fin 4) (k : Fin 64) (e : Fin 128) : b51 j s (ix4 0 h k e) =
    b27 j s (ix4 0 h k e) - ∑ d, b21 j s (ix4 0 h k d) * b9 j s (ix4 0 h d e) := by
  pointwise [b51, b50]

theorem b83_apply (h : Fin 4) (k : Fin 64) (e : Fin 128) : b83 j s (ix4 0 h k e) =
    ∑ d, (-b73 j s (ix4 0 h k d)) * b9 j s (ix4 0 h e d) := by
  pointwise [b83, b79]

theorem b63_apply (h : Fin 4) (k : Fin 64) (e : Fin 128) : b63 j s (ix4 0 h k e) =
    dkd (fun k d => b51 j s (ix4 0 h k d)) (fun d e => s.main_v34_9 (ix4 0 h d e)) k e := by
  pointwise [b63, b62, dkd]
  exact Finset.sum_congr rfl fun _ _ => mul_comm _ _

theorem b70_apply (h : Fin 4) : b70 j s (ix2 0 h) =
    dc (fun d e => s.main_v34_9 (ix4 0 h d e)) (fun d e => b9 j s (ix4 0 h d e)) := by
  unfold b70 b67 b66
  pointwise [b65, b64, dc]
  exact Finset.sum_congr rfl fun _ _ => Finset.sum_congr rfl fun _ _ => mul_comm _ _

theorem b82_apply (h : Fin 4) (d e : Fin 128) : b82 j s (ix4 0 h d e) =
    s.main_v34_9 (ix4 0 h d e) * b43 j s (ix2 0 h) + ∑ x, b15 j s (ix4 0 h x d) * b49 j s (ix4 0 h x e) +
      ∑ x, -b73 j s (ix4 0 h x e) * b21 j s (ix4 0 h x d) := by
  pointwise [b82, b81, b80, b77, b76, b75, b69, b68, b56, b55, b79]
  congr 2; exact Finset.sum_congr rfl fun _ _ => mul_comm _ _

include hj in
theorem b95_apply (n : Fin 128) (h : Fin 4) (k : Fin 64) (e : Fin 128) : b95 j s (ix5 n 0 h k e) =
    if n = ch j then b83 j s (ix4 0 h k e) else s.main_v34_11 (ix5 n 0 h k e) := by
  have : b95 j s = updateSlice s.main_v34_11 (b90 j s) ![127 - j, 0, 0, 0, 0] ⟨rfl, by intro a; fin_cases a <;> simp <;> omega⟩ :=
    Host.dynamicUpdateSlice_eq_updateSlice _ _ _ _ _ (fun a => by
      refine (congrArg (fun z : ℤ => (min (max z 0) _).toNat) (start5 j hj s _ a)).trans ?_
      fin_cases a <;> simp <;> omega) _
  rw [this]
  pointwise [b90]
  have hn : n = ch j ↔ 127 - j ≤ n.val ∧ n.val < 127 - j + 1 := by rw [Fin.ext_iff, ch]; simp only; omega
  by_cases hc : n = ch j
  · rw [dif_pos (hn.1 hc), if_pos hc]
  · rw [dif_neg (fun h => hc (hn.2 h)), if_neg hc]

include hj in
theorem b101_apply (n : Fin 128) (h : Fin 4) (k : Fin 64) (e : Fin 128) : b101 j s (ix5 n 0 h k e) =
    if n = ch j then b73 j s (ix4 0 h k e) else s.main_v34_12 (ix5 n 0 h k e) := by
  have : b101 j s = updateSlice s.main_v34_12 (b96 j s) ![127 - j, 0, 0, 0, 0] ⟨rfl, by intro a; fin_cases a <;> simp <;> omega⟩ :=
    Host.dynamicUpdateSlice_eq_updateSlice _ _ _ _ _ (fun a => by
      refine (congrArg (fun z : ℤ => (min (max z 0) _).toNat) (start5 j hj s _ a)).trans ?_
      fin_cases a <;> simp <;> omega) _
  rw [this]
  pointwise [b96]
  have hn : n = ch j ↔ 127 - j ≤ n.val ∧ n.val < 127 - j + 1 := by rw [Fin.ext_iff, ch]; simp only; omega
  by_cases hc : n = ch j
  · rw [dif_pos (hn.1 hc), if_pos hc]
  · rw [dif_neg (fun h => hc (hn.2 h)), if_neg hc]

include hj in
theorem b113_apply (n : Fin 128) (h : Fin 4) (k : Fin 64) (e : Fin 128) : b113 j s (ix5 n 0 h k e) =
    if n = ch j then b63 j s (ix4 0 h k e) else s.main_v34_14 (ix5 n 0 h k e) := by
  have : b113 j s = updateSlice s.main_v34_14 (b108 j s) ![127 - j, 0, 0, 0, 0] ⟨rfl, by intro a; fin_cases a <;> simp <;> omega⟩ :=
    Host.dynamicUpdateSlice_eq_updateSlice _ _ _ _ _ (fun a => by
      refine (congrArg (fun z : ℤ => (min (max z 0) _).toNat) (start5 j hj s _ a)).trans ?_
      fin_cases a <;> simp <;> omega) _
  rw [this]
  pointwise [b108]
  have hn : n = ch j ↔ 127 - j ≤ n.val ∧ n.val < 127 - j + 1 := by rw [Fin.ext_iff, ch]; simp only; omega
  by_cases hc : n = ch j
  · rw [dif_pos (hn.1 hc), if_pos hc]
  · rw [dif_neg (fun h => hc (hn.2 h)), if_neg hc]

include hj in
theorem b117_apply (n : Fin 128) (h : Fin 4) : b117 j s (ix3 n 0 h) =
    if n = ch j then b70 j s (ix2 0 h) else s.main_v34_15 (ix3 n 0 h) := by
  have : b117 j s = updateSlice s.main_v34_15 (b114 j s) ![127 - j, 0, 0] ⟨rfl, by intro a; fin_cases a <;> simp <;> omega⟩ :=
    Host.dynamicUpdateSlice_eq_updateSlice _ _ _ _ _ (fun a => by
      refine (congrArg (fun z : ℤ => (min (max z 0) _).toNat) (start3 j hj s _ a)).trans ?_
      fin_cases a <;> simp <;> omega) _
  rw [this]
  pointwise [b114]
  have hn : n = ch j ↔ 127 - j ≤ n.val ∧ n.val < 127 - j + 1 := by rw [Fin.ext_iff, ch]; simp only; omega
  by_cases hc : n = ch j
  · rw [dif_pos (hn.1 hc), if_pos hc]
  · rw [dif_neg (fun h => hc (hn.2 h)), if_neg hc]

/-- The data read out of the loop's constants. -/
def dataOf (s : State Ideal) : Data where
  at_ n h i k := s.main_v34_4 (ix5 n 0 h i k)
  q n h k d := s.main_v34_1 (ix5 n 0 h k d)
  w n h k d := s.main_v34_2 (ix5 n 0 h k d)
  u n h k d := s.main_v34_3 (ix5 n 0 h k d)
  kd n h k d := s.main_v34_5 (ix5 n 0 h k d)
  dO n h k d := s.main_v34_7 (ix5 n 0 h k d)
  s n h d e := s.main_v34_0 (ix5 n 0 h d e)
  c n h := s.main_v34_6 (ix3 n 0 h)

theorem dataOf_step : dataOf (step j s) = dataOf s := rfl

theorem dataOf_init (a0 a1 a2 a3 a4 a5 a6) :
    dataOf (init (F := Ideal) a0 a1 a2 a3 a4 a5 a6) = data a0 a1 a2 a3 a4 a5 a6 := by
  unfold dataOf data init
  congr 1
  · funext n h i k; pointwise [A_main_v20, A_main_v19, A_main_v18]; rfl
  · funext n h i k; pointwise [A_main_v9, A_main_v8, A_main_v7, A_main_v6]; rfl
  · funext n h i k; pointwise [A_main_v13, A_main_v12, A_main_v11, A_main_v10]; rfl
  · funext n h i k; pointwise [A_main_v17, A_main_v16, A_main_v15, A_main_v14]; rfl
  · funext n h i k; pointwise [A_main_v24, A_main_v23, A_main_v22, A_main_v21]; rfl
  · funext n h i k; pointwise [A_main_v27, A_main_v26, A_main_v25]; rfl
  · funext n h i k; pointwise [A_main_v1, A_main_v0]
  · funext n h; pointwise [A_main_v5, A_main_v4, A_main_v3]; rfl

/-- What holds before trip `j`: the carried state's gradient, and the chunks already handled. -/
structure At (X : Data) (j : ℕ) (s : State Ideal) : Prop where
  hX : dataOf s = X
  D : ∀ h d e, s.main_v34_9 (ix4 0 h d e) = X.D h j d e
  dv : ∀ n : Fin 128, 127 - n.val < j → ∀ h k e, s.main_v34_12 (ix5 n 0 h k e) = X.dv n h k e
  dw : ∀ n : Fin 128, 127 - n.val < j → ∀ h k e, s.main_v34_11 (ix5 n 0 h k e) = X.dw n h k e
  dkd : ∀ n : Fin 128, 127 - n.val < j → ∀ h k e, s.main_v34_14 (ix5 n 0 h k e) = X.dkd n h k e
  dc : ∀ n : Fin 128, 127 - n.val < j → ∀ h, s.main_v34_15 (ix3 n 0 h) = X.dc n h

theorem at_init (X : Data) (a0 a1 a2 a3 a4 a5 a6) (hX : data a0 a1 a2 a3 a4 a5 a6 = X) : At X 0 (init (F := Ideal) a0 a1 a2 a3 a4 a5 a6) where
  hX := (dataOf_init a0 a1 a2 a3 a4 a5 a6).trans hX
  D h d e := by unfold init; pointwise [K_main_v2, K_main_cst, Data.D]
  dv n hn := absurd hn (by omega)
  dw n hn := absurd hn (by omega)
  dkd n hn := absurd hn (by omega)
  dc n hn := absurd hn (by omega)

theorem at_step {X : Data} (FX : X.Finite) {j : ℕ} (hj : j < 128) {s : State Ideal} (A : At X j s) : At X (j + 1) (step j s) := by
  have hD : (fun h d e => s.main_v34_9 (ix4 0 h d e)) = fun h => X.D h j := by funext h d e; exact A.D h d e
  have h73 : ∀ h k e, b73 j s (ix4 0 h k e) = dvn (X.at_ (ch j) h) (X.kd (ch j) h) (X.dO (ch j) h) (X.D h j) k e := fun h k e => by
    rw [b73_apply]
    simp only [b33_apply j hj, b39_apply j hj, b49_apply j hj, A.D]
    rw [← A.hX]; rfl
  have hcv : 127 - (ch j).val = j := by simp only [ch]; omega
  have h73' : ∀ h k e, b73 j s (ix4 0 h k e) = X.dv (ch j) h k e := fun h k e => by
    rw [h73, Data.dv, hcv]
  have hfin : ∀ h k e, Fin' (X.dv (ch j) h k e) := fun h k e =>
    dvn_fin (FX.at_ _ _) (FX.kd _ _) (FX.dO _ _) (FX.D h _) k e
  have hs : ∀ h d e, b9 j s (ix4 0 h d e) = X.s (ch j) h d e := fun h d e => by
    rw [b9_apply j hj, ← A.hX]; rfl
  have hw : ∀ h d e, b21 j s (ix4 0 h d e) = X.w (ch j) h d e := fun h d e => by
    rw [b21_apply j hj, ← A.hX]; rfl
  have hlt : ∀ n : Fin 128, 127 - n.val < j + 1 → n ≠ ch j → 127 - n.val < j := fun n h1 h2 => by
    have : n.val ≠ 127 - j := fun h => h2 (Fin.ext h)
    omega
  refine ⟨(dataOf_step j s).trans A.hX, ?_, ?_, ?_, ?_, ?_⟩
  · intro h d e
    rw [step_main_v34_9, b82_apply]
    simp only [h73', hw]
    rw [sum_neg_mul (fun k => hfin h k e) (fun k => FX.w _ _ k d), ← sub_eq_add_neg, b43_apply j hj, A.D]
    simp only [b15_apply j hj, b49_apply j hj]
    rw [Data.D, nextD]
    have : dvn (X.at_ (ch j) h) (X.kd (ch j) h) (X.dO (ch j) h) (X.D h j) = X.dv (ch j) h := by rw [Data.dv, hcv]
    rw [this]
    have hc : s.main_v34_6 (ix3 (ch j) 0 h) = X.c (ch j) h := by rw [← A.hX]; rfl
    rw [hc]
    refine congrArg₂ (· - ·) ?_ (Finset.sum_congr rfl fun _ _ => mul_comm _ _)
    rw [← A.hX]; rfl
  · intro n hn h k e
    rw [step_main_v34_12, b101_apply j hj]
    split_ifs with hc
    · rw [hc, h73']
    · exact A.dv n (hlt n hn hc) h k e
  · intro n hn h k e
    rw [step_main_v34_11, b95_apply j hj]
    split_ifs with hc
    · rw [hc, b83_apply]
      simp only [h73', hs]
      rw [sum_neg_mul (fun d => hfin h k d) (fun d => FX.s _ _ e d)]; rfl
    · exact A.dw n (hlt n hn hc) h k e
  · intro n hn h k e
    rw [step_main_v34_14, b113_apply j hj]
    split_ifs with hc
    · rw [hc, b63_apply, Data.dkd, hcv]
      simp only [b51_apply, hs, hw, b27_apply j hj, A.D]
      rw [← A.hX]; rfl
    · exact A.dkd n (hlt n hn hc) h k e
  · intro n hn h
    rw [step_main_v34_15, b117_apply j hj]
    split_ifs with hc
    · rw [hc, b70_apply, Data.dc, hcv]
      simp only [hs, A.D]
    · exact A.dc n (hlt n hn hc) h

/-- What holds after the last trip. -/
theorem at_end {X : Data} (FX : X.Finite) (it : ℕ → State Ideal) (h0 : At X 0 (it 0)) (hs : ∀ n, it (n + 1) = step n (it n)) :
    At X 128 (it 128) := by
  suffices ∀ j ≤ 128, At X j (it j) from this 128 le_rfl
  intro j
  induction j with
  | zero => exact fun _ => h0
  | succ j ih => intro hj; rw [hs]; exact at_step FX (by omega) (ih (by omega))

variable {s} {X : Data} (A : At X 128 s)
include A

theorem out_dv : R_main_v43 s = spread X.dv := by
  funext i
  rw [eq_ix2 i]
  unfold R_main_v43 spread
  pointwise
  exact A.dv _ (by omega) _ _ _

theorem out_dw : R_main_v46 s = spread X.dw := by
  funext i
  rw [eq_ix2 i]
  unfold R_main_v46 spread
  pointwise
  exact A.dw _ (by omega) _ _ _

theorem out_dkd : R_main_v49 s = spread X.dkd := by
  funext i
  rw [eq_ix2 i]
  unfold R_main_v49 spread
  pointwise
  exact A.dkd _ (by omega) _ _ _

theorem out_dc : R_main_v40 s = spreadC X.dc := by
  funext i
  rw [eq_ix2 i]
  unfold R_main_v40 spreadC
  pointwise
  split_ifs with h
  · exact A.dc _ (by omega) _
  · rfl

end Cert.Scan.Reference

end
-- ==== Proof.Scan.ReferenceRun.lean ====
/- The reference's run over its state: what the loop's buffers hold before each trip. -/
module

public import proofs.«01_k».proof.Proof.Gen.ReferenceIdeal.Run
public import proofs.«01_k».proof.Proof.Gen.ReferenceIdeal.Step

@[expose] public section

set_option maxRecDepth 16384

noncomputable section

namespace Cert.Scan.Reference

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F] (V : Valuation τ sig (Elt F)) (j : ℕ)

/-- The state that a valuation holds in the loop's buffers. -/
def stateOf : State F :=
  ⟨V (Proc.devRef .tc main_v34_9), V (Proc.devRef .tc main_v34_10), V (Proc.devRef .tc main_v34_11), V (Proc.devRef .tc main_v34_12), V (Proc.devRef .tc main_v34_13), V (Proc.devRef .tc main_v34_14), V (Proc.devRef .tc main_v34_15), V (Proc.devRef .tc main_v34_0), V (Proc.devRef .tc main_v34_1), V (Proc.devRef .tc main_v34_2), V (Proc.devRef .tc main_v34_3), V (Proc.devRef .tc main_v34_4), V (Proc.devRef .tc main_v34_5), V (Proc.devRef .tc main_v34_6), V (Proc.devRef .tc main_v34_7)⟩

variable {V j} (h : V (Proc.devRef .tc main_v34_8) = constantI S_ 32 (BitVec.ofNat 32 j))

include h in
/-- The chunk that the trip reads and writes. -/
theorem chunk_eq : res_main_while0b_v51 V = b3 j (stateOf V) := by
  unfold res_main_while0b_v51 b3 b1
  rw [h]
  rfl

include h in
theorem v52_eq : res_main_while0b_v52 V = b9 j (stateOf V) := by
  unfold res_main_while0b_v52
  simp only [chunk_eq h]
  rfl

include h in
theorem v53_eq : res_main_while0b_v53 V = b15 j (stateOf V) := by
  unfold res_main_while0b_v53
  simp only [chunk_eq h, v52_eq h]
  rfl

include h in
theorem v54_eq : res_main_while0b_v54 V = b21 j (stateOf V) := by
  unfold res_main_while0b_v54
  simp only [chunk_eq h, v52_eq h, v53_eq h]
  rfl

include h in
theorem v56_eq : res_main_while0b_v56 V = b33 j (stateOf V) := by
  unfold res_main_while0b_v56
  simp only [chunk_eq h, v52_eq h, v53_eq h, v54_eq h]
  rfl

include h in
theorem v57_eq : res_main_while0b_v57 V = b39 j (stateOf V) := by
  unfold res_main_while0b_v57
  simp only [chunk_eq h, v52_eq h, v53_eq h, v54_eq h, v56_eq h]
  rfl

include h in
theorem v59_eq : res_main_while0b_v59 V = b49 j (stateOf V) := by
  unfold res_main_while0b_v59
  simp only [chunk_eq h, v52_eq h, v53_eq h, v54_eq h, v56_eq h, v57_eq h]
  rfl

include h in
theorem v61_eq : res_main_while0b_v61 V = b51 j (stateOf V) := by
  unfold res_main_while0b_v61
  simp only [chunk_eq h, v52_eq h, v53_eq h, v54_eq h, v56_eq h, v57_eq h, v59_eq h]
  rfl

include h in
theorem v65_eq : res_main_while0b_v65 V = b55 j (stateOf V) := by
  unfold res_main_while0b_v65
  simp only [chunk_eq h, v52_eq h, v53_eq h, v54_eq h, v56_eq h, v57_eq h, v59_eq h, v61_eq h]
  rfl

include h in
theorem v82_eq : res_main_while0b_v82 V = b73 j (stateOf V) := by
  unfold res_main_while0b_v82
  simp only [chunk_eq h, v52_eq h, v53_eq h, v54_eq h, v56_eq h, v57_eq h, v59_eq h, v61_eq h, v65_eq h]
  rfl

include h in
theorem v88_eq : res_main_while0b_v88 V = b79 j (stateOf V) := by
  unfold res_main_while0b_v88
  simp only [chunk_eq h, v52_eq h, v53_eq h, v54_eq h, v56_eq h, v57_eq h, v59_eq h, v61_eq h, v65_eq h, v82_eq h]
  rfl

include h in
theorem trip_9 : Value.step_main_v34_9 V = b82 j (stateOf V) := by
  unfold Value.step_main_v34_9
  simp only [id_eq, chunk_eq h, v52_eq h, v53_eq h, v54_eq h, v56_eq h, v57_eq h, v59_eq h, v61_eq h, v65_eq h, v82_eq h, v88_eq h]
  rfl

include h in
theorem trip_10 : Value.step_main_v34_10 V = b89 j (stateOf V) := by
  unfold Value.step_main_v34_10
  simp only [id_eq, chunk_eq h, v52_eq h, v53_eq h, v54_eq h, v56_eq h, v57_eq h, v59_eq h, v61_eq h, v65_eq h, v82_eq h, v88_eq h]
  rfl

include h in
theorem trip_11 : Value.step_main_v34_11 V = b95 j (stateOf V) := by
  unfold Value.step_main_v34_11
  simp only [id_eq, chunk_eq h, v52_eq h, v53_eq h, v54_eq h, v56_eq h, v57_eq h, v59_eq h, v61_eq h, v65_eq h, v82_eq h, v88_eq h]
  rfl

include h in
theorem trip_12 : Value.step_main_v34_12 V = b101 j (stateOf V) := by
  unfold Value.step_main_v34_12
  simp only [id_eq, chunk_eq h, v52_eq h, v53_eq h, v54_eq h, v56_eq h, v57_eq h, v59_eq h, v61_eq h, v65_eq h, v82_eq h, v88_eq h]
  rfl

include h in
theorem trip_13 : Value.step_main_v34_13 V = b107 j (stateOf V) := by
  unfold Value.step_main_v34_13
  simp only [id_eq, chunk_eq h, v52_eq h, v53_eq h, v54_eq h, v56_eq h, v57_eq h, v59_eq h, v61_eq h, v65_eq h, v82_eq h, v88_eq h]
  rfl

include h in
theorem trip_14 : Value.step_main_v34_14 V = b113 j (stateOf V) := by
  unfold Value.step_main_v34_14
  simp only [id_eq, chunk_eq h, v52_eq h, v53_eq h, v54_eq h, v56_eq h, v57_eq h, v59_eq h, v61_eq h, v65_eq h, v82_eq h, v88_eq h]
  rfl

include h in
theorem trip_15 : Value.step_main_v34_15 V = b117 j (stateOf V) := by
  unfold Value.step_main_v34_15
  simp only [id_eq, chunk_eq h, v52_eq h, v53_eq h, v54_eq h, v56_eq h, v57_eq h, v59_eq h, v61_eq h, v65_eq h, v82_eq h, v88_eq h]
  rfl

include h in
/-- One trip makes the next state of the state. -/
theorem stateOf_STEP : stateOf (STEP V) = step j (stateOf V) := by
  unfold stateOf
  rw [STEP_main_v34_9, STEP_main_v34_10, STEP_main_v34_11, STEP_main_v34_12, STEP_main_v34_13, STEP_main_v34_14, STEP_main_v34_15, STEP_main_v34_0, STEP_main_v34_1, STEP_main_v34_2, STEP_main_v34_3, STEP_main_v34_4, STEP_main_v34_5, STEP_main_v34_6, STEP_main_v34_7, trip_9 h, trip_10 h, trip_11 h, trip_12 h, trip_13 h, trip_14 h, trip_15 h]
  rfl

include h in
/-- And the next trip's number. -/
theorem number_STEP : STEP V (Proc.devRef .tc main_v34_8) = constantI S_ 32 (BitVec.ofNat 32 (j + 1)) := by
  rw [STEP_main_v34_8]
  unfold Value.step_main_v34_8
  rw [h]
  funext i
  show BitVec.ofNat 32 j + 1#32 = BitVec.ofNat 32 (j + 1)
  simp only [BitVec.ofNat_add]

variable (m : (ℓ : Loc nD τ sig) → Buf (Elt F) ℓ) (c : Dev nD)

/-- The state before the first trip. -/
def first : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- The states before each trip. -/
def states : ℕ → State F
  | 0 => first m c
  | n + 1 => step n (states n)

set_option maxRecDepth 65536 in
theorem number_entry : entryContents preI m c (Proc.devRef .tc main_v34_8) = constantI S_ 32 (BitVec.ofNat 32 0) := by
  simp only [entryContents, afterL_cons, afterL_nil]
  after_reads_simp
  rfl

set_option maxRecDepth 65536 in
set_option maxHeartbeats 1000000 in
theorem stateOf_entry : stateOf (entryContents preI m c) = first m c := by
  unfold stateOf
  simp only [entryContents, afterL_cons, afterL_nil]
  after_reads_simp
  rfl

theorem iterate_eq (k : ℕ) : stateOf (STEP^[k] (entryContents preI m c)) = states m c k ∧
    (STEP^[k] (entryContents preI m c)) (Proc.devRef .tc main_v34_8) = constantI S_ 32 (BitVec.ofNat 32 k) := by
  induction k with
  | zero => exact ⟨stateOf_entry m c, number_entry m c⟩
  | succ k ih =>
    rw [Function.iterate_succ_apply']
    exact ⟨(stateOf_STEP ih.2).trans (by rw [ih.1]; rfl), number_STEP ih.2⟩

theorem out_43 (W : Valuation τ sig (Elt F)) : out_main_v43 W = R_main_v43 (stateOf W) := by
  unfold out_main_v43 R_main_v43
  rfl

theorem out_46 (W : Valuation τ sig (Elt F)) : out_main_v46 W = R_main_v46 (stateOf W) := by
  unfold out_main_v46 R_main_v46
  rfl

theorem out_49 (W : Valuation τ sig (Elt F)) : out_main_v49 W = R_main_v49 (stateOf W) := by
  unfold out_main_v49 R_main_v49
  rfl

theorem out_40 (W : Valuation τ sig (Elt F)) : out_main_v40 W = R_main_v40 (stateOf W) := by
  unfold out_main_v40 R_main_v40
  rfl

/-- The reference runs, and ends with its results read off the state after the last trip. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v43) = R_main_v43 (states m c 128)
      ∧ r.2.mem ((c.tc : Thread nD τ).loc main_v46) = R_main_v46 (states m c 128)
      ∧ r.2.mem ((c.tc : Thread nD τ).loc main_v49) = R_main_v49 (states m c 128)
      ∧ r.2.mem ((c.tc : Thread nD τ).loc main_v40) = R_main_v40 (states m c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => by
    obtain ⟨h0, h1, h2, h3, h⟩ := h c
    have hk := (iterate_eq m c 128).1
    exact ⟨(h0.trans (out_43 _)).trans (congrArg R_main_v43 hk), (h1.trans (out_46 _)).trans (congrArg R_main_v46 hk),
      (h2.trans (out_49 _)).trans (congrArg R_main_v49 hk), (h3.trans (out_40 _)).trans (congrArg R_main_v40 hk), h⟩) (run m ρ)

end Cert.Scan.Reference

end
-- ==== Proof.Scan.Claim.lean ====
/- The scan's gradient: the kernel's results are the reference's. -/
module

public import proofs.«01_k».proof.Defs
public import proofs.«01_k».proof.Proof.Scan.Kernel
public import proofs.«01_k».proof.Proof.Scan.Reference
public import proofs.«01_k».proof.Proof.Scan.ReferenceRun
public import proofs.«01_k».proof.Proof.Gen.Pre_finite
public import proofs.«01_k».proof.Proof.Gen.KernelIdeal.Frame

@[expose] public section

set_option maxRecDepth 16384

noncomputable section

namespace Cert.Scan

open Idealize.ShloMosaic Idealize.ShloMosaic.TcCoe Idealize.SL.Sem

/-- The pattern of infinity reads as infinity. -/
theorem inf_top : Idealize.ShloMosaic.Ideal.ofBits FTy.f32 2139095040#32 = (⊤ : EReal) := by
  simp [Idealize.ShloMosaic.Ideal.ofBits, Idealize.ShloMosaic.Ideal.ieee]

/-- An extended real whose absolute value compares below infinity is finite. -/
theorem fin_of_lt {x : EReal} (h : BitVec.ofBool (decide (FloatOps.absf (F := Idealize.ShloMosaic.Ideal) (φ := .f32) x < Idealize.ShloMosaic.Ideal.ofBits FTy.f32 2139095040#32)) = 1#1) : Fin' x := by
  rw [inf_top] at h
  change BitVec.ofBool (decide (max x (-x) < ⊤)) = 1#1 at h
  by_cases hd : max x (-x) < ⊤
  · obtain ⟨h1, h2⟩ := max_lt_iff.mp hd
    refine ⟨h1.ne, fun e => ?_⟩
    rw [e] at h2
    simp at h2
  · rw [decide_eq_false hd] at h
    exact absurd h (by decide)

open Cert.KernelIdeal Cert.KernelIdeal.Gen in
/-- Under the precondition all that the scan reads is finite. -/
theorem finite_of_pre (m : (ℓ : Loc nD τ sig) → Buf (Elt Idealize.ShloMosaic.Ideal) ℓ) (h : Cert.Pre_KernelIdeal_finite (hPre_finite := Cert.Pre_finite.Gen.facts) m) (c : Dev nD) :
    (Kernel.X m c).Finite := by
  obtain ⟨h0, h1, h2, h3, h4, h5, h6⟩ := h c
  have e0 : ∀ i, Fin' ((m ((c.tc : Thread nD τ).loc main_arg0) : S8192x1024.Idx → EReal) i) := fun i => by
    have hi := congrFun h0 i
    revert hi
    pointwise [Cert.Pre_finite.fn, Cert.Pre_finite.fn_part1]
    exact fin_of_lt
  have e1 : ∀ i, Fin' ((m ((c.tc : Thread nD τ).loc main_arg1) : S8192x256.Idx → EReal) i) := fun i => by
    have hi := congrFun h1 i
    revert hi
    pointwise [Cert.Pre_finite.fn, Cert.Pre_finite.fn_part1]
    exact fin_of_lt
  have e2 : ∀ i, Fin' ((m ((c.tc : Thread nD τ).loc main_arg2) : S8192x512.Idx → EReal) i) := fun i => by
    have hi := congrFun h2 i
    revert hi
    pointwise [Cert.Pre_finite.fn, Cert.Pre_finite.fn_part1]
    exact fin_of_lt
  have e3 : ∀ i, Fin' ((m ((c.tc : Thread nD τ).loc main_arg3) : S8192x512.Idx → EReal) i) := fun i => by
    have hi := congrFun h3 i
    revert hi
    pointwise [Cert.Pre_finite.fn, Cert.Pre_finite.fn_part1]
    exact fin_of_lt
  have e4 : ∀ i, Fin' ((m ((c.tc : Thread nD τ).loc main_arg4) : S8192x128.Idx → EReal) i) := fun i => by
    have hi := congrFun h4 i
    revert hi
    pointwise [Cert.Pre_finite.fn, Cert.Pre_finite.fn_part1]
    exact fin_of_lt
  have e5 : ∀ i, Fin' ((m ((c.tc : Thread nD τ).loc main_arg5) : S65536x128.Idx → EReal) i) := fun i => by
    have hi := congrFun h5 i
    revert hi
    pointwise [Cert.Pre_finite.fn, Cert.Pre_finite.fn_part1]
    exact fin_of_lt
  have e6 : ∀ i, Fin' ((m ((c.tc : Thread nD τ).loc main_arg6) : S8192x512.Idx → EReal) i) := fun i => by
    have hi := congrFun h6 i
    revert hi
    pointwise [Cert.Pre_finite.fn, Cert.Pre_finite.fn_part1]
    exact fin_of_lt
  exact ⟨fun _ _ _ _ => e1 _, fun _ _ _ _ => e2 _, fun _ _ _ _ => e0 _, fun _ _ _ _ => e3 _, fun _ _ _ _ => e6 _, fun _ _ _ _ => e5 _, fun _ _ => e4 _⟩

/-- The reference runs, leaves its arguments as they were, and declares no semaphore. -/
theorem frame_reference : Cert.quiescent_ReferenceIdeal (hReferenceIdeal := Cert.ReferenceIdeal.Gen.facts) := fun m g _ =>
  (θ_run _ _ _).mono (fun r h => ⟨fun c => (h c).2.2.2.2, sem_eq_zero_of_no_sems (by decide) r.2⟩) (Reference.run_states m g)

/-- The scan's gradient as the kernel computes it is the derivative of the plain scan. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => spread (Kernel.X m c).dv, fun c => spread (Kernel.X m c).dw, fun c => spread (Kernel.X m c).dkd, fun c => spreadC (Kernel.X m c).dc, ?_, ?_⟩
  · refine (θ_run _ _ _).mono (fun r h c => ?_) (Cert.KernelIdeal.Value.run_blocks m g)
    obtain ⟨h0, h1, h2, h3, h⟩ := h c
    exact ⟨h0.trans (Kernel.arr8 m c), h1.trans (Kernel.arr9 m c), h2.trans (Kernel.arr10 m c), h3.trans (Kernel.arr11 m c), h⟩
  · have hX : ∀ c : Dev Cert.KernelIdeal.nD, data (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) = Kernel.X m c := fun c => by
      obtain ⟨h0, h1, h2, h3, h4, h5, h6⟩ := hargs c
      rw [h0, h1, h2, h3, h4, h5, h6]
      rfl
    refine (θ_run _ _ _).mono (fun r h c => ?_) (Reference.run_states m' g')
    have A := Reference.at_end (finite_of_pre m hpre c) (Reference.states m' c) (Reference.at_init _ _ _ _ _ _ _ _ (hX c)) (fun _ => rfl)
    obtain ⟨h0, h1, h2, h3, h⟩ := h c
    exact ⟨h0.trans (Reference.out_dv A), h1.trans (Reference.out_dw A), h2.trans (Reference.out_dkd A), h3.trans (Reference.out_dc A), h⟩

end Cert.Scan

end
-- ==== Proof.Product.Runs.lean ====
/- A sum of products that a kernel collects in a scratch array over a run of consecutive grid points: the first point
   of a run stores its term, the points between add theirs, and the last point writes the sum to the result. -/
module

public import Mathlib.Data.EReal.Operations
public import Idealize.ShloMosaic.Lib.Pipeline.ValueKit

@[expose] public section

open Idealize.ShloMosaic

namespace Cert.Product

variable {N : ℕ} {ι : Type}

/-- What the last point of a run of `J + 2` points writes is the sum of the run's terms. -/
theorem last_eq_sum (out acc : (n : ℕ) → n < N → ι → EReal) (J : ℕ) (term : Fin N → ι → EReal)
    (first : ∀ t : Fin N, t.val % (J + 2) = 0 → ∀ i, acc t.val t.isLt i = 0 + term t i)
    (between : ∀ t : Fin N, ¬t.val % (J + 2) = 0 → ¬t.val % (J + 2) = J + 1 → ∀ i,
      acc t.val t.isLt i = acc (t.val - 1) (Nat.lt_of_le_of_lt (Nat.sub_le _ _) t.isLt) i + term t i)
    (last : ∀ t : Fin N, t.val % (J + 2) = J + 1 → ∀ i,
      out t.val t.isLt i = acc (t.val - 1) (Nat.lt_of_le_of_lt (Nat.sub_le _ _) t.isLt) i + term t i)
    (t : Fin N) (hl : t.val % (J + 2) = J + 1) (i : ι) :
    out t.val t.isLt i
      = ∑ s : Fin (J + 2), term ⟨(J + 2) * (t.val / (J + 2)) + s.val, Pipeline.run_point_lt_of_flush t hl s⟩ i := by
  have before : ∀ t : Fin N, ¬t.val % (J + 2) = 0 → ¬(t.val - 1) % (J + 2) = J + 1 := fun t h h' => by
    have hp : t.val - 1 + 1 = t.val := Nat.sub_add_cancel (Nat.pos_of_ne_zero fun e => h (by rw [e, Nat.zero_mod]))
    exact h (by rw [← hp, Nat.add_mod, h', Nat.mod_eq_of_lt (by omega : 1 < J + 2), Nat.mod_self])
  have key := Pipeline.eq_sum_fin_of_reset_step_apply_of_flush
    (fun n h i => if n % (J + 2) = J + 1 then out n h i else acc n h i) (J + 2) (fun _ => 0) term
    (fun t h i => by
      rw [if_neg (by omega)]; exact first t h i)
    (fun t h i => by
      rw [if_neg (before t h)]
      by_cases h' : t.val % (J + 2) = J + 1
      · rw [if_pos h']; exact last t h' i
      · rw [if_neg h']; exact between t h h' i)
    t hl i
  rwa [if_pos hl, zero_add] at key

end Cert.Product
-- ==== Proof.Product.WeightIn.lean ====
/- The gradient of the weights `w_in`: the product of the transposed activations with the cotangent,
   in blocks of tokens whose products are added up. -/
module

public import proofs.«01_k».proof.Defs
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import Idealize.ShloMosaic.Adequacy
public import Idealize.ShloMosaic.Init
public import Idealize.ShloMosaic.Lib.Pipeline.ValueKit
public import Idealize.ShloMosaic.Lib.Pipeline.ReadBack
public import proofs.«01_k».proof.Proof.Product.Runs

@[expose] public section

set_option maxRecDepth 16384

noncomputable section

open Idealize.ShloMosaic Idealize.ShloMosaic.TcCoe Idealize.SL.Sem

namespace Cert.Kernel2Ideal.Value
open Cert.Kernel2Ideal Cert.Kernel2Ideal.Gen

variable (m : (ℓ : Loc nD τ sig) → Buf (Elt Ideal) ℓ)

/-- The blocks of each array at a grid point. -/
theorem idx : ∀ t : Fin cfg0.N, win0_0.index t = ![t.val % 4, 0] ∧
    win0_1.index t = ![t.val % 4, t.val / 4] ∧ win0_2.index t = ![0, t.val / 4] :=
  (by decide +kernel : ∀ t : Fin grid0.N, _)

/-- What the first point of a run stores: the product of its blocks. -/
theorem pay2 (a : Vec Ideal S2048x1024 .bf16) (b : Vec Ideal S2048x1408 .bf16) (j : S1024x1408.Idx) :
    k0_pay2 (F := Ideal) a b j = 0 + ∑ k : Fin 2048, b (ix2 k (j 1)) * a (ix2 k (j 0)) := by
  rw [zero_add]
  pointwise [k0_pay2, k0_pay1]
  exact Finset.sum_congr rfl fun _ _ => mul_comm _ _

/-- What a later point stores: the sum so far and the product of its blocks. -/
theorem pay3 (a : Vec Ideal S2048x1024 .bf16) (b : Vec Ideal S2048x1408 .bf16) (x : Vec Ideal S1024x1408 .f32) (j : S1024x1408.Idx) :
    k0_pay3 (F := Ideal) a b x j = x j + ∑ k : Fin 2048, b (ix2 k (j 1)) * a (ix2 k (j 0)) := by
  pointwise [k0_pay3, k0_pay1]
  exact congrArg _ (Finset.sum_congr rfl fun _ _ => mul_comm _ _)

/-- What the last point writes to the result: the same, cast. -/
theorem pay4 (a : Vec Ideal S2048x1024 .bf16) (b : Vec Ideal S2048x1408 .bf16) (x : Vec Ideal S1024x1408 .f32) (j : S1024x1408.Idx) :
    (k0_pay4 (F := Ideal) a b x j : EReal) = x j + ∑ k : Fin 2048, b (ix2 k (j 1)) * a (ix2 k (j 0)) := by
  pointwise [k0_pay4, k0_pay3, k0_pay1]
  exact congrArg _ (Finset.sum_congr rfl fun _ _ => mul_comm _ _)

/-- The call returns the gradient of the input projection. -/
theorem final (c : Dev nD) :
    (dats m 0 c).arrAt 2 (cfgs 0).N = Cert.Reference2Ideal.Read.val_main_v6 (m ((c : Thread nD τ).loc main_arg0))
      (m ((c : Thread nD τ).loc main_arg1)) := by
  refine (dats m 0 c).arrAt_eq_of_covers 2 _ (by decide +kernel) fun t hf y => ?_
  blk_simp
  rw [after0_2]
  have hl := (flush0_2 t).mp hf
  refine (Cert.Product.last_eq_sum (fun n h j => (outsAt0 m c n h).1 j) (fun n h j => (outsAt0 m c n h).2 j) 2 _
    (fun t h j => by
      rw [outsAt0_A m c t h (by omega) (by omega)]; frame_out; exact pay2 _ _ j)
    (fun t h h' j => by
      rw [outsAt0_B m c t h (by omega) (by omega)]; frame_out; simp only [read_unread_whole]; exact pay3 _ _ _ j)
    (fun t h j => by
      rw [outsAt0_C m c t (by omega) (by omega) (by omega)]; frame_out; simp only [read_unread_whole]
      exact pay4 _ _ _ j)
    t hl y).trans ?_
  pointwise [Cert.Reference2Ideal.Read.val_main_v6, Cert.Reference2Ideal.Read.val_main_v5, Cert.Reference2Ideal.Read.val_main_v4, Cert.Reference2Ideal.Read.val_main_v3, Cert.Reference2Ideal.Read.val_main_v1]
  refine Fin.sum_mul_add_congr fun s k _ => ?_
  blk_point [iblk, V, idx t, idx ⟨_, Pipeline.run_point_lt_of_flush t hl s⟩]

end Cert.Kernel2Ideal.Value

namespace Cert.Product

/-- The call and its reference return the same array. -/
theorem algebraic_weightIn : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · run_from Cert.Reference2Ideal.Value.run m' g'
    exact (Cert.Kernel2Ideal.Value.final m c).symm

/-- The reference terminates, and leaves its arguments and the semaphores as they were. -/
theorem frame_weightIn : Cert.quiescent_Reference2Ideal (hReference2Ideal := Cert.Reference2Ideal.Gen.facts) := fun m g _ =>
  (θ_run _ _ _).mono (fun r h => ⟨fun c => (h c).2, sem_eq_zero_of_no_sems (by decide) r.2⟩)
    (Cert.Reference2Ideal.Value.run m g)

end Cert.Product
-- ==== Proof.Product.WeightGateUp.lean ====
/- The gradient of the weights `w_gate_up`: the product of the transposed activations with the cotangent,
   in blocks of tokens whose products are added up. -/
module

public import proofs.«01_k».proof.Defs
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import Idealize.ShloMosaic.Adequacy
public import Idealize.ShloMosaic.Init
public import Idealize.ShloMosaic.Lib.Pipeline.ValueKit
public import Idealize.ShloMosaic.Lib.Pipeline.ReadBack
public import proofs.«01_k».proof.Proof.Product.Runs

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

variable (m : (ℓ : Loc nD τ sig) → Buf (Elt Ideal) ℓ)

/-- The blocks of each array at a grid point. -/
theorem idx : ∀ t : Fin cfg0.N, win0_0.index t = ![t.val % 4, 0] ∧
    win0_1.index t = ![t.val % 4, t.val / 4] ∧ win0_2.index t = ![0, t.val / 4] :=
  (by decide +kernel : ∀ t : Fin grid0.N, _)

/-- What the first point of a run stores: the product of its blocks. -/
theorem pay2 (a : Vec Ideal S2048x1024 .bf16) (b : Vec Ideal S2048x1408 .bf16) (j : S1024x1408.Idx) :
    k0_pay2 (F := Ideal) a b j = 0 + ∑ k : Fin 2048, b (ix2 k (j 1)) * a (ix2 k (j 0)) := by
  rw [zero_add]
  pointwise [k0_pay2, k0_pay1]
  exact Finset.sum_congr rfl fun _ _ => mul_comm _ _

/-- What a later point stores: the sum so far and the product of its blocks. -/
theorem pay3 (a : Vec Ideal S2048x1024 .bf16) (b : Vec Ideal S2048x1408 .bf16) (x : Vec Ideal S1024x1408 .f32) (j : S1024x1408.Idx) :
    k0_pay3 (F := Ideal) a b x j = x j + ∑ k : Fin 2048, b (ix2 k (j 1)) * a (ix2 k (j 0)) := by
  pointwise [k0_pay3, k0_pay1]
  exact congrArg _ (Finset.sum_congr rfl fun _ _ => mul_comm _ _)

/-- What the last point writes to the result: the same, cast. -/
theorem pay4 (a : Vec Ideal S2048x1024 .bf16) (b : Vec Ideal S2048x1408 .bf16) (x : Vec Ideal S1024x1408 .f32) (j : S1024x1408.Idx) :
    (k0_pay4 (F := Ideal) a b x j : EReal) = x j + ∑ k : Fin 2048, b (ix2 k (j 1)) * a (ix2 k (j 0)) := by
  pointwise [k0_pay4, k0_pay3, k0_pay1]
  exact congrArg _ (Finset.sum_congr rfl fun _ _ => mul_comm _ _)

/-- The call returns the gradient of the gate and up projections. -/
theorem final (c : Dev nD) :
    (dats m 0 c).arrAt 2 (cfgs 0).N = Cert.Reference3Ideal.Read.val_main_v6 (m ((c : Thread nD τ).loc main_arg0))
      (m ((c : Thread nD τ).loc main_arg1)) := by
  refine (dats m 0 c).arrAt_eq_of_covers 2 _ (by decide +kernel) fun t hf y => ?_
  blk_simp
  rw [after0_2]
  have hl := (flush0_2 t).mp hf
  refine (Cert.Product.last_eq_sum (fun n h j => (outsAt0 m c n h).1 j) (fun n h j => (outsAt0 m c n h).2 j) 2 _
    (fun t h j => by
      rw [outsAt0_A m c t h (by omega) (by omega)]; frame_out; exact pay2 _ _ j)
    (fun t h h' j => by
      rw [outsAt0_B m c t h (by omega) (by omega)]; frame_out; simp only [read_unread_whole]; exact pay3 _ _ _ j)
    (fun t h j => by
      rw [outsAt0_C m c t (by omega) (by omega) (by omega)]; frame_out; simp only [read_unread_whole]
      exact pay4 _ _ _ j)
    t hl y).trans ?_
  pointwise [Cert.Reference3Ideal.Read.val_main_v6, Cert.Reference3Ideal.Read.val_main_v5, Cert.Reference3Ideal.Read.val_main_v4, Cert.Reference3Ideal.Read.val_main_v3, Cert.Reference3Ideal.Read.val_main_v1]
  refine Fin.sum_mul_add_congr fun s k _ => ?_
  blk_point [iblk, V, idx t, idx ⟨_, Pipeline.run_point_lt_of_flush t hl s⟩]

end Cert.Kernel3Ideal.Value

namespace Cert.Product

/-- The call and its reference return the same array. -/
theorem algebraic_weightGateUp : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    exact (Cert.Kernel3Ideal.Value.final m c).symm

/-- The reference terminates, and leaves its arguments and the semaphores as they were. -/
theorem frame_weightGateUp : Cert.quiescent_Reference3Ideal (hReference3Ideal := Cert.Reference3Ideal.Gen.facts) := fun m g _ =>
  (θ_run _ _ _).mono (fun r h => ⟨fun c => (h c).2, sem_eq_zero_of_no_sems (by decide) r.2⟩)
    (Cert.Reference3Ideal.Value.run m g)

end Cert.Product
-- ==== Proof.Product.WeightDown.lean ====
/- The gradient of the weights `w_down`: the product of the transposed activations with the cotangent,
   in blocks of tokens whose products are added up. -/
module

public import proofs.«01_k».proof.Defs
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init
public import Idealize.ShloMosaic.Lib.Pipeline.ValueKit
public import Idealize.ShloMosaic.Lib.Pipeline.ReadBack
public import proofs.«01_k».proof.Proof.Product.Runs

@[expose] public section

set_option maxRecDepth 16384

noncomputable section

open Idealize.ShloMosaic Idealize.ShloMosaic.TcCoe Idealize.SL.Sem

namespace Cert.Kernel4Ideal.Value
open Cert.Kernel4Ideal Cert.Kernel4Ideal.Gen

variable (m : (ℓ : Loc nD τ sig) → Buf (Elt Ideal) ℓ)

/-- The blocks of each array at a grid point. -/
theorem idx : ∀ t : Fin cfg0.N, win0_0.index t = ![t.val % 4, t.val / 4] ∧
    win0_1.index t = ![t.val % 4, 0] ∧ win0_2.index t = ![t.val / 4, 0] :=
  (by decide +kernel : ∀ t : Fin grid0.N, _)

/-- What the first point of a run stores: the product of its blocks. -/
theorem pay2 (a : Vec Ideal S2048x1408 .bf16) (b : Vec Ideal S2048x1024 .f32) (j : S1408x1024.Idx) :
    k0_pay2 (F := Ideal) a b j = 0 + ∑ k : Fin 2048, b (ix2 k (j 1)) * a (ix2 k (j 0)) := by
  rw [zero_add]
  pointwise [k0_pay2, k0_pay1]
  exact Finset.sum_congr rfl fun _ _ => mul_comm _ _

/-- What a later point stores: the sum so far and the product of its blocks. -/
theorem pay3 (a : Vec Ideal S2048x1408 .bf16) (b : Vec Ideal S2048x1024 .f32) (x : Vec Ideal S1408x1024 .f32) (j : S1408x1024.Idx) :
    k0_pay3 (F := Ideal) a b x j = x j + ∑ k : Fin 2048, b (ix2 k (j 1)) * a (ix2 k (j 0)) := by
  pointwise [k0_pay3, k0_pay1]
  exact congrArg _ (Finset.sum_congr rfl fun _ _ => mul_comm _ _)

/-- What the last point writes to the result: the same, cast. -/
theorem pay4 (a : Vec Ideal S2048x1408 .bf16) (b : Vec Ideal S2048x1024 .f32) (x : Vec Ideal S1408x1024 .f32) (j : S1408x1024.Idx) :
    (k0_pay4 (F := Ideal) a b x j : EReal) = x j + ∑ k : Fin 2048, b (ix2 k (j 1)) * a (ix2 k (j 0)) := by
  pointwise [k0_pay4, k0_pay3, k0_pay1]
  exact congrArg _ (Finset.sum_congr rfl fun _ _ => mul_comm _ _)

/-- The call returns the gradient of the down projection. -/
theorem final (c : Dev nD) :
    (dats m 0 c).arrAt 2 (cfgs 0).N = Cert.Reference4Ideal.Read.val_main_v5 (m ((c : Thread nD τ).loc main_arg0))
      (m ((c : Thread nD τ).loc main_arg1)) := by
  refine (dats m 0 c).arrAt_eq_of_covers 2 _ (by decide +kernel) fun t hf y => ?_
  blk_simp
  rw [after0_2]
  have hl := (flush0_2 t).mp hf
  refine (Cert.Product.last_eq_sum (fun n h j => (outsAt0 m c n h).1 j) (fun n h j => (outsAt0 m c n h).2 j) 2 _
    (fun t h j => by
      rw [outsAt0_A m c t h (by omega) (by omega)]; frame_out; exact pay2 _ _ j)
    (fun t h h' j => by
      rw [outsAt0_B m c t h (by omega) (by omega)]; frame_out; simp only [read_unread_whole]; exact pay3 _ _ _ j)
    (fun t h j => by
      rw [outsAt0_C m c t (by omega) (by omega) (by omega)]; frame_out; simp only [read_unread_whole]
      exact pay4 _ _ _ j)
    t hl y).trans ?_
  pointwise [Cert.Reference4Ideal.Read.val_main_v5, Cert.Reference4Ideal.Read.val_main_v4, Cert.Reference4Ideal.Read.val_main_v3, Cert.Reference4Ideal.Read.val_main_v1]
  refine Fin.sum_mul_add_congr fun s k _ => ?_
  blk_point [iblk, V, idx t, idx ⟨_, Pipeline.run_point_lt_of_flush t hl s⟩]

end Cert.Kernel4Ideal.Value

namespace Cert.Product

/-- The call and its reference return the same array. -/
theorem algebraic_weightDown : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    exact (Cert.Kernel4Ideal.Value.final m c).symm

/-- The reference terminates, and leaves its arguments and the semaphores as they were. -/
theorem frame_weightDown : Cert.quiescent_Reference4Ideal (hReference4Ideal := Cert.Reference4Ideal.Gen.facts) := fun m g _ =>
  (θ_run _ _ _).mono (fun r h => ⟨fun c => (h c).2, sem_eq_zero_of_no_sems (by decide) r.2⟩)
    (Cert.Reference4Ideal.Value.run m g)

end Cert.Product
-- ==== Proof.Product.WeightOut.lean ====
/- The gradient of the weights `w_out`: the product of the transposed activations with the cotangent,
   in blocks of tokens whose products are added up. -/
module

public import proofs.«01_k».proof.Defs
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import Idealize.ShloMosaic.Adequacy
public import Idealize.ShloMosaic.Init
public import Idealize.ShloMosaic.Lib.Pipeline.ValueKit
public import Idealize.ShloMosaic.Lib.Pipeline.ReadBack
public import proofs.«01_k».proof.Proof.Product.Runs

@[expose] public section

set_option maxRecDepth 16384

noncomputable section

open Idealize.ShloMosaic Idealize.ShloMosaic.TcCoe Idealize.SL.Sem

namespace Cert.Kernel5Ideal.Value
open Cert.Kernel5Ideal Cert.Kernel5Ideal.Gen

variable (m : (ℓ : Loc nD τ sig) → Buf (Elt Ideal) ℓ)

/-- The blocks of each array at a grid point. -/
theorem idx : ∀ t : Fin cfg0.N, win0_0.index t = ![t.val % 4, 0] ∧
    win0_1.index t = ![t.val % 4, 0] ∧ win0_2.index t = ![0, 0] :=
  (by decide +kernel : ∀ t : Fin grid0.N, _)

/-- What the first point of a run stores: the product of its blocks. -/
theorem pay2 (a : Vec Ideal S2048x1024 .bf16) (b : Vec Ideal S2048x1024 .f32) (j : S1024x1024.Idx) :
    k0_pay2 (F := Ideal) a b j = 0 + ∑ k : Fin 2048, b (ix2 k (j 1)) * a (ix2 k (j 0)) := by
  rw [zero_add]
  pointwise [k0_pay2, k0_pay1]
  exact Finset.sum_congr rfl fun _ _ => mul_comm _ _

/-- What a later point stores: the sum so far and the product of its blocks. -/
theorem pay3 (a : Vec Ideal S2048x1024 .bf16) (b : Vec Ideal S2048x1024 .f32) (x : Vec Ideal S1024x1024 .f32) (j : S1024x1024.Idx) :
    k0_pay3 (F := Ideal) a b x j = x j + ∑ k : Fin 2048, b (ix2 k (j 1)) * a (ix2 k (j 0)) := by
  pointwise [k0_pay3, k0_pay1]
  exact congrArg _ (Finset.sum_congr rfl fun _ _ => mul_comm _ _)

/-- What the last point writes to the result: the same, cast. -/
theorem pay4 (a : Vec Ideal S2048x1024 .bf16) (b : Vec Ideal S2048x1024 .f32) (x : Vec Ideal S1024x1024 .f32) (j : S1024x1024.Idx) :
    (k0_pay4 (F := Ideal) a b x j : EReal) = x j + ∑ k : Fin 2048, b (ix2 k (j 1)) * a (ix2 k (j 0)) := by
  pointwise [k0_pay4, k0_pay3, k0_pay1]
  exact congrArg _ (Finset.sum_congr rfl fun _ _ => mul_comm _ _)

/-- The call returns the gradient of the output projection. -/
theorem final (c : Dev nD) :
    (dats m 0 c).arrAt 2 (cfgs 0).N = Cert.Reference5Ideal.Read.val_main_v5 (m ((c : Thread nD τ).loc main_arg0))
      (m ((c : Thread nD τ).loc main_arg1)) := by
  refine (dats m 0 c).arrAt_eq_of_covers 2 _ (by decide +kernel) fun t hf y => ?_
  blk_simp
  rw [after0_2]
  have hl := (flush0_2 t).mp hf
  refine (Cert.Product.last_eq_sum (fun n h j => (outsAt0 m c n h).1 j) (fun n h j => (outsAt0 m c n h).2 j) 2 _
    (fun t h j => by
      rw [outsAt0_A m c t h (by omega) (by omega)]; frame_out; exact pay2 _ _ j)
    (fun t h h' j => by
      rw [outsAt0_B m c t h (by omega) (by omega)]; frame_out; simp only [read_unread_whole]; exact pay3 _ _ _ j)
    (fun t h j => by
      rw [outsAt0_C m c t (by omega) (by omega) (by omega)]; frame_out; simp only [read_unread_whole]
      exact pay4 _ _ _ j)
    t hl y).trans ?_
  pointwise [Cert.Reference5Ideal.Read.val_main_v5, Cert.Reference5Ideal.Read.val_main_v4, Cert.Reference5Ideal.Read.val_main_v3, Cert.Reference5Ideal.Read.val_main_v1]
  refine Fin.sum_mul_add_congr fun s k _ => ?_
  blk_point [iblk, V, idx t, idx ⟨_, Pipeline.run_point_lt_of_flush t hl s⟩]

end Cert.Kernel5Ideal.Value

namespace Cert.Product

/-- The call and its reference return the same array. -/
theorem algebraic_weightOut : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    exact (Cert.Kernel5Ideal.Value.final m c).symm

/-- The reference terminates, and leaves its arguments and the semaphores as they were. -/
theorem frame_weightOut : Cert.quiescent_Reference5Ideal (hReference5Ideal := Cert.Reference5Ideal.Gen.facts) := fun m g _ =>
  (θ_run _ _ _).mono (fun r h => ⟨fun c => (h c).2, sem_eq_zero_of_no_sems (by decide) r.2⟩)
    (Cert.Reference5Ideal.Value.run m g)

end Cert.Product
-- ==== Proof.Product.WeightBranch.lean ====
/- The gradient of the weights `w_branch`: the product of the transposed activations with the cotangent,
   in blocks of tokens whose products are added up. -/
module

public import proofs.«01_k».proof.Defs
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init
public import Idealize.ShloMosaic.Lib.Pipeline.ValueKit
public import Idealize.ShloMosaic.Lib.Pipeline.ReadBack
public import proofs.«01_k».proof.Proof.Product.Runs

@[expose] public section

set_option maxRecDepth 16384

noncomputable section

open Idealize.ShloMosaic Idealize.ShloMosaic.TcCoe Idealize.SL.Sem

namespace Cert.Kernel6Ideal.Value
open Cert.Kernel6Ideal Cert.Kernel6Ideal.Gen

variable (m : (ℓ : Loc nD τ sig) → Buf (Elt Ideal) ℓ)

/-- The blocks of each array at a grid point. -/
theorem idx : ∀ t : Fin cfg0.N, win0_0.index t = ![t.val % 4, 0] ∧
    win0_1.index t = ![t.val % 4, 0] ∧ win0_2.index t = ![0, 0] :=
  (by decide +kernel : ∀ t : Fin grid0.N, _)

/-- What the first point of a run stores: the product of its blocks. -/
theorem pay2 (a : Vec Ideal S2048x512 .bf16) (b : Vec Ideal S2048x1024 .bf16) (j : S512x1024.Idx) :
    k0_pay2 (F := Ideal) a b j = 0 + ∑ k : Fin 2048, b (ix2 k (j 1)) * a (ix2 k (j 0)) := by
  rw [zero_add]
  pointwise [k0_pay2, k0_pay1]
  exact Finset.sum_congr rfl fun _ _ => mul_comm _ _

/-- What a later point stores: the sum so far and the product of its blocks. -/
theorem pay3 (a : Vec Ideal S2048x512 .bf16) (b : Vec Ideal S2048x1024 .bf16) (x : Vec Ideal S512x1024 .f32) (j : S512x1024.Idx) :
    k0_pay3 (F := Ideal) a b x j = x j + ∑ k : Fin 2048, b (ix2 k (j 1)) * a (ix2 k (j 0)) := by
  pointwise [k0_pay3, k0_pay1]
  exact congrArg _ (Finset.sum_congr rfl fun _ _ => mul_comm _ _)

/-- What the last point writes to the result: the same, cast. -/
theorem pay4 (a : Vec Ideal S2048x512 .bf16) (b : Vec Ideal S2048x1024 .bf16) (x : Vec Ideal S512x1024 .f32) (j : S512x1024.Idx) :
    (k0_pay4 (F := Ideal) a b x j : EReal) = x j + ∑ k : Fin 2048, b (ix2 k (j 1)) * a (ix2 k (j 0)) := by
  pointwise [k0_pay4, k0_pay3, k0_pay1]
  exact congrArg _ (Finset.sum_congr rfl fun _ _ => mul_comm _ _)

/-- The call returns the gradient of a branch projection. -/
theorem final (c : Dev nD) :
    (dats m 0 c).arrAt 2 (cfgs 0).N = Cert.Reference6Ideal.Read.val_main_v6 (m ((c : Thread nD τ).loc main_arg0))
      (m ((c : Thread nD τ).loc main_arg1)) := by
  refine (dats m 0 c).arrAt_eq_of_covers 2 _ (by decide +kernel) fun t hf y => ?_
  blk_simp
  rw [after0_2]
  have hl := (flush0_2 t).mp hf
  refine (Cert.Product.last_eq_sum (fun n h j => (outsAt0 m c n h).1 j) (fun n h j => (outsAt0 m c n h).2 j) 2 _
    (fun t h j => by
      rw [outsAt0_A m c t h (by omega) (by omega)]; frame_out; exact pay2 _ _ j)
    (fun t h h' j => by
      rw [outsAt0_B m c t h (by omega) (by omega)]; frame_out; simp only [read_unread_whole]; exact pay3 _ _ _ j)
    (fun t h j => by
      rw [outsAt0_C m c t (by omega) (by omega) (by omega)]; frame_out; simp only [read_unread_whole]
      exact pay4 _ _ _ j)
    t hl y).trans ?_
  pointwise [Cert.Reference6Ideal.Read.val_main_v6, Cert.Reference6Ideal.Read.val_main_v5, Cert.Reference6Ideal.Read.val_main_v4, Cert.Reference6Ideal.Read.val_main_v3, Cert.Reference6Ideal.Read.val_main_v1]
  refine Fin.sum_mul_add_congr fun s k _ => ?_
  blk_point [iblk, V, idx t, idx ⟨_, Pipeline.run_point_lt_of_flush t hl s⟩]

end Cert.Kernel6Ideal.Value

namespace Cert.Product

/-- The call and its reference return the same array. -/
theorem algebraic_weightBranch : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    exact (Cert.Kernel6Ideal.Value.final m c).symm

/-- The reference terminates, and leaves its arguments and the semaphores as they were. -/
theorem frame_weightBranch : Cert.quiescent_Reference6Ideal (hReference6Ideal := Cert.Reference6Ideal.Gen.facts) := fun m g _ =>
  (θ_run _ _ _).mono (fun r h => ⟨fun c => (h c).2, sem_eq_zero_of_no_sems (by decide) r.2⟩)
    (Cert.Reference6Ideal.Value.run m g)

end Cert.Product
-- ==== Proof.Product.InputIn.lean ====
/- The gradient with respect to what the weights `w_in` multiply: the product of the cotangent with the
   transposed weights. -/
module

public import proofs.«01_k».proof.Defs
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel7Ideal.Value
open Cert.Kernel7Ideal Cert.Kernel7Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, 0] ∧
    win0_2.index t = ![(grid0.coords t 0).val, 0] :=
  (by decide +kernel : ∀ t : Fin grid0.N, _)

/-- The call returns the gradient through the input projection. -/
theorem final (c : Dev nD) :
    (dats m 0 c).arrAt 2 (cfgs 0).N = Cert.Reference7Ideal.Read.val_main_v4 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference7Ideal.Read.val_main_v4, Cert.Reference7Ideal.Read.val_main_v3, Cert.Reference7Ideal.Read.val_main_v1]
  blk_point [iblk, V, idx t]

end Cert.Kernel7Ideal.Value

namespace Cert.Product

/-- The call and its reference return the same array. -/
theorem algebraic_inputIn : Cert.algebraic_Kernel7Ideal_Reference7Ideal (hKernel7Ideal := Cert.Kernel7Ideal.Gen.facts)
    (hReference7Ideal := Cert.Reference7Ideal.Gen.facts) := by
  pair_intro
  · run_from Cert.Kernel7Ideal.Gen.run_main m g
  · run_from Cert.Reference7Ideal.Value.run m' g'
    exact (Cert.Kernel7Ideal.Value.final m c).symm

/-- The reference terminates, and leaves its arguments and the semaphores as they were. -/
theorem frame_inputIn : Cert.quiescent_Reference7Ideal (hReference7Ideal := Cert.Reference7Ideal.Gen.facts) := fun m g _ =>
  (θ_run _ _ _).mono (fun r h => ⟨fun c => (h c).2, sem_eq_zero_of_no_sems (by decide) r.2⟩)
    (Cert.Reference7Ideal.Value.run m g)

end Cert.Product
-- ==== Proof.Product.InputGateUp.lean ====
/- The gradient with respect to what the weights `w_gate_up` multiply: the product of the cotangent with the
   transposed weights. -/
module

public import proofs.«01_k».proof.Defs
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel8Ideal.Value
open Cert.Kernel8Ideal Cert.Kernel8Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, 0] ∧
    win0_2.index t = ![(grid0.coords t 0).val, 0] :=
  (by decide +kernel : ∀ t : Fin grid0.N, _)

/-- The call returns the gradient through the gate and up projections. -/
theorem final (c : Dev nD) :
    (dats m 0 c).arrAt 2 (cfgs 0).N = Cert.Reference8Ideal.Read.val_main_v4 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference8Ideal.Read.val_main_v4, Cert.Reference8Ideal.Read.val_main_v3, Cert.Reference8Ideal.Read.val_main_v1]
  blk_point [iblk, V, idx t]

end Cert.Kernel8Ideal.Value

namespace Cert.Product

/-- The call and its reference return the same array. -/
theorem algebraic_inputGateUp : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · run_from Cert.Reference8Ideal.Value.run m' g'
    exact (Cert.Kernel8Ideal.Value.final m c).symm

/-- The reference terminates, and leaves its arguments and the semaphores as they were. -/
theorem frame_inputGateUp : Cert.quiescent_Reference8Ideal (hReference8Ideal := Cert.Reference8Ideal.Gen.facts) := fun m g _ =>
  (θ_run _ _ _).mono (fun r h => ⟨fun c => (h c).2, sem_eq_zero_of_no_sems (by decide) r.2⟩)
    (Cert.Reference8Ideal.Value.run m g)

end Cert.Product
-- ==== Proof.Product.InputDown.lean ====
/- The gradient with respect to what the weights `w_down` multiply: the product of the cotangent with the
   transposed weights. -/
module

public import proofs.«01_k».proof.Defs
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel9Ideal.Value
open Cert.Kernel9Ideal Cert.Kernel9Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![(grid0.coords t 1).val, 0] ∧
    win0_2.index t = ![(grid0.coords t 0).val, (grid0.coords t 1).val] :=
  (by decide +kernel : ∀ t : Fin grid0.N, _)

/-- The call returns the gradient through the down projection. -/
theorem final (c : Dev nD) :
    (dats m 0 c).arrAt 2 (cfgs 0).N = Cert.Reference9Ideal.Read.val_main_v4 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference9Ideal.Read.val_main_v4, Cert.Reference9Ideal.Read.val_main_v3, Cert.Reference9Ideal.Read.val_main_v1]
  blk_point [iblk, V, idx t]

end Cert.Kernel9Ideal.Value

namespace Cert.Product

/-- The call and its reference return the same array. -/
theorem algebraic_inputDown : Cert.algebraic_Kernel9Ideal_Reference9Ideal (hKernel9Ideal := Cert.Kernel9Ideal.Gen.facts)
    (hReference9Ideal := Cert.Reference9Ideal.Gen.facts) := by
  pair_intro
  · run_from Cert.Kernel9Ideal.Gen.run_main m g
  · run_from Cert.Reference9Ideal.Value.run m' g'
    exact (Cert.Kernel9Ideal.Value.final m c).symm

/-- The reference terminates, and leaves its arguments and the semaphores as they were. -/
theorem frame_inputDown : Cert.quiescent_Reference9Ideal (hReference9Ideal := Cert.Reference9Ideal.Gen.facts) := fun m g _ =>
  (θ_run _ _ _).mono (fun r h => ⟨fun c => (h c).2, sem_eq_zero_of_no_sems (by decide) r.2⟩)
    (Cert.Reference9Ideal.Value.run m g)

end Cert.Product
-- ==== Proof.Product.InputOut.lean ====
/- The gradient with respect to what the weights `w_out` multiply: the product of the cotangent with the
   transposed weights. -/
module

public import proofs.«01_k».proof.Defs
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel10Ideal.Value
open Cert.Kernel10Ideal Cert.Kernel10Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, 0] ∧
    win0_2.index t = ![(grid0.coords t 0).val, 0] :=
  (by decide +kernel : ∀ t : Fin grid0.N, _)

/-- The call returns the gradient through the output projection. -/
theorem final (c : Dev nD) :
    (dats m 0 c).arrAt 2 (cfgs 0).N = Cert.Reference10Ideal.Read.val_main_v3 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference10Ideal.Read.val_main_v3, Cert.Reference10Ideal.Read.val_main_v1]
  blk_point [iblk, V, idx t]

end Cert.Kernel10Ideal.Value

namespace Cert.Product

/-- The call and its reference return the same array. -/
theorem algebraic_inputOut : Cert.algebraic_Kernel10Ideal_Reference10Ideal (hKernel10Ideal := Cert.Kernel10Ideal.Gen.facts)
    (hReference10Ideal := Cert.Reference10Ideal.Gen.facts) := by
  pair_intro
  · run_from Cert.Kernel10Ideal.Gen.run_main m g
  · run_from Cert.Reference10Ideal.Value.run m' g'
    exact (Cert.Kernel10Ideal.Value.final m c).symm

/-- The reference terminates, and leaves its arguments and the semaphores as they were. -/
theorem frame_inputOut : Cert.quiescent_Reference10Ideal (hReference10Ideal := Cert.Reference10Ideal.Gen.facts) := fun m g _ =>
  (θ_run _ _ _).mono (fun r h => ⟨fun c => (h c).2, sem_eq_zero_of_no_sems (by decide) r.2⟩)
    (Cert.Reference10Ideal.Value.run m g)

end Cert.Product
-- ==== Proof.Product.InputBranch.lean ====
/- The gradient with respect to what the weights `w_branch` multiply: the product of the cotangent with the
   transposed weights. -/
module

public import proofs.«01_k».proof.Defs
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel11Ideal.Value
open Cert.Kernel11Ideal Cert.Kernel11Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, 0] ∧
    win0_2.index t = ![(grid0.coords t 0).val, 0] :=
  (by decide +kernel : ∀ t : Fin grid0.N, _)

/-- The call returns the gradient through a branch projection. -/
theorem final (c : Dev nD) :
    (dats m 0 c).arrAt 2 (cfgs 0).N = Cert.Reference11Ideal.Read.val_main_v4 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference11Ideal.Read.val_main_v4, Cert.Reference11Ideal.Read.val_main_v3, Cert.Reference11Ideal.Read.val_main_v1]
  blk_point [iblk, V, idx t]

end Cert.Kernel11Ideal.Value

namespace Cert.Product

/-- The call and its reference return the same array. -/
theorem algebraic_inputBranch : Cert.algebraic_Kernel11Ideal_Reference11Ideal (hKernel11Ideal := Cert.Kernel11Ideal.Gen.facts)
    (hReference11Ideal := Cert.Reference11Ideal.Gen.facts) := by
  pair_intro
  · run_from Cert.Kernel11Ideal.Gen.run_main m g
  · run_from Cert.Reference11Ideal.Value.run m' g'
    exact (Cert.Kernel11Ideal.Value.final m c).symm

/-- The reference terminates, and leaves its arguments and the semaphores as they were. -/
theorem frame_inputBranch : Cert.quiescent_Reference11Ideal (hReference11Ideal := Cert.Reference11Ideal.Gen.facts) := fun m g _ =>
  (θ_run _ _ _).mono (fun r h => ⟨fun c => (h c).2, sem_eq_zero_of_no_sems (by decide) r.2⟩)
    (Cert.Reference11Ideal.Value.run m g)

end Cert.Product
-- ==== Proof.Product.ForwardIn.lean ====
/- The product of the activations with the weights `w_in`. -/
module

public import proofs.«01_k».proof.Defs
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel12Ideal.Value
open Cert.Kernel12Ideal Cert.Kernel12Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, (grid0.coords t 1).val] ∧
    win0_2.index t = ![(grid0.coords t 0).val, (grid0.coords t 1).val] :=
  (by decide +kernel : ∀ t : Fin grid0.N, _)

/-- The call returns the input projection. -/
theorem final (c : Dev nD) :
    (dats m 0 c).arrAt 2 (cfgs 0).N = Cert.Reference12Ideal.Read.val_main_v3 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference12Ideal.Read.val_main_v3, Cert.Reference12Ideal.Read.val_main_v2, Cert.Reference12Ideal.Read.val_main_v1, Cert.Reference12Ideal.Read.val_main_v0]
  blk_point [iblk, V, idx t]

end Cert.Kernel12Ideal.Value

namespace Cert.Product

/-- The call and its reference return the same array. -/
theorem algebraic_forwardIn : Cert.algebraic_Kernel12Ideal_Reference12Ideal (hKernel12Ideal := Cert.Kernel12Ideal.Gen.facts)
    (hReference12Ideal := Cert.Reference12Ideal.Gen.facts) := by
  pair_intro
  · run_from Cert.Kernel12Ideal.Gen.run_main m g
  · run_from Cert.Reference12Ideal.Value.run m' g'
    exact (Cert.Kernel12Ideal.Value.final m c).symm

/-- The reference terminates, and leaves its arguments and the semaphores as they were. -/
theorem frame_forwardIn : Cert.quiescent_Reference12Ideal (hReference12Ideal := Cert.Reference12Ideal.Gen.facts) := fun m g _ =>
  (θ_run _ _ _).mono (fun r h => ⟨fun c => (h c).2, sem_eq_zero_of_no_sems (by decide) r.2⟩)
    (Cert.Reference12Ideal.Value.run m g)

end Cert.Product
-- ==== Proof.Product.ForwardGateUp.lean ====
/- The product of the activations with the weights `w_gate_up`. -/
module

public import proofs.«01_k».proof.Defs
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel13Ideal.Value
open Cert.Kernel13Ideal Cert.Kernel13Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, (grid0.coords t 1).val] ∧
    win0_2.index t = ![(grid0.coords t 0).val, (grid0.coords t 1).val] :=
  (by decide +kernel : ∀ t : Fin grid0.N, _)

/-- The call returns the gate and up projections. -/
theorem final (c : Dev nD) :
    (dats m 0 c).arrAt 2 (cfgs 0).N = Cert.Reference13Ideal.Read.val_main_v3 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference13Ideal.Read.val_main_v3, Cert.Reference13Ideal.Read.val_main_v2, Cert.Reference13Ideal.Read.val_main_v1, Cert.Reference13Ideal.Read.val_main_v0]
  blk_point [iblk, V, idx t]

end Cert.Kernel13Ideal.Value

namespace Cert.Product

/-- The call and its reference return the same array. -/
theorem algebraic_forwardGateUp : Cert.algebraic_Kernel13Ideal_Reference13Ideal (hKernel13Ideal := Cert.Kernel13Ideal.Gen.facts)
    (hReference13Ideal := Cert.Reference13Ideal.Gen.facts) := by
  pair_intro
  · run_from Cert.Kernel13Ideal.Gen.run_main m g
  · run_from Cert.Reference13Ideal.Value.run m' g'
    exact (Cert.Kernel13Ideal.Value.final m c).symm

/-- The reference terminates, and leaves its arguments and the semaphores as they were. -/
theorem frame_forwardGateUp : Cert.quiescent_Reference13Ideal (hReference13Ideal := Cert.Reference13Ideal.Gen.facts) := fun m g _ =>
  (θ_run _ _ _).mono (fun r h => ⟨fun c => (h c).2, sem_eq_zero_of_no_sems (by decide) r.2⟩)
    (Cert.Reference13Ideal.Value.run m g)

end Cert.Product
-- ==== Proof.Product.ForwardBranch.lean ====
/- The product of the activations with the weights `w_branch`. -/
module

public import proofs.«01_k».proof.Defs
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel14Ideal.Value
open Cert.Kernel14Ideal Cert.Kernel14Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, 0] ∧
    win0_2.index t = ![(grid0.coords t 0).val, 0] :=
  (by decide +kernel : ∀ t : Fin grid0.N, _)

/-- The call returns a branch projection. -/
theorem final (c : Dev nD) :
    (dats m 0 c).arrAt 2 (cfgs 0).N = Cert.Reference14Ideal.Read.val_main_v3 (m ((c : Thread nD τ).loc main_arg0))
      (m ((c : Thread nD τ).loc main_arg1)) := by
  refine (dats m 0 c).arrAt_eq_of_covers 2 _ (by decide +kernel) fun t hf y => ?_
  blk_simp
  rw [after0_2]
  frame_out
  pointwise [k0_pay1, Cert.Reference14Ideal.Read.val_main_v3, Cert.Reference14Ideal.Read.val_main_v2, Cert.Reference14Ideal.Read.val_main_v1, Cert.Reference14Ideal.Read.val_main_v0]
  blk_point [iblk, V, idx t]

end Cert.Kernel14Ideal.Value

namespace Cert.Product

/-- The call and its reference return the same array. -/
theorem algebraic_forwardBranch : Cert.algebraic_Kernel14Ideal_Reference14Ideal (hKernel14Ideal := Cert.Kernel14Ideal.Gen.facts)
    (hReference14Ideal := Cert.Reference14Ideal.Gen.facts) := by
  pair_intro
  · run_from Cert.Kernel14Ideal.Gen.run_main m g
  · run_from Cert.Reference14Ideal.Value.run m' g'
    exact (Cert.Kernel14Ideal.Value.final m c).symm

/-- The reference terminates, and leaves its arguments and the semaphores as they were. -/
theorem frame_forwardBranch : Cert.quiescent_Reference14Ideal (hReference14Ideal := Cert.Reference14Ideal.Gen.facts) := fun m g _ =>
  (θ_run _ _ _).mono (fun r h => ⟨fun c => (h c).2, sem_eq_zero_of_no_sems (by decide) r.2⟩)
    (Cert.Reference14Ideal.Value.run m g)

end Cert.Product
-- ==== Proof.Product.ForwardDown.lean ====
/- The product of the activations with the weights `w_down`. -/
module

public import proofs.«01_k».proof.Defs
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel15Ideal.Value
open Cert.Kernel15Ideal Cert.Kernel15Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, 0] ∧
    win0_2.index t = ![(grid0.coords t 0).val, 0] ∧
    win0_3.index t = ![(grid0.coords t 0).val, 0] :=
  (by decide +kernel : ∀ t : Fin grid0.N, _)

/-- The call returns the residual plus the down projection. -/
theorem final (c : Dev nD) :
    (dats m 0 c).arrAt 3 (cfgs 0).N = Cert.Reference15Ideal.Read.val_main_v3 (m ((c : Thread nD τ).loc main_arg0))
      (m ((c : Thread nD τ).loc main_arg1))
      (m ((c : Thread nD τ).loc main_arg2)) := by
  refine (dats m 0 c).arrAt_eq_of_covers 3 _ (by decide +kernel) fun t hf y => ?_
  blk_simp
  rw [after0_3]
  frame_out
  pointwise [k0_pay1, Cert.Reference15Ideal.Read.val_main_v3, Cert.Reference15Ideal.Read.val_main_v2, Cert.Reference15Ideal.Read.val_main_v1, Cert.Reference15Ideal.Read.val_main_v0]
  blk_point [iblk, V, idx t]

end Cert.Kernel15Ideal.Value

namespace Cert.Product

/-- The call and its reference return the same array. -/
theorem algebraic_forwardDown : Cert.algebraic_Kernel15Ideal_Reference15Ideal (hKernel15Ideal := Cert.Kernel15Ideal.Gen.facts)
    (hReference15Ideal := Cert.Reference15Ideal.Gen.facts) := by
  pair_intro
  · run_from Cert.Kernel15Ideal.Gen.run_main m g
  · run_from Cert.Reference15Ideal.Value.run m' g'
    exact (Cert.Kernel15Ideal.Value.final m c).symm

/-- The reference terminates, and leaves its arguments and the semaphores as they were. -/
theorem frame_forwardDown : Cert.quiescent_Reference15Ideal (hReference15Ideal := Cert.Reference15Ideal.Gen.facts) := fun m g _ =>
  (θ_run _ _ _).mono (fun r h => ⟨fun c => (h c).2, sem_eq_zero_of_no_sems (by decide) r.2⟩)
    (Cert.Reference15Ideal.Value.run m g)

end Cert.Product
-- ==== Proof.Product.ForwardOut.lean ====
/- The product of the activations with the weights `w_out`. -/
module

public import proofs.«01_k».proof.Defs
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel16Ideal.Value
open Cert.Kernel16Ideal Cert.Kernel16Ideal.Gen

variable (m : (ℓ : Loc nD τ sig) → Buf (Elt Ideal) ℓ)

/-- The blocks of each array at a grid point. -/
theorem idx : ∀ t : Fin cfg0.N, win0_0.index t = ![(grid0.coords t 0).val, 0] ∧
    win0_1.index t = ![0, 0] ∧
    win0_2.index t = ![(grid0.coords t 0).val, 0] ∧
    win0_3.index t = ![(grid0.coords t 0).val, 0] :=
  (by decide +kernel : ∀ t : Fin grid0.N, _)

/-- The call returns the residual plus the output projection. -/
theorem final (c : Dev nD) :
    (dats m 0 c).arrAt 3 (cfgs 0).N = Cert.Reference16Ideal.Read.val_main_v3 (m ((c : Thread nD τ).loc main_arg0))
      (m ((c : Thread nD τ).loc main_arg1))
      (m ((c : Thread nD τ).loc main_arg2)) := by
  refine (dats m 0 c).arrAt_eq_of_covers 3 _ (by decide +kernel) fun t hf y => ?_
  blk_simp
  rw [after0_3]
  frame_out
  pointwise [k0_pay1, Cert.Reference16Ideal.Read.val_main_v3, Cert.Reference16Ideal.Read.val_main_v2, Cert.Reference16Ideal.Read.val_main_v1, Cert.Reference16Ideal.Read.val_main_v0]
  blk_point [iblk, V, idx t]

end Cert.Kernel16Ideal.Value

namespace Cert.Product

/-- The call and its reference return the same array. -/
theorem algebraic_forwardOut : Cert.algebraic_Kernel16Ideal_Reference16Ideal (hKernel16Ideal := Cert.Kernel16Ideal.Gen.facts)
    (hReference16Ideal := Cert.Reference16Ideal.Gen.facts) := by
  pair_intro
  · run_from Cert.Kernel16Ideal.Gen.run_main m g
  · run_from Cert.Reference16Ideal.Value.run m' g'
    exact (Cert.Kernel16Ideal.Value.final m c).symm

/-- The reference terminates, and leaves its arguments and the semaphores as they were. -/
theorem frame_forwardOut : Cert.quiescent_Reference16Ideal (hReference16Ideal := Cert.Reference16Ideal.Gen.facts) := fun m g _ =>
  (θ_run _ _ _).mono (fun r h => ⟨fun c => (h c).2, sem_eq_zero_of_no_sems (by decide) r.2⟩)
    (Cert.Reference16Ideal.Value.run m g)

end Cert.Product
-- ==== Proof.Optimiser.InWeight.lean ====
/- The optimiser step of `w_in`: each entry of the three results is the same expression in the four
    argument entries under it, in the call and in the reference. -/
module

public import proofs.«01_k».proof.Defs
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel17Ideal.Value
open Cert.Kernel17Ideal Cert.Kernel17Ideal.Gen

variable (m : (ℓ : Loc nD τ sig) → Buf (Elt Ideal) ℓ)

/-- The blocks of each array at a grid point: all seven move together. -/
theorem idx : ∀ t : Fin cfg0.N, win0_0.index t = ![(grid0.coords t 0).val, 0, 0] ∧
    win0_1.index t = ![(grid0.coords t 0).val, 0, 0] ∧
    win0_2.index t = ![(grid0.coords t 0).val, 0, 0] ∧
    win0_3.index t = ![(grid0.coords t 0).val, 0, 0] ∧
    win0_4.index t = ![(grid0.coords t 0).val, 0, 0] ∧
    win0_5.index t = ![(grid0.coords t 0).val, 0, 0] ∧
    win0_6.index t = ![(grid0.coords t 0).val, 0, 0] :=
  (by decide +kernel : ∀ t : Fin grid0.N, _)

/-- The call's array 4 is the change of the weights. -/
theorem final4 (c : Dev nD) :
    (dats m 0 c).arrAt 4 (cfgs 0).N = Cert.Reference17Ideal.Read.val_main_v24 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  pointwise [k0_pay4, k0_pay3, k0_pay2, k0_pay1, Cert.Reference17Ideal.Read.val_main_v24, Cert.Reference17Ideal.Read.val_main_cst, Cert.Reference17Ideal.Read.val_main_v0, Cert.Reference17Ideal.Read.val_main_v1, Cert.Reference17Ideal.Read.val_main_cst_0, Cert.Reference17Ideal.Read.val_main_v2, Cert.Reference17Ideal.Read.val_main_v3, Cert.Reference17Ideal.Read.val_main_v4, Cert.Reference17Ideal.Read.val_main_cst_1, Cert.Reference17Ideal.Read.val_main_v5, Cert.Reference17Ideal.Read.val_main_v6, Cert.Reference17Ideal.Read.val_main_v7, Cert.Reference17Ideal.Read.val_main_cst_2, Cert.Reference17Ideal.Read.val_main_v8, Cert.Reference17Ideal.Read.val_main_v9, Cert.Reference17Ideal.Read.val_main_v10, Cert.Reference17Ideal.Read.val_main_cst_3, Cert.Reference17Ideal.Read.val_main_v11, Cert.Reference17Ideal.Read.val_main_v12, Cert.Reference17Ideal.Read.val_main_cst_4, Cert.Reference17Ideal.Read.val_main_v13, Cert.Reference17Ideal.Read.val_main_v14, Cert.Reference17Ideal.Read.val_main_v15, Cert.Reference17Ideal.Read.val_main_cst_5, Cert.Reference17Ideal.Read.val_main_v16, Cert.Reference17Ideal.Read.val_main_v17, Cert.Reference17Ideal.Read.val_main_v18, Cert.Reference17Ideal.Read.val_main_cst_6, Cert.Reference17Ideal.Read.val_main_v19, Cert.Reference17Ideal.Read.val_main_v20, Cert.Reference17Ideal.Read.val_main_v21, Cert.Reference17Ideal.Read.val_main_cst_7, Cert.Reference17Ideal.Read.val_main_v22, Cert.Reference17Ideal.Read.val_main_v23]
  blk_point [iblk, V, idx t]

/-- The call's array 5 is the new mean. -/
theorem final5 (c : Dev nD) :
    (dats m 0 c).arrAt 5 (cfgs 0).N = Cert.Reference17Ideal.Read.val_main_v25 (m ((c : Thread nD τ).loc main_arg0)) (m ((c : Thread nD τ).loc main_arg2)) := by
  refine (dats m 0 c).arrAt_eq_of_covers 5 _ (by decide +kernel) fun t hf y => ?_
  blk_simp
  rw [after0_5]
  frame_out
  pointwise [k0_pay2, k0_pay1, Cert.Reference17Ideal.Read.val_main_v25, Cert.Reference17Ideal.Read.val_main_cst, Cert.Reference17Ideal.Read.val_main_v0, Cert.Reference17Ideal.Read.val_main_v1, Cert.Reference17Ideal.Read.val_main_cst_0, Cert.Reference17Ideal.Read.val_main_v2, Cert.Reference17Ideal.Read.val_main_v3, Cert.Reference17Ideal.Read.val_main_v4]
  blk_point [iblk, V, idx t]

/-- The call's array 6 is the new second moment. -/
theorem final6 (c : Dev nD) :
    (dats m 0 c).arrAt 6 (cfgs 0).N = Cert.Reference17Ideal.Read.val_main_v26 (m ((c : Thread nD τ).loc main_arg0)) (m ((c : Thread nD τ).loc main_arg3)) := by
  refine (dats m 0 c).arrAt_eq_of_covers 6 _ (by decide +kernel) fun t hf y => ?_
  blk_simp
  rw [after0_6]
  frame_out
  pointwise [k0_pay3, k0_pay1, Cert.Reference17Ideal.Read.val_main_v26, Cert.Reference17Ideal.Read.val_main_cst_1, Cert.Reference17Ideal.Read.val_main_v5, Cert.Reference17Ideal.Read.val_main_v6, Cert.Reference17Ideal.Read.val_main_v7, Cert.Reference17Ideal.Read.val_main_cst_2, Cert.Reference17Ideal.Read.val_main_v8, Cert.Reference17Ideal.Read.val_main_v9, Cert.Reference17Ideal.Read.val_main_v10]
  blk_point [iblk, V, idx t]

end Cert.Kernel17Ideal.Value

namespace Cert.Optimiser

/-- The call and its reference return the same change, mean and second moment. -/
theorem algebraic_inWeight : Cert.algebraic_Kernel17Ideal_Reference17Ideal (hKernel17Ideal := Cert.Kernel17Ideal.Gen.facts)
    (hReference17Ideal := Cert.Reference17Ideal.Gen.facts) := by
  pair_intro
  · run_from Cert.Kernel17Ideal.Gen.run_main m g
  · run_from Cert.Reference17Ideal.Value.run m' g'
    · exact (Cert.Kernel17Ideal.Value.final4 m c).symm
    · exact (Cert.Kernel17Ideal.Value.final5 m c).symm
    · exact (Cert.Kernel17Ideal.Value.final6 m c).symm

/-- The reference terminates, and leaves its arguments and the semaphores as they were. -/
theorem frame_inWeight : Cert.quiescent_Reference17Ideal (hReference17Ideal := Cert.Reference17Ideal.Gen.facts) := fun m g _ =>
  (θ_run _ _ _).mono (fun r h => ⟨fun c => (h c).2.2.2, sem_eq_zero_of_no_sems (by decide) r.2⟩)
    (Cert.Reference17Ideal.Value.run m g)

end Cert.Optimiser
-- ==== Proof.Optimiser.BranchWeight.lean ====
/- The optimiser step of `w_branch`: each entry of the three results is the same expression in the four
    argument entries under it, in the call and in the reference. -/
module

public import proofs.«01_k».proof.Defs
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel18Ideal.Value
open Cert.Kernel18Ideal Cert.Kernel18Ideal.Gen

variable (m : (ℓ : Loc nD τ sig) → Buf (Elt Ideal) ℓ)

/-- An argument array as the call's windows see it. -/
abbrev seen (x : S2x3x512x256.Idx → Elt Ideal .f32) : S6x512x256.Idx → Elt Ideal .f32 :=
  shapeCast S6x512x256 x shapeCasts_S2x3x512x256_S6x512x256

theorem entry_0 (c : Dev nD) : V m c main_v0 = seen (m ((c : Thread nD τ).loc main_arg0)) := by
  unfold_abbrev_sides
  after_results
  rfl

/-- Argument 0's block at a grid point, read at the index of the results' block. -/
theorem block_0 (c : Dev nD) (t : Fin cfg0.N) (y : S1x256x256.Idx) :
    iblk m c 0 t y = seen (m ((c : Thread nD τ).loc main_arg0)) (((cfg0.win 4).blk t).view.emb y) := by
  rw [← entry_0]
  rfl

theorem entry_1 (c : Dev nD) : V m c main_v1 = seen (m ((c : Thread nD τ).loc main_arg1)) := by
  unfold_abbrev_sides
  after_results
  rfl

/-- Argument 1's block at a grid point, read at the index of the results' block. -/
theorem block_1 (c : Dev nD) (t : Fin cfg0.N) (y : S1x256x256.Idx) :
    iblk m c 1 t y = seen (m ((c : Thread nD τ).loc main_arg1)) (((cfg0.win 4).blk t).view.emb y) := by
  rw [← entry_1]
  rfl

theorem entry_2 (c : Dev nD) : V m c main_v2 = seen (m ((c : Thread nD τ).loc main_arg2)) := by
  unfold_abbrev_sides
  after_results
  rfl

/-- Argument 2's block at a grid point, read at the index of the results' block. -/
theorem block_2 (c : Dev nD) (t : Fin cfg0.N) (y : S1x256x256.Idx) :
    iblk m c 2 t y = seen (m ((c : Thread nD τ).loc main_arg2)) (((cfg0.win 4).blk t).view.emb y) := by
  rw [← entry_2]
  rfl

theorem entry_3 (c : Dev nD) : V m c main_v3 = seen (m ((c : Thread nD τ).loc main_arg3)) := by
  unfold_abbrev_sides
  after_results
  rfl

/-- Argument 3's block at a grid point, read at the index of the results' block. -/
theorem block_3 (c : Dev nD) (t : Fin cfg0.N) (y : S1x256x256.Idx) :
    iblk m c 3 t y = seen (m ((c : Thread nD τ).loc main_arg3)) (((cfg0.win 4).blk t).view.emb y) := by
  rw [← entry_3]
  rfl

/-- The new mean of one entry. -/
abbrev mean (g e : Ideal .f32) : Ideal .f32 :=
  FloatOps.addf (FloatOps.mulf (Scalar.ofBits .f32 0x3F666666#32) e) (FloatOps.mulf (Scalar.ofBits .f32 0x3DCCCCCD#32) g)

/-- The new second moment of one entry. -/
abbrev moment (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of one weight. -/
abbrev change (g w e v : Ideal .f32) : Ideal .f32 :=
  FloatOps.mulf (Scalar.ofBits .f32 0xBA83126F#32) (FloatOps.addf
    (FloatOps.divf (FloatOps.divf (mean g e) (Scalar.ofBits .f32 0x3F26BD02#32))
      (FloatOps.addf (FloatOps.sqrt (FloatOps.divf (moment g v) (Scalar.ofBits .f32 0x3C231ACC#32)))
        (Scalar.ofBits .f32 0x322BCC77#32)))
    (FloatOps.mulf (Scalar.ofBits .f32 0x3C23D70A#32) w))

theorem pay_mean (x0 x2 : Vec Ideal S1x256x256 .f32) (y : S1x256x256.Idx) : k0_pay2 x0 x2 y = mean (x0 y) (x2 y) := by
  pointwise [k0_pay2, k0_pay1]

theorem pay_moment (x0 x3 : Vec Ideal S1x256x256 .f32) (y : S1x256x256.Idx) : k0_pay3 x0 x3 y = moment (x0 y) (x3 y) := by
  pointwise [k0_pay3, k0_pay1]

theorem pay_change (x0 x1 x2 x3 : Vec Ideal S1x256x256 .f32) (y : S1x256x256.Idx) :
    k0_pay4 x0 x1 x2 x3 y = change (x0 y) (x1 y) (x2 y) (x3 y) := by
  pointwise [k0_pay4, k0_pay3, k0_pay2, k0_pay1]

/-- The call's array 4 is the change of the weights. -/
theorem final4 (c : Dev nD) :
    (dats m 0 c).arrAt 4 (cfgs 0).N = Cert.Reference18Ideal.Read.val_main_v24 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine (pay_change _ _ _ _ _).trans ?_
  rw [block_0, block_1, block_2, block_3]
  rfl

/-- The call's array 5 is the new mean. -/
theorem final5 (c : Dev nD) :
    (dats m 0 c).arrAt 5 (cfgs 0).N = Cert.Reference18Ideal.Read.val_main_v25 (m ((c : Thread nD τ).loc main_arg0)) (m ((c : Thread nD τ).loc main_arg2)) := by
  refine (dats m 0 c).arrAt_eq_of_covers 5 _ (by decide +kernel) fun t hf y => ?_
  blk_simp
  rw [after0_5]
  frame_out
  refine (pay_mean _ _ _).trans ?_
  rw [block_0, block_2]
  rfl

/-- The call's array 6 is the new second moment. -/
theorem final6 (c : Dev nD) :
    (dats m 0 c).arrAt 6 (cfgs 0).N = Cert.Reference18Ideal.Read.val_main_v26 (m ((c : Thread nD τ).loc main_arg0)) (m ((c : Thread nD τ).loc main_arg3)) := by
  refine (dats m 0 c).arrAt_eq_of_covers 6 _ (by decide +kernel) fun t hf y => ?_
  blk_simp
  rw [after0_6]
  frame_out
  refine (pay_moment _ _ _).trans ?_
  rw [block_0, block_3]
  rfl

end Cert.Kernel18Ideal.Value

namespace Cert.Optimiser

/-- The call and its reference return the same change, mean and second moment. -/
theorem algebraic_branchWeight : Cert.algebraic_Kernel18Ideal_Reference18Ideal (hKernel18Ideal := Cert.Kernel18Ideal.Gen.facts)
    (hReference18Ideal := Cert.Reference18Ideal.Gen.facts) := by
  pair_intro
  · run_from Cert.Kernel18Ideal.Gen.run_main m g
  · run_from Cert.Reference18Ideal.Value.run m' g'
    · exact (Cert.Kernel18Ideal.Value.final4 m c).symm
    · exact (Cert.Kernel18Ideal.Value.final5 m c).symm
    · exact (Cert.Kernel18Ideal.Value.final6 m c).symm

/-- The reference terminates, and leaves its arguments and the semaphores as they were. -/
theorem frame_branchWeight : Cert.quiescent_Reference18Ideal (hReference18Ideal := Cert.Reference18Ideal.Gen.facts) := fun m g _ =>
  (θ_run _ _ _).mono (fun r h => ⟨fun c => (h c).2.2.2, sem_eq_zero_of_no_sems (by decide) r.2⟩)
    (Cert.Reference18Ideal.Value.run m g)

end Cert.Optimiser
-- ==== Proof.Optimiser.OutWeight.lean ====
/- The optimiser step of `w_out`: each entry of the three results is the same expression in the four
    argument entries under it, in the call and in the reference. -/
module

public import proofs.«01_k».proof.Defs
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel19Ideal.Value
open Cert.Kernel19Ideal Cert.Kernel19Ideal.Gen

end Cert.Kernel19Ideal.Value

namespace Cert.Optimiser

/-- The call and its reference return the same change, mean and second moment. -/
theorem algebraic_outWeight : Cert.algebraic_Kernel19Ideal_Reference19Ideal (hKernel19Ideal := Cert.Kernel19Ideal.Gen.facts)
    (hReference19Ideal := Cert.Reference19Ideal.Gen.facts) := by
  pair_intro
  · run_from Cert.Kernel19Ideal.Value.run m g
  · run_from Cert.Reference19Ideal.Value.run m' g'
    all_goals first | rfl | (funext i; rfl)

/-- The reference terminates, and leaves its arguments and the semaphores as they were. -/
theorem frame_outWeight : Cert.quiescent_Reference19Ideal (hReference19Ideal := Cert.Reference19Ideal.Gen.facts) := fun m g _ =>
  (θ_run _ _ _).mono (fun r h => ⟨fun c => (h c).2.2.2, sem_eq_zero_of_no_sems (by decide) r.2⟩)
    (Cert.Reference19Ideal.Value.run m g)

end Cert.Optimiser
-- ==== Proof.Optimiser.GateUpWeight.lean ====
/- The optimiser step of `w_gate_up`: each entry of the three results is the same expression in the four
    argument entries under it, in the call and in the reference. -/
module

public import proofs.«01_k».proof.Defs
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel20Ideal.Value
open Cert.Kernel20Ideal Cert.Kernel20Ideal.Gen

end Cert.Kernel20Ideal.Value

namespace Cert.Optimiser

/-- The call and its reference return the same change, mean and second moment. -/
theorem algebraic_gateUpWeight : Cert.algebraic_Kernel20Ideal_Reference20Ideal (hKernel20Ideal := Cert.Kernel20Ideal.Gen.facts)
    (hReference20Ideal := Cert.Reference20Ideal.Gen.facts) := by
  pair_intro
  · run_from Cert.Kernel20Ideal.Value.run m g
  · run_from Cert.Reference20Ideal.Value.run m' g'
    all_goals first | rfl | (funext i; rfl)

/-- The reference terminates, and leaves its arguments and the semaphores as they were. -/
theorem frame_gateUpWeight : Cert.quiescent_Reference20Ideal (hReference20Ideal := Cert.Reference20Ideal.Gen.facts) := fun m g _ =>
  (θ_run _ _ _).mono (fun r h => ⟨fun c => (h c).2.2.2, sem_eq_zero_of_no_sems (by decide) r.2⟩)
    (Cert.Reference20Ideal.Value.run m g)

end Cert.Optimiser
-- ==== Proof.Optimiser.DownWeight.lean ====
/- The optimiser step of `w_down`: each entry of the three results is the same expression in the four
    argument entries under it, in the call and in the reference. -/
module

public import proofs.«01_k».proof.Defs
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel21Ideal.Value
open Cert.Kernel21Ideal Cert.Kernel21Ideal.Gen

end Cert.Kernel21Ideal.Value

namespace Cert.Optimiser

/-- The call and its reference return the same change, mean and second moment. -/
theorem algebraic_downWeight : Cert.algebraic_Kernel21Ideal_Reference21Ideal (hKernel21Ideal := Cert.Kernel21Ideal.Gen.facts)
    (hReference21Ideal := Cert.Reference21Ideal.Gen.facts) := by
  pair_intro
  · run_from Cert.Kernel21Ideal.Value.run m g
  · run_from Cert.Reference21Ideal.Value.run m' g'
    all_goals first | rfl | (funext i; rfl)

/-- The reference terminates, and leaves its arguments and the semaphores as they were. -/
theorem frame_downWeight : Cert.quiescent_Reference21Ideal (hReference21Ideal := Cert.Reference21Ideal.Gen.facts) := fun m g _ =>
  (θ_run _ _ _).mono (fun r h => ⟨fun c => (h c).2.2.2, sem_eq_zero_of_no_sems (by decide) r.2⟩)
    (Cert.Reference21Ideal.Value.run m g)

end Cert.Optimiser
-- ==== Proof.Optimiser.ConvWeight.lean ====
/- The optimiser step of `dn_conv_w`: each entry of the three results is the same expression in the four
    argument entries under it, in the call and in the reference. -/
module

public import proofs.«01_k».proof.Defs
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem

namespace Cert.Kernel22Ideal.Value
open Cert.Kernel22Ideal Cert.Kernel22Ideal.Gen

end Cert.Kernel22Ideal.Value

namespace Cert.Optimiser

/-- The call and its reference return the same change, mean and second moment. -/
theorem algebraic_convWeight : Cert.algebraic_Kernel22Ideal_Reference22Ideal (hKernel22Ideal := Cert.Kernel22Ideal.Gen.facts)
    (hReference22Ideal := Cert.Reference22Ideal.Gen.facts) := by
  pair_intro
  · run_from Cert.Kernel22Ideal.Value.run m g
  · run_from Cert.Reference22Ideal.Value.run m' g'
    all_goals first | rfl | (funext i; rfl)

/-- The reference terminates, and leaves its arguments and the semaphores as they were. -/
theorem frame_convWeight : Cert.quiescent_Reference22Ideal (hReference22Ideal := Cert.Reference22Ideal.Gen.facts) := fun m g _ =>
  (θ_run _ _ _).mono (fun r h => ⟨fun c => (h c).2.2.2, sem_eq_zero_of_no_sems (by decide) r.2⟩)
    (Cert.Reference22Ideal.Value.run m g)

end Cert.Optimiser
-- ==== Proof.Norm.Model.lean ====
/- The root mean square norm of a row of 1024 entries and its derivative, over the extended reals. -/
module

public import Idealize.ShloMosaic.Lib.Pointwise

@[expose] public section

noncomputable section

namespace Cert.Norm

open Idealize.ShloMosaic

/-- A row's mean square plus the small constant. -/
abbrev square (x : Fin 1024 → EReal) : EReal :=
  Ideal.div (∑ k, x k * x k) (Ideal.ofBits FTy.f32 1149239296#32) + Ideal.ofBits FTy.f32 897988541#32

theorem bits_count : Ideal.ofBits FTy.f32 1149239296#32 = ((1024 : ℝ) : EReal) := by
  simp [Ideal.ofBits, Ideal.ieee]
  norm_cast
  norm_num

theorem bits_half : Ideal.ofBits FTy.f32 3204448256#32 = ((-(1 / 2) : ℝ) : EReal) := by
  simp [Ideal.ofBits, Ideal.ieee]
  norm_cast
  norm_num

theorem bits_small : ∃ e : ℝ, 0 < e ∧ Ideal.ofBits FTy.f32 897988541#32 = (e : EReal) := by
  refine ⟨8796093 * (2 : ℝ) ^ (-43 : ℤ), by positivity, ?_⟩
  simp [Ideal.ofBits, Ideal.ieee]

theorem nonneg_square (x : EReal) : 0 ≤ x * x := by
  induction x with
  | bot => simp
  | top => simp
  | coe x => exact_mod_cast mul_self_nonneg x

/-- The mean square plus the constant is a positive real, or infinite. -/
theorem square_cases (x : Fin 1024 → EReal) : square x = ⊤ ∨ ∃ q : ℝ, 0 < q ∧ square x = (q : EReal) := by
  obtain ⟨e, he, h⟩ := bits_small
  have hs : (0 : EReal) ≤ ∑ k, x k * x k := Finset.sum_nonneg fun k _ => nonneg_square _
  unfold square
  rw [h, bits_count, Ideal.div_coe (by norm_num)]
  generalize ∑ k, x k * x k = s at hs ⊢
  induction s with
  | bot => exact absurd hs (by simp)
  | top => left; rw [EReal.top_mul_coe_of_pos (by norm_num)]; simp
  | coe s =>
    right
    refine ⟨s * (1 / 1024) + e, ?_, by norm_cast⟩
    have : 0 ≤ s := by exact_mod_cast hs
    positivity

/-- Twice a half of a product, subtracted, is the product subtracted. -/
theorem halves (p : EReal) (c : ℝ) (hc : 0 < c) :
    p * ((-(1 / 2) * c : ℝ) : EReal) + p * ((-(1 / 2) * c : ℝ) : EReal) = -(p * (c : EReal)) := by
  have hn : -(1 / 2) * c < 0 := by linarith
  induction p with
  | bot => rw [EReal.bot_mul_coe_of_neg hn, EReal.bot_mul_coe_of_pos hc]; rfl
  | top => rw [EReal.top_mul_coe_of_neg hn, EReal.top_mul_coe_of_pos hc]; rfl
  | coe p => norm_cast; ring

/-- The derivative as the call writes it and as the reference has it, at an entry `x` of a row whose mean square is
    `q`, with `u` the incoming gradient times the gain, `s` the row's sum of these with the entries, `d` the gradient
    that is added. -/
theorem derivative (q d u x s : EReal) (hq : q = ⊤ ∨ ∃ r : ℝ, 0 < r ∧ q = (r : EReal)) :
    d + (Ideal.rsqrt q * u - x * (Ideal.rsqrt q * Ideal.rsqrt q * Ideal.rsqrt q) *
        Ideal.div s (Ideal.ofBits FTy.f32 1149239296#32))
      = d + u * Ideal.rsqrt q
        + x * Ideal.div (s * (Ideal.ofBits FTy.f32 3204448256#32 * Ideal.div (Ideal.rsqrt q) q))
            (Ideal.ofBits FTy.f32 1149239296#32)
        + Ideal.div (s * (Ideal.ofBits FTy.f32 3204448256#32 * Ideal.div (Ideal.rsqrt q) q))
            (Ideal.ofBits FTy.f32 1149239296#32) * x := by
  rw [bits_count, bits_half]
  simp only [Ideal.div_coe (show (1024 : ℝ) ≠ 0 by norm_num)]
  obtain rfl | ⟨q, h, rfl⟩ := hq
  · simp [Ideal.div]
  · have hr : Ideal.rsqrt (q : EReal) = (((Real.sqrt q)⁻¹ : ℝ) : EReal) := by
      rw [Ideal.rsqrt_coe, if_neg (not_lt.mpr h.le), if_neg h.ne']
    have hpos : 0 < (Real.sqrt q)⁻¹ := inv_pos.mpr (Real.sqrt_pos.mpr h)
    have hsq : (Real.sqrt q)⁻¹ * (Real.sqrt q)⁻¹ = 1 / q := by
      rw [← mul_inv, Real.mul_self_sqrt h.le, one_div]
    rw [hr]
    generalize (Real.sqrt q)⁻¹ = r at hpos hsq
    rw [Ideal.div_coe h.ne', ← hsq]
    have e1 : x * ((r : EReal) * r * r) * (s * ((1 / 1024 : ℝ) : EReal)) = x * s * ((r * r * r * (1 / 1024) : ℝ) : EReal) := by
      simp only [EReal.coe_mul]; ac_rfl
    have e2 : x * (s * (((-(1 / 2) : ℝ) : EReal) * ((r : EReal) * ((r * r : ℝ) : EReal))) * ((1 / 1024 : ℝ) : EReal))
        = x * s * ((-(1 / 2) * (r * r * r * (1 / 1024)) : ℝ) : EReal) := by
      simp only [EReal.coe_mul]; ac_rfl
    have e3 : s * (((-(1 / 2) : ℝ) : EReal) * ((r : EReal) * ((r * r : ℝ) : EReal))) * ((1 / 1024 : ℝ) : EReal) * x
        = x * s * ((-(1 / 2) * (r * r * r * (1 / 1024)) : ℝ) : EReal) := by
      simp only [EReal.coe_mul]; ac_rfl
    rw [e1, e2, e3, sub_eq_add_neg, ← halves _ _ (by positivity), mul_comm u]
    abel

end Cert.Norm

end
-- ==== Proof.Norm.Backward.lean ====
/- The backward pass of the norm of a layer: the gradient of the rows, added to that of the residual, and of the gain. -/
module

public import proofs.«01_k».proof.Defs
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init
public import Idealize.ShloMosaic.Lib.Pipeline.ValueKit
public import proofs.«01_k».proof.Proof.Norm.Model

@[expose] public section

set_option maxRecDepth 16384

noncomputable section

open Idealize.ShloMosaic Idealize.ShloMosaic.TcCoe Idealize.SL.Sem

namespace Cert.Kernel23Ideal.Value
open Cert.Kernel23Ideal Cert.Kernel23Ideal.Gen

variable (m : (ℓ : Loc nD τ sig) → Buf (Elt Ideal) ℓ)

/-- The blocks of each array at a grid point. -/
theorem idx : ∀ t : Fin cfg0.N, win0_0.index t = ![t.val, 0] ∧ win0_1.index t = ![t.val, 0] ∧
    win0_2.index t = ![t.val, 0] ∧ win0_3.index t = ![0, 0] ∧ win0_4.index t = ![t.val, 0] ∧
    win0_5.index t = ![0, 0] :=
  (by decide +kernel : ∀ t : Fin grid0.N, _)

/-- What a point stores to the gradient of the rows, at an entry. -/
theorem pay_row (x h d : Vec Ideal S512x1024 .f32) (g : Vec Ideal S1x1024 .f32) (y : S512x1024.Idx) :
    k0_pay4 x g h d y = d y + h y * g (ix2 0 (y 1)) * Ideal.rsqrt (Cert.Norm.square fun k => x (ix2 (y 0) k))
      + x y * Ideal.div ((∑ k : Fin 1024, h (ix2 (y 0) k) * g (ix2 0 k) * x (ix2 (y 0) k)) *
          (Ideal.ofBits FTy.f32 3204448256#32 * Ideal.div (Ideal.rsqrt (Cert.Norm.square fun k => x (ix2 (y 0) k)))
            (Cert.Norm.square fun k => x (ix2 (y 0) k)))) (Ideal.ofBits FTy.f32 1149239296#32)
      + Ideal.div ((∑ k : Fin 1024, h (ix2 (y 0) k) * g (ix2 0 k) * x (ix2 (y 0) k)) *
          (Ideal.ofBits FTy.f32 3204448256#32 * Ideal.div (Ideal.rsqrt (Cert.Norm.square fun k => x (ix2 (y 0) k)))
            (Cert.Norm.square fun k => x (ix2 (y 0) k)))) (Ideal.ofBits FTy.f32 1149239296#32) * x y := by
  refine Eq.trans ?_ (Cert.Norm.derivative _ _ _ _ _ (Cert.Norm.square_cases _))
  pointwise [k0_pay4, k0_pay2]

/-- What the first point stores to the gradient of the gain: its rows' sum. -/
theorem pay_first (x h : Vec Ideal S512x1024 .f32) (j : S1x1024.Idx) : (k0_pay3 x h j : EReal)
    = 0 + ∑ k : Fin 512, x (ix2 k (j 1)) * Ideal.rsqrt (Cert.Norm.square fun l => x (ix2 k l)) * h (ix2 k (j 1)) := by
  rw [zero_add]
  pointwise [k0_pay3, k0_pay2]
  exact Finset.sum_congr rfl fun k _ => by ac_rfl

/-- What a later point stores: the sum so far and its rows' sum. -/
theorem pay_later (x h : Vec Ideal S512x1024 .f32) (a : Vec Ideal S1x1024 .f32) (j : S1x1024.Idx) :
    (k0_pay1 (k0_pay3 x h) a j : EReal)
    = a j + ∑ k : Fin 512, x (ix2 k (j 1)) * Ideal.rsqrt (Cert.Norm.square fun l => x (ix2 k l)) * h (ix2 k (j 1)) := by
  rw [← zero_add (∑ k : Fin 512, _), ← pay_first]
  pointwise [k0_pay1]

theorem ix2_zero {n k : ℕ} (a : Fin n) (b : Fin k) : (ix2 a b) 0 = a := rfl

theorem ix2_one {n k : ℕ} (a : Fin n) (b : Fin k) : (ix2 a b) 1 = b := rfl

/-- The row of the whole arrays that a block's row is. -/
def row (t : Fin cfg0.N) (a : Fin 512) : Fin 8192 := ⟨t.val * 512 + a.val, by have := lt_of_lt_of_eq t.isLt N_0; omega⟩

theorem block0 (c : Dev nD) (t : Fin cfg0.N) (a : Fin 512) (b : Fin 1024) :
    iblk m c 0 t (ix2 a b) = (m ((c : Thread nD τ).loc main_arg0) : S8192x1024.Idx → EReal) (ix2 (row t a) b) := by
  blk_point [iblk, V, idx t, row]

theorem block1 (c : Dev nD) (t : Fin cfg0.N) (a : Fin 512) (b : Fin 1024) :
    iblk m c 1 t (ix2 a b) = (m ((c : Thread nD τ).loc main_arg2) : S8192x1024.Idx → EReal) (ix2 (row t a) b) := by
  blk_point [iblk, V, idx t, row]

theorem block2 (c : Dev nD) (t : Fin cfg0.N) (a : Fin 512) (b : Fin 1024) :
    iblk m c 2 t (ix2 a b) = (m ((c : Thread nD τ).loc main_arg3) : S8192x1024.Idx → EReal) (ix2 (row t a) b) := by
  blk_point [iblk, V, idx t, row]

theorem block3 (c : Dev nD) (t : Fin cfg0.N) (b : Fin 1024) :
    iblk m c 3 t (ix2 0 b) = (m ((c : Thread nD τ).loc main_arg1) : S1x1024.Idx → EReal) (ix2 0 b) := by
  blk_point [iblk, V, idx t]

theorem place4 (t : Fin cfg0.N) (a : Fin 512) (b : Fin 1024) :
    (((cfg0.win 4).blk t).view.emb (ix2 a b : S512x1024.Idx) : S8192x1024.Idx) = ix2 (row t a) b := by
  blk_point [idx t, row]

theorem place5 (t : Fin cfg0.N) (b : Fin 1024) :
    (((cfg0.win 5).blk t).view.emb (ix2 0 b : S1x1024.Idx) : S1x1024.Idx) = ix2 0 b := by
  blk_point [idx t]

open Cert.Reference23Ideal.Read in
/-- The gradient of the rows at an entry, as the reference has it. -/
theorem rows_eq (x h d : S8192x1024.Idx → EReal) (g : S1x1024.Idx → EReal) (r : Fin 8192) (j : Fin 1024) :
    Cert.Reference23Ideal.Read.val_main_v34 (F := Ideal) x g h d (ix2 r j)
      = d (ix2 r j) + h (ix2 r j) * g (ix2 0 j) * Ideal.rsqrt (Cert.Norm.square fun k => x (ix2 r k))
      + x (ix2 r j) * Ideal.div ((∑ k : Fin 1024, h (ix2 r k) * g (ix2 0 k) * x (ix2 r k)) *
          (Ideal.ofBits FTy.f32 3204448256#32 * Ideal.div (Ideal.rsqrt (Cert.Norm.square fun k => x (ix2 r k)))
            (Cert.Norm.square fun k => x (ix2 r k)))) (Ideal.ofBits FTy.f32 1149239296#32)
      + Ideal.div ((∑ k : Fin 1024, h (ix2 r k) * g (ix2 0 k) * x (ix2 r k)) *
          (Ideal.ofBits FTy.f32 3204448256#32 * Ideal.div (Ideal.rsqrt (Cert.Norm.square fun k => x (ix2 r k)))
            (Cert.Norm.square fun k => x (ix2 r k)))) (Ideal.ofBits FTy.f32 1149239296#32) * x (ix2 r j) := by
  have e : (∑ k : Fin 1024, h (ix2 r k) * g (ix2 0 k) * x (ix2 r k)) = ∑ k : Fin 1024, x (ix2 r k) * (h (ix2 r k) * g (ix2 0 k)) :=
    Finset.sum_congr rfl fun _ _ => mul_comm _ _
  rw [e]
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_cst, val_main_cst_0, val_main_cst_1, val_main_cst_2, val_main_cst_3, val_main_cst_4, val_main_cst_5, val_main_cst_6]
  simp only [Finset.univ_unique, Finset.sum_singleton]

open Cert.Reference23Ideal.Read in
/-- The gradient of the gain at an entry, as the reference has it. -/
theorem gain_eq (x h : S8192x1024.Idx → EReal) (j : Fin 1024) :
    Cert.Reference23Ideal.Read.val_main_v17 (F := Ideal) x h (ix2 0 j)
      = ∑ r : Fin 8192, x (ix2 r j) * Ideal.rsqrt (Cert.Norm.square fun k => x (ix2 r k)) * h (ix2 r j) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1, val_main_cst_2, val_main_cst_3]

/-- The call returns the gradient of the rows, with the residual's. -/
theorem final4 (c : Dev nD) :
    (dats m 0 c).arrAt 4 (cfgs 0).N = Cert.Reference23Ideal.Read.val_main_v34 (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  have ht := lt_of_lt_of_eq t.isLt N_0
  obtain ⟨a, b, rfl⟩ : ∃ (a : Fin 512) (b : Fin 1024), y = (ix2 a b : S512x1024.Idx) :=
    ⟨y 0, y 1, by funext i; match i with | ⟨0, _⟩ => rfl | ⟨1, _⟩ => rfl⟩
  refine Eq.trans ?_ (congrArg _ (place4 t a b).symm)
  blk_simp
  rw [after0_4]
  have e : ((outsAt0 m c t.val t.isLt).1 : S512x1024.Idx → EReal) (ix2 a b) = k0_pay4 (iblk m c 0 t) (iblk m c 3 t) (iblk m c 1 t) (iblk m c 2 t) (ix2 a b) := by
    by_cases h : t.val % 16 = 0
    · rw [outsAt0_A m c t h (by omega)]; frame_out
    · rw [outsAt0_B m c t h (by omega)]; frame_out
  refine e.trans ((pay_row _ _ _ _ (ix2 a b)).trans (Eq.trans ?_ (rows_eq _ _ _ _ (row t a) b).symm))
  simp only [ix2_zero, ix2_one, block0, block1, block2, block3]

/-- The call returns the gradient of the gain. -/
theorem final5 (c : Dev nD) :
    (dats m 0 c).arrAt 5 (cfgs 0).N = Cert.Reference23Ideal.Read.val_main_v17 (m ((c : Thread nD τ).loc main_arg0)) (m ((c : Thread nD τ).loc main_arg2)) := by
  refine (dats m 0 c).arrAt_eq_of_covers 5 _ (by decide +kernel) fun t hf y => ?_
  obtain ⟨b, rfl⟩ : ∃ b : Fin 1024, y = (ix2 0 b : S1x1024.Idx) :=
    ⟨y 1, by funext i; match i with | ⟨0, _⟩ => exact Subsingleton.elim (α := Fin 1) _ _ | ⟨1, _⟩ => rfl⟩
  refine Eq.trans ?_ (congrArg _ (place5 t b).symm)
  blk_simp
  rw [after0_5]
  have hl := (flush0_5 t).mp hf
  have ht := lt_of_lt_of_eq t.isLt N_0
  refine (Pipeline.eq_sum_fin_of_reset_step_apply_of_flush (fun n h j => ((outsAt0 m c n h).2 j : EReal)) 16 (fun _ => 0) _
    (fun t h j => by
      have ht := lt_of_lt_of_eq t.isLt N_0
      rw [outsAt0_A m c t h (by omega)]; frame_out; exact pay_first _ _ j)
    (fun t h j => by
      rw [outsAt0_B m c t h (by omega)]; frame_out; exact pay_later _ _ _ j)
    t hl (ix2 0 b)).trans (Eq.trans ?_ (gain_eq _ _ b).symm)
  rw [zero_add]
  simp only [ix2_one, block0, block1]
  refine Fin.sum_mul_add_congr fun s k hk => ?_
  have e : row ⟨16 * (t.val / 16) + s.val, Pipeline.run_point_lt_of_flush t hl s⟩ k = ⟨s.val * 512 + k.val, hk⟩ :=
    Fin.ext (by simp only [row]; omega)
  rw [e]

end Cert.Kernel23Ideal.Value

namespace Cert.Norm

open Cert.Reference23Ideal Cert.Reference23Ideal.Gen in
/-- The reference's run, with its results named. -/
theorem run_reference (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v34) = Read.val_main_v34 (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_v17) = Read.val_main_v17 (m ((c.tc : Thread nD τ).loc main_arg0))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v34_eq _ _ _ _), (h c).2.1.trans (Read.val_main_v17_eq _ _), (h c).2.2⟩)
    (Value.run m ρ)

/-- The call and its reference return the same arrays. -/
theorem algebraic_backward : Cert.algebraic_Kernel23Ideal_Reference23Ideal (hKernel23Ideal := Cert.Kernel23Ideal.Gen.facts)
    (hReference23Ideal := Cert.Reference23Ideal.Gen.facts) := by
  pair_intro
  · run_from Cert.Kernel23Ideal.Gen.run_main m g
  · run_from run_reference m' g'
    · exact (Cert.Kernel23Ideal.Value.final4 m c).symm
    · exact (Cert.Kernel23Ideal.Value.final5 m c).symm

/-- The reference terminates, and leaves its arguments and the semaphores as they were. -/
theorem frame_backward : Cert.quiescent_Reference23Ideal (hReference23Ideal := Cert.Reference23Ideal.Gen.facts) := fun m g _ =>
  (θ_run _ _ _).mono (fun r h => ⟨fun c => (h c).2.2, sem_eq_zero_of_no_sems (by decide) r.2⟩)
    (Cert.Reference23Ideal.Value.run m g)

end Cert.Norm
-- ==== Proof.Gate.Model.lean ====
/- The logistic function by the hyperbolic tangent, over the extended reals. -/
module

public import Idealize.ShloMosaic.Lib.Pointwise

@[expose] public section

noncomputable section

namespace Cert.Gate

open Idealize.ShloMosaic

theorem bits_half : Ideal.ofBits FTy.f32 1056964608#32 = ((1 / 2 : ℝ) : EReal) := by
  simp [Ideal.ofBits, Ideal.ieee]
  norm_cast
  norm_num

theorem bits_one : Ideal.ofBits FTy.f32 1065353216#32 = ((1 : ℝ) : EReal) := by
  simp [Ideal.ofBits, Ideal.ieee]
  norm_cast
  norm_num

/-- Half the hyperbolic tangent of a half, plus a half, is the logistic function. -/
theorem real_logistic (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have h1 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h]
  generalize Real.exp (1 / 2 * r) = a at *
  generalize Real.exp (-(1 / 2 * r)) = b at *
  have e : a = b⁻¹ := eq_inv_of_mul_eq_one_left h1
  subst e
  field_simp
  ring

/-- The logistic function as a kernel computes it is the function. -/
theorem logistic_eq (x : EReal) :
    Ideal.ofBits FTy.f32 1056964608#32 * Ideal.tanh (Ideal.ofBits FTy.f32 1056964608#32 * x)
      + Ideal.ofBits FTy.f32 1056964608#32
    = Ideal.div (Ideal.ofBits FTy.f32 1065353216#32) (Ideal.ofBits FTy.f32 1065353216#32 + Ideal.exp (-x)) := by
  rw [bits_half, bits_one]
  change _ = Ideal.logistic x
  induction x with
  | bot =>
    rw [EReal.coe_mul_bot_of_pos (by norm_num), Ideal.logistic_bot]
    change ((1 / 2 : ℝ) : EReal) * ((-1 : ℝ) : EReal) + ((1 / 2 : ℝ) : EReal) = 0
    norm_cast
    norm_num
  | top =>
    rw [EReal.coe_mul_top_of_pos (by norm_num), Ideal.logistic_top]
    change ((1 / 2 : ℝ) : EReal) * ((1 : ℝ) : EReal) + ((1 / 2 : ℝ) : EReal) = 1
    norm_cast
    norm_num
  | coe r =>
    rw [Ideal.logistic_coe, ← real_logistic]
    rfl

/-- A finite extended real. -/
def IsReal (x : EReal) : Prop := ∃ r : ℝ, x = r

/-- An extended real whose absolute value compares below infinity is finite. -/
theorem real_of_lt {x : EReal} (h : BitVec.ofBool (decide (FloatOps.absf (F := Ideal) (φ := .f32) x < Ideal.ofBits FTy.f32 2139095040#32)) = 1#1) : IsReal x := by
  have top : Ideal.ofBits FTy.f32 2139095040#32 = (⊤ : EReal) := by simp [Ideal.ofBits, Ideal.ieee]
  rw [top] at h
  change BitVec.ofBool (decide (max x (-x) < ⊤)) = 1#1 at h
  by_cases hd : max x (-x) < ⊤
  · induction x with
    | bot => simp at hd
    | top => simp at hd
    | coe r => exact ⟨r, rfl⟩
  · rw [decide_eq_false hd] at h
    exact absurd h (by decide)

/-- The two forms of the unit's derivative by its gate, on finite values. -/
theorem unit_gradient {g u d : EReal} (hg : IsReal g) (hu : IsReal u) (hd : IsReal d) :
    d * u * (Ideal.div (Ideal.ofBits FTy.f32 1065353216#32) (Ideal.ofBits FTy.f32 1065353216#32 + Ideal.exp (-g)) *
      (Ideal.ofBits FTy.f32 1065353216#32 + g * (Ideal.ofBits FTy.f32 1065353216#32
        - Ideal.div (Ideal.ofBits FTy.f32 1065353216#32) (Ideal.ofBits FTy.f32 1065353216#32 + Ideal.exp (-g)))))
    = d * u * Ideal.div (Ideal.ofBits FTy.f32 1065353216#32) (Ideal.ofBits FTy.f32 1065353216#32 + Ideal.exp (-g))
      + g * (d * u) * (Ideal.div (Ideal.ofBits FTy.f32 1065353216#32) (Ideal.ofBits FTy.f32 1065353216#32 + Ideal.exp (-g)) *
        (Ideal.ofBits FTy.f32 1065353216#32
          - Ideal.div (Ideal.ofBits FTy.f32 1065353216#32) (Ideal.ofBits FTy.f32 1065353216#32 + Ideal.exp (-g)))) := by
  obtain ⟨g, rfl⟩ := hg
  obtain ⟨u, rfl⟩ := hu
  obtain ⟨d, rfl⟩ := hd
  rw [bits_one]
  change _ * (Ideal.logistic (g : EReal) * (_ + _ * (_ - Ideal.logistic (g : EReal)))) = _ * Ideal.logistic (g : EReal) + _ * (Ideal.logistic (g : EReal) * (_ - Ideal.logistic (g : EReal)))
  rw [Ideal.logistic_coe]
  norm_cast
  ring

end Cert.Gate
-- ==== Proof.Gate.UnitGradient.lean ====
/- The gradient of the feed-forward's unit. -/
module

public import proofs.«01_k».proof.Defs
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import Idealize.ShloMosaic.Adequacy
public import Idealize.ShloMosaic.Init
public import Idealize.ShloMosaic.Lib.Pipeline.ValueKit
public import proofs.«01_k».proof.Proof.Gate.Model
public import proofs.«01_k».proof.Proof.Gen.Pre_finite24

@[expose] public section

set_option maxRecDepth 16384

noncomputable section

open Idealize.ShloMosaic Idealize.ShloMosaic.TcCoe Idealize.SL.Sem

namespace Cert.Kernel24Ideal.Value
open Cert.Kernel24Ideal Cert.Kernel24Ideal.Gen

variable (m : (ℓ : Loc nD τ sig) → Buf (Elt Ideal) ℓ)

theorem ix2_zero {n k : ℕ} (a : Fin n) (b : Fin k) : (ix2 a b) 0 = a := rfl

theorem ix2_one {n k : ℕ} (a : Fin n) (b : Fin k) : (ix2 a b) 1 = b := rfl

/-- The blocks of each array at a grid point. -/
theorem idx : ∀ t : Fin cfg0.N, win0_0.index t = ![t.val, 0] ∧ win0_1.index t = ![t.val, 0] ∧ win0_2.index t = ![t.val, 0] :=
  (by decide +kernel : ∀ t : Fin grid0.N, _)

/-- What a point stores in the first half of the columns, at an entry. -/
theorem pay_first (x u d : Vec Ideal S256x2816 .bf16) (y : S256x2816.Idx) :
    k0_pay3 x u d y = d y * u y * (Ideal.div (Ideal.ofBits FTy.f32 1065353216#32) (Ideal.ofBits FTy.f32 1065353216#32 + Ideal.exp (-(x y))) *
      (Ideal.ofBits FTy.f32 1065353216#32 + x y * (Ideal.ofBits FTy.f32 1065353216#32 - Ideal.div (Ideal.ofBits FTy.f32 1065353216#32) (Ideal.ofBits FTy.f32 1065353216#32 + Ideal.exp (-(x y)))))) := by
  rw [← Cert.Gate.logistic_eq]
  pointwise [k0_pay3, k0_pay2, k0_pay1]

/-- What a point stores in the second half. -/
theorem pay_second (x d : Vec Ideal S256x2816 .bf16) (y : S256x2816.Idx) :
    k0_pay4 x d y = d y * (x y * Ideal.div (Ideal.ofBits FTy.f32 1065353216#32) (Ideal.ofBits FTy.f32 1065353216#32 + Ideal.exp (-(x y)))) := by
  rw [← Cert.Gate.logistic_eq]
  pointwise [k0_pay4, k0_pay2, k0_pay1]

/-- The row of the whole arrays that a block's row is. -/
def row (t : Fin cfg0.N) (a : Fin 256) : Fin 8192 := ⟨t.val * 256 + a.val, by have := lt_of_lt_of_eq t.isLt N_0; omega⟩

/-- A column of the first half. -/
def first (b : Fin 2816) : Fin 5632 := ⟨b.val, by omega⟩

/-- A column of the second half. -/
def second (b : Fin 2816) : Fin 5632 := ⟨2816 + b.val, by omega⟩

theorem block_first (c : Dev nD) (t : Fin cfg0.N) (a : Fin 256) (b : Fin 2816) :
    View.ld (iblk m c 0 t) r0_0 (ix2 a b) = (m ((c : Thread nD τ).loc main_arg0) : S8192x5632.Idx → EReal) (ix2 (row t a) (first b)) := by
  blk_point [iblk, V, idx t, row, first]

theorem block_second (c : Dev nD) (t : Fin cfg0.N) (a : Fin 256) (b : Fin 2816) :
    View.ld (iblk m c 0 t) r0_1 (ix2 a b) = (m ((c : Thread nD τ).loc main_arg0) : S8192x5632.Idx → EReal) (ix2 (row t a) (second b)) := by
  blk_point [iblk, V, idx t, row, second]

theorem block_grad (c : Dev nD) (t : Fin cfg0.N) (a : Fin 256) (b : Fin 2816) :
    View.ld (iblk m c 1 t) r0_2 (ix2 a b) = (m ((c : Thread nD τ).loc main_arg1) : S8192x2816.Idx → EReal) (ix2 (row t a) b) := by
  blk_point [iblk, V, idx t, row]

theorem place (t : Fin cfg0.N) (a : Fin 256) (b : Fin 5632) :
    (((cfg0.win 2).blk t).view.emb (ix2 a b : S256x5632.Idx) : S8192x5632.Idx) = ix2 (row t a) b := by
  blk_point [idx t, row]

open Cert.Reference24Ideal.Read in
/-- The gradient of the first half at an entry, as the reference has it. -/
theorem grad_first (x : S8192x5632.Idx → EReal) (d : S8192x2816.Idx → EReal) (r : Fin 8192) (j : Fin 2816) :
    Cert.Reference24Ideal.Read.val_main_v12 (F := Ideal) x d (ix2 r (first j))
      = d (ix2 r j) * x (ix2 r (second j)) * Ideal.div (Ideal.ofBits FTy.f32 1065353216#32) (Ideal.ofBits FTy.f32 1065353216#32 + Ideal.exp (-(x (ix2 r (first j)))))
        + x (ix2 r (first j)) * (d (ix2 r j) * x (ix2 r (second j)))
          * (Ideal.div (Ideal.ofBits FTy.f32 1065353216#32) (Ideal.ofBits FTy.f32 1065353216#32 + Ideal.exp (-(x (ix2 r (first j))))) * (Ideal.ofBits FTy.f32 1065353216#32 - Ideal.div (Ideal.ofBits FTy.f32 1065353216#32) (Ideal.ofBits FTy.f32 1065353216#32 + Ideal.exp (-(x (ix2 r (first j))))))) := by
  pointwise [val_main_call1_v2, val_main_call1_v1, val_main_call1_v0, val_main_v2_2, val_main_v2_1, val_main_v2_0, val_main_call0_v7, val_main_call0_v6, val_main_call0_v4, val_main_call0_v3, val_main_call0_v2, val_main_call0_v1, val_main_call0_v0, val_main_call0_cst, val_main_call0_cst_0, val_main_call0_cst_1, val_main_v12, val_main_v11, val_main_v10, val_main_v9, val_main_v8, val_main_v7, val_main_v6, val_main_v5, val_main_v4, val_main_v3, val_main_v1, val_main_v0, val_main_cst, val_main_cst_0, first, second]
  rw [dif_neg (by simp), zero_add]

open Cert.Reference24Ideal.Read in
/-- The gradient of the second half at an entry, as the reference has it. -/
theorem grad_second (x : S8192x5632.Idx → EReal) (d : S8192x2816.Idx → EReal) (r : Fin 8192) (j : Fin 2816) :
    Cert.Reference24Ideal.Read.val_main_v12 (F := Ideal) x d (ix2 r (second j))
      = x (ix2 r (first j)) * Ideal.div (Ideal.ofBits FTy.f32 1065353216#32) (Ideal.ofBits FTy.f32 1065353216#32 + Ideal.exp (-(x (ix2 r (first j))))) * d (ix2 r j) := by
  pointwise [val_main_call1_v2, val_main_call1_v1, val_main_call1_v0, val_main_v2_2, val_main_v2_1, val_main_v2_0, val_main_call0_v7, val_main_call0_v6, val_main_call0_v4, val_main_call0_v3, val_main_call0_v2, val_main_call0_v1, val_main_call0_v0, val_main_call0_cst, val_main_call0_cst_0, val_main_call0_cst_1, val_main_v12, val_main_v11, val_main_v10, val_main_v9, val_main_v8, val_main_v7, val_main_v6, val_main_v5, val_main_v4, val_main_v3, val_main_v1, val_main_v0, val_main_cst, val_main_cst_0, first, second]

open Cert.Gate in
/-- Of finite arguments, the call returns the gradient. -/
theorem final (c : Dev nD) (h0 : ∀ i, IsReal ((m ((c : Thread nD τ).loc main_arg0) : S8192x5632.Idx → EReal) i)) (h1 : ∀ i, IsReal ((m ((c : Thread nD τ).loc main_arg1) : S8192x2816.Idx → EReal) i)) :
    (dats m 0 c).arrAt 2 (cfgs 0).N = Cert.Reference24Ideal.Read.val_main_v12 (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 256) (b : Fin 5632), y = (ix2 a b : S256x5632.Idx) :=
    ⟨y 0, y 1, by funext i; match i with | ⟨0, _⟩ => rfl | ⟨1, _⟩ => rfl⟩
  refine Eq.trans ?_ (congrArg _ (place t a b).symm)
  blk_simp
  rw [after0_2]
  unfold out0_2
  by_cases hb : b.val < 2816
  · obtain ⟨j, rfl⟩ : ∃ j : Fin 2816, b = first j := ⟨⟨b.val, hb⟩, rfl⟩
    have e : (ix2 a (first j) : S256x5632.Idx) = r0_0.emb (ix2 a j : S256x2816.Idx) := by
      funext i
      match i with
      | ⟨0, _⟩ => exact Fin.ext (by simp [first, Rect.emb, Rect.unit])
      | ⟨1, _⟩ => exact Fin.ext (by simp [first, Rect.emb, Rect.unit])
    refine (View.canon_cons_of_not_mem _ _ ?_).trans ?_
    · intro hm
      have := ((Rect.mem_set_unit (inb := inb_S256x5632_S256x2816_0_2816)).mp hm 1).1
      change 2816 ≤ j.val at this
      omega
    · rw [e, View.canon_cons_emb]
      refine (pay_first _ _ _ _).trans (Eq.trans ?_ (grad_first _ _ (row t a) j).symm)
      rw [block_first, block_second, block_grad]
      exact unit_gradient (h0 _) (h0 _) (h1 _)
  · obtain ⟨j, rfl⟩ : ∃ j : Fin 2816, b = second j := ⟨⟨b.val - 2816, by omega⟩, Fin.ext (by simp only [second]; omega)⟩
    have e : (ix2 a (second j) : S256x5632.Idx) = r0_1.emb (ix2 a j : S256x2816.Idx) := by
      funext i
      match i with
      | ⟨0, _⟩ => exact Fin.ext (by simp [second, Rect.emb, Rect.unit])
      | ⟨1, _⟩ => exact Fin.ext (by simp [second, Rect.emb, Rect.unit])
    rw [e, View.canon_cons_emb]
    refine (pay_second _ _ _).trans (Eq.trans ?_ (grad_second _ _ (row t a) j).symm)
    rw [block_first, block_grad, mul_comm]

end Cert.Kernel24Ideal.Value

namespace Cert.Gate

open Cert.Reference24Ideal Cert.Reference24Ideal.Gen in
/-- The reference's run, with its array named. -/
theorem run_unit_gradient (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v12) = Read.val_main_v12 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v12_eq _ _), (h c).2⟩)
    (Value.run m ρ)

open Cert.Kernel24Ideal Cert.Kernel24Ideal.Gen in
/-- Under the precondition the arguments are finite. -/
theorem real_of_pre (m : (ℓ : Loc nD τ sig) → Buf (Elt Idealize.ShloMosaic.Ideal) ℓ)
    (h : Cert.Pre_Kernel24Ideal_finite24 (hPre_finite24 := Cert.Pre_finite24.Gen.facts) m) (c : Dev nD) :
    (∀ i, IsReal ((m ((c.tc : Thread nD τ).loc main_arg0) : S8192x5632.Idx → EReal) i))
      ∧ ∀ i, IsReal ((m ((c.tc : Thread nD τ).loc main_arg1) : S8192x2816.Idx → EReal) i) := by
  obtain ⟨h0, h1⟩ := h c
  refine ⟨fun i => ?_, fun i => ?_⟩
  · have hi := congrFun h0 i
    revert hi
    pointwise [Cert.Pre_finite24.fn]
    exact real_of_lt
  · have hi := congrFun h1 i
    revert hi
    pointwise [Cert.Pre_finite24.fn]
    exact real_of_lt

/-- Of finite arguments, the call and its reference return the same array. -/
theorem algebraic_unit_gradient : Cert.algebraic_Kernel24Ideal_Reference24Ideal_pre_finite24 (hKernel24Ideal := Cert.Kernel24Ideal.Gen.facts)
    (hReference24Ideal := Cert.Reference24Ideal.Gen.facts) (hPre_finite24 := Cert.Pre_finite24.Gen.facts) := by
  pair_intro
  · run_from Cert.Kernel24Ideal.Gen.run_main m g
  · run_from run_unit_gradient m' g'
    exact (Cert.Kernel24Ideal.Value.final m c (real_of_pre m ‹_› c).1 (real_of_pre m ‹_› c).2).symm

/-- The reference terminates, and leaves its arguments and the semaphores as they were. -/
theorem frame_unit_gradient : Cert.quiescent_Reference24Ideal (hReference24Ideal := Cert.Reference24Ideal.Gen.facts) := fun m g _ =>
  (θ_run _ _ _).mono (fun r h => ⟨fun c => (h c).2, sem_eq_zero_of_no_sems (by decide) r.2⟩)
    (Cert.Reference24Ideal.Value.run m g)

end Cert.Gate
-- ==== Proof.Gate.MergePoint.lean ====
/- The gradients of the merge: of the three branches, and of their gates. -/
module

public import proofs.«01_k».proof.Defs
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import Idealize.ShloMosaic.Adequacy
public import Idealize.ShloMosaic.Init
public import Idealize.ShloMosaic.Lib.Pipeline.ValueKit
public import proofs.«01_k».proof.Proof.Gate.Model

@[expose] public section

set_option maxRecDepth 16384

noncomputable section

open Idealize.ShloMosaic Idealize.ShloMosaic.TcCoe Idealize.SL.Sem

namespace Cert.Kernel25Ideal.Value
open Cert.Kernel25Ideal Cert.Kernel25Ideal.Gen

variable (m : (ℓ : Loc nD τ sig) → Buf (Elt Ideal) ℓ)

theorem ix2_zero {n k : ℕ} (a : Fin n) (b : Fin k) : (ix2 a b) 0 = a := rfl

theorem ix2_one {n k : ℕ} (a : Fin n) (b : Fin k) : (ix2 a b) 1 = b := rfl

/-- The blocks of each array at a grid point. -/
theorem idx : ∀ t : Fin cfg0.N, win0_0.index t = ![t.val, 0] ∧ win0_1.index t = ![t.val, 1] ∧ win0_2.index t = ![t.val, 2] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] ∧ win0_9.index t = ![t.val, 0] ∧ win0_10.index t = ![t.val, 0] :=
  (by decide +kernel : ∀ t : Fin grid0.N, _)

/-- What a point stores of branch 0's gradient, at an entry. -/
theorem pay_branch0 (d : Vec Ideal S512x1024 .f32) (x : Vec Ideal S512x1024 .bf16) (y : S512x1024.Idx) :
    k0_pay6 d x y = d y * Ideal.div (Ideal.ofBits FTy.f32 1065353216#32) (Ideal.ofBits FTy.f32 1065353216#32 + Ideal.exp (-(x y))) := by
  rw [← Cert.Gate.logistic_eq]
  pointwise [k0_pay6, k0_pay5]

/-- What a point stores of branch 1's gradient, at an entry. -/
theorem pay_branch1 (d : Vec Ideal S512x1024 .f32) (x : Vec Ideal S512x1024 .bf16) (y : S512x1024.Idx) :
    k0_pay9 d x y = d y * Ideal.div (Ideal.ofBits FTy.f32 1065353216#32) (Ideal.ofBits FTy.f32 1065353216#32 + Ideal.exp (-(x y))) := by
  rw [← Cert.Gate.logistic_eq]
  pointwise [k0_pay9, k0_pay8]

/-- What a point stores of branch 2's gradient, at an entry. -/
theorem pay_branch2 (d : Vec Ideal S512x1024 .f32) (x : Vec Ideal S512x1024 .bf16) (y : S512x1024.Idx) :
    k0_pay3 d x y = d y * Ideal.div (Ideal.ofBits FTy.f32 1065353216#32) (Ideal.ofBits FTy.f32 1065353216#32 + Ideal.exp (-(x y))) := by
  rw [← Cert.Gate.logistic_eq]
  pointwise [k0_pay3, k0_pay2]

/-- What a point stores of gate 0's gradient, at an entry. -/
theorem pay_gate0 (d : Vec Ideal S512x1024 .f32) (x b : Vec Ideal S512x1024 .bf16) (y : S512x1024.Idx) :
    k0_pay7 d x b y = d y * b y * Ideal.div (Ideal.ofBits FTy.f32 1065353216#32) (Ideal.ofBits FTy.f32 1065353216#32 + Ideal.exp (-(x y))) * (Ideal.ofBits FTy.f32 1065353216#32 - Ideal.div (Ideal.ofBits FTy.f32 1065353216#32) (Ideal.ofBits FTy.f32 1065353216#32 + Ideal.exp (-(x y)))) := by
  rw [← Cert.Gate.logistic_eq]
  pointwise [k0_pay7, k0_pay5]

/-- What a point stores of gate 1's gradient, at an entry. -/
theorem pay_gate1 (d : Vec Ideal S512x1024 .f32) (x b : Vec Ideal S512x1024 .bf16) (y : S512x1024.Idx) :
    k0_pay1 d (k0_pay8 x) b y = d y * b y * Ideal.div (Ideal.ofBits FTy.f32 1065353216#32) (Ideal.ofBits FTy.f32 1065353216#32 + Ideal.exp (-(x y))) * (Ideal.ofBits FTy.f32 1065353216#32 - Ideal.div (Ideal.ofBits FTy.f32 1065353216#32) (Ideal.ofBits FTy.f32 1065353216#32 + Ideal.exp (-(x y)))) := by
  rw [← Cert.Gate.logistic_eq]
  pointwise [k0_pay1, k0_pay8]

/-- What a point stores of gate 2's gradient, at an entry. -/
theorem pay_gate2 (d : Vec Ideal S512x1024 .f32) (x b : Vec Ideal S512x1024 .bf16) (y : S512x1024.Idx) :
    k0_pay4 d x b y = d y * b y * Ideal.div (Ideal.ofBits FTy.f32 1065353216#32) (Ideal.ofBits FTy.f32 1065353216#32 + Ideal.exp (-(x y))) * (Ideal.ofBits FTy.f32 1065353216#32 - Ideal.div (Ideal.ofBits FTy.f32 1065353216#32) (Ideal.ofBits FTy.f32 1065353216#32 + Ideal.exp (-(x y)))) := by
  rw [← Cert.Gate.logistic_eq]
  pointwise [k0_pay4, k0_pay2]

/-- The row of the whole arrays that a block's row is. -/
def row (t : Fin cfg0.N) (a : Fin 512) : Fin 8192 := ⟨t.val * 512 + a.val, by have := lt_of_lt_of_eq t.isLt N_0; omega⟩

/-- A column of the projection that gates a branch. -/
def gate (n : Fin 3) (b : Fin 1024) : Fin 7040 := ⟨n.val * 1024 + b.val, by omega⟩

theorem gates0 (c : Dev nD) (t : Fin cfg0.N) (a : Fin 512) (b : Fin 1024) :
    X0_0 m c t (ix2 a b) = (m ((c : Thread nD τ).loc main_arg0) : S8192x7040.Idx → EReal) (ix2 (row t a) (gate 0 b)) := by
  unfold X0_0 Pipeline.Window.fill
  rw [dif_pos (moved0_0 t _)]
  blk_point [iblk, V, idx t, row, gate]

theorem gates1 (c : Dev nD) (t : Fin cfg0.N) (a : Fin 512) (b : Fin 1024) :
    X0_1 m c t (ix2 a b) = (m ((c : Thread nD τ).loc main_arg0) : S8192x7040.Idx → EReal) (ix2 (row t a) (gate 1 b)) := by
  unfold X0_1 Pipeline.Window.fill
  rw [dif_pos (moved0_1 t _)]
  blk_point [iblk, V, idx t, row, gate]

theorem gates2 (c : Dev nD) (t : Fin cfg0.N) (a : Fin 512) (b : Fin 1024) :
    X0_2 m c t (ix2 a b) = (m ((c : Thread nD τ).loc main_arg0) : S8192x7040.Idx → EReal) (ix2 (row t a) (gate 2 b)) := by
  unfold X0_2 Pipeline.Window.fill
  rw [dif_pos (moved0_2 t _)]
  blk_point [iblk, V, idx t, row, gate]

theorem branch0 (c : Dev nD) (t : Fin cfg0.N) (a : Fin 512) (b : Fin 1024) :
    iblk m c 3 t (ix2 a b) = (m ((c : Thread nD τ).loc main_arg1) : S8192x1024.Idx → EReal) (ix2 (row t a) b) := by
  blk_point [iblk, V, idx t, row]

theorem branch1 (c : Dev nD) (t : Fin cfg0.N) (a : Fin 512) (b : Fin 1024) :
    iblk m c 4 t (ix2 a b) = (m ((c : Thread nD τ).loc main_arg2) : S8192x1024.Idx → EReal) (ix2 (row t a) b) := by
  blk_point [iblk, V, idx t, row]

theorem branch2 (c : Dev nD) (t : Fin cfg0.N) (a : Fin 512) (b : Fin 1024) :
    iblk m c 5 t (ix2 a b) = (m ((c : Thread nD τ).loc main_arg3) : S8192x1024.Idx → EReal) (ix2 (row t a) b) := by
  blk_point [iblk, V, idx t, row]

theorem upstream (c : Dev nD) (t : Fin cfg0.N) (a : Fin 512) (b : Fin 1024) :
    iblk m c 6 t (ix2 a b) = (m ((c : Thread nD τ).loc main_arg4) : S8192x1024.Idx → EReal) (ix2 (row t a) b) := by
  blk_point [iblk, V, idx t, row]

theorem place7 (t : Fin cfg0.N) (a : Fin 512) (b : Fin 1024) :
    (((cfg0.win 7).blk t).view.emb (ix2 a b : S512x1024.Idx) : S8192x1024.Idx) = ix2 (row t a) b := by
  blk_point [idx t, row]

theorem place8 (t : Fin cfg0.N) (a : Fin 512) (b : Fin 1024) :
    (((cfg0.win 8).blk t).view.emb (ix2 a b : S512x1024.Idx) : S8192x1024.Idx) = ix2 (row t a) b := by
  blk_point [idx t, row]

theorem place9 (t : Fin cfg0.N) (a : Fin 512) (b : Fin 1024) :
    (((cfg0.win 9).blk t).view.emb (ix2 a b : S512x1024.Idx) : S8192x1024.Idx) = ix2 (row t a) b := by
  blk_point [idx t, row]

open Cert.Reference25Ideal.Read in
/-- Branch 0's gradient at an entry, as the reference has it. -/
theorem branch_eq0 (x : S8192x7040.Idx → EReal) (d : S8192x1024.Idx → EReal) (r : Fin 8192) (j : Fin 1024) :
    Cert.Reference25Ideal.Read.val_main_v32 (F := Ideal) x d (ix2 r j) = Ideal.div (Ideal.ofBits FTy.f32 1065353216#32) (Ideal.ofBits FTy.f32 1065353216#32 + Ideal.exp (-(x (ix2 r (gate 0 j))))) * d (ix2 r j) := by
  pointwise [val_main_v32, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, gate]

open Cert.Reference25Ideal.Read in
/-- Branch 1's gradient at an entry, as the reference has it. -/
theorem branch_eq1 (x : S8192x7040.Idx → EReal) (d : S8192x1024.Idx → EReal) (r : Fin 8192) (j : Fin 1024) :
    Cert.Reference25Ideal.Read.val_main_v33 (F := Ideal) x d (ix2 r j) = Ideal.div (Ideal.ofBits FTy.f32 1065353216#32) (Ideal.ofBits FTy.f32 1065353216#32 + Ideal.exp (-(x (ix2 r (gate 1 j))))) * d (ix2 r j) := by
  pointwise [val_main_v33, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, gate]

open Cert.Reference25Ideal.Read in
/-- Branch 2's gradient at an entry, as the reference has it. -/
theorem branch_eq2 (x : S8192x7040.Idx → EReal) (d : S8192x1024.Idx → EReal) (r : Fin 8192) (j : Fin 1024) :
    Cert.Reference25Ideal.Read.val_main_v34 (F := Ideal) x d (ix2 r j) = Ideal.div (Ideal.ofBits FTy.f32 1065353216#32) (Ideal.ofBits FTy.f32 1065353216#32 + Ideal.exp (-(x (ix2 r (gate 2 j))))) * d (ix2 r j) := by
  pointwise [val_main_v34, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, gate]

/-- A column of the gates' gradient. -/
def part (n : Fin 3) (b : Fin 1024) : Fin 3072 := ⟨n.val * 1024 + b.val, by omega⟩

open Cert.Reference25Ideal.Read in
/-- Gate 0's gradient at an entry, as the reference has it. -/
theorem gate_eq0 (x : S8192x7040.Idx → EReal) (b0 b1 b2 d : S8192x1024.Idx → EReal) (r : Fin 8192) (j : Fin 1024) :
    Cert.Reference25Ideal.Read.val_main_v35 (F := Ideal) x b0 b1 b2 d (ix2 r (part 0 j))
      = d (ix2 r j) * b0 (ix2 r j) * (Ideal.div (Ideal.ofBits FTy.f32 1065353216#32) (Ideal.ofBits FTy.f32 1065353216#32 + Ideal.exp (-(x (ix2 r (gate 0 j))))) * (Ideal.ofBits FTy.f32 1065353216#32 - Ideal.div (Ideal.ofBits FTy.f32 1065353216#32) (Ideal.ofBits FTy.f32 1065353216#32 + Ideal.exp (-(x (ix2 r (gate 0 j))))))) := by
  pointwise [val_main_v35, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, gate, part]
  have h : j.val / 1024 = 0 := by omega
  have h2 : j.val % 1024 = j.val := by omega
  simp [h, h2]

open Cert.Reference25Ideal.Read in
/-- Gate 1's gradient at an entry, as the reference has it. -/
theorem gate_eq1 (x : S8192x7040.Idx → EReal) (b0 b1 b2 d : S8192x1024.Idx → EReal) (r : Fin 8192) (j : Fin 1024) :
    Cert.Reference25Ideal.Read.val_main_v35 (F := Ideal) x b0 b1 b2 d (ix2 r (part 1 j))
      = d (ix2 r j) * b1 (ix2 r j) * (Ideal.div (Ideal.ofBits FTy.f32 1065353216#32) (Ideal.ofBits FTy.f32 1065353216#32 + Ideal.exp (-(x (ix2 r (gate 1 j))))) * (Ideal.ofBits FTy.f32 1065353216#32 - Ideal.div (Ideal.ofBits FTy.f32 1065353216#32) (Ideal.ofBits FTy.f32 1065353216#32 + Ideal.exp (-(x (ix2 r (gate 1 j))))))) := by
  pointwise [val_main_v35, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, gate, part]
  have h : (1024 + j.val) / 1024 = 1 := by omega
  simp [h]

open Cert.Reference25Ideal.Read in
/-- Gate 2's gradient at an entry, as the reference has it. -/
theorem gate_eq2 (x : S8192x7040.Idx → EReal) (b0 b1 b2 d : S8192x1024.Idx → EReal) (r : Fin 8192) (j : Fin 1024) :
    Cert.Reference25Ideal.Read.val_main_v35 (F := Ideal) x b0 b1 b2 d (ix2 r (part 2 j))
      = d (ix2 r j) * b2 (ix2 r j) * (Ideal.div (Ideal.ofBits FTy.f32 1065353216#32) (Ideal.ofBits FTy.f32 1065353216#32 + Ideal.exp (-(x (ix2 r (gate 2 j))))) * (Ideal.ofBits FTy.f32 1065353216#32 - Ideal.div (Ideal.ofBits FTy.f32 1065353216#32) (Ideal.ofBits FTy.f32 1065353216#32 + Ideal.exp (-(x (ix2 r (gate 2 j))))))) := by
  pointwise [val_main_v35, val_main_v31, val_main_v30, val_main_v29, val_main_v28, val_main_v27, val_main_v26, val_main_v25, val_main_v24, val_main_v23, val_main_v22, val_main_v21, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, gate, part]
  have h : (2048 + j.val) / 1024 = 2 := by omega
  simp [h]

/-- The call returns branch 0's gradient. -/
theorem final7 (c : Dev nD) :
    (dats m 0 c).arrAt 7 (cfgs 0).N = Cert.Reference25Ideal.Read.val_main_v32 (m ((c : Thread nD τ).loc main_arg0)) (m ((c : Thread nD τ).loc main_arg4)) := by
  refine (dats m 0 c).arrAt_eq_of_covers 7 _ (by decide +kernel) fun t hf y => ?_
  obtain ⟨a, b, rfl⟩ : ∃ (a : Fin 512) (b : Fin 1024), y = (ix2 a b : S512x1024.Idx) :=
    ⟨y 0, y 1, by funext i; match i with | ⟨0, _⟩ => rfl | ⟨1, _⟩ => rfl⟩
  refine Eq.trans ?_ (congrArg _ (place7 t a b).symm)
  blk_simp
  rw [after0_7]
  have e : ((outsAt0 m c t).1 : S512x1024.Idx → EReal) (ix2 a b) = k0_pay6 (iblk m c 6 t) (X0_0 m c t) (ix2 a b) := by
    unfold outsAt0
    frame_out
  refine e.trans ((pay_branch0 _ _ _).trans (Eq.trans ?_ (branch_eq0 _ _ (row t a) b).symm))
  rw [gates0, upstream, mul_comm]

/-- The call returns branch 1's gradient. -/
theorem final8 (c : Dev nD) :
    (dats m 0 c).arrAt 8 (cfgs 0).N = Cert.Reference25Ideal.Read.val_main_v33 (m ((c : Thread nD τ).loc main_arg0)) (m ((c : Thread nD τ).loc main_arg4)) := by
  refine (dats m 0 c).arrAt_eq_of_covers 8 _ (by decide +kernel) fun t hf y => ?_
  obtain ⟨a, b, rfl⟩ : ∃ (a : Fin 512) (b : Fin 1024), y = (ix2 a b : S512x1024.Idx) :=
    ⟨y 0, y 1, by funext i; match i with | ⟨0, _⟩ => rfl | ⟨1, _⟩ => rfl⟩
  refine Eq.trans ?_ (congrArg _ (place8 t a b).symm)
  blk_simp
  rw [after0_8]
  have e : ((outsAt0 m c t).2.1 : S512x1024.Idx → EReal) (ix2 a b) = k0_pay9 (iblk m c 6 t) (X0_1 m c t) (ix2 a b) := by
    unfold outsAt0
    frame_out
  refine e.trans ((pay_branch1 _ _ _).trans (Eq.trans ?_ (branch_eq1 _ _ (row t a) b).symm))
  rw [gates1, upstream, mul_comm]

/-- The call returns branch 2's gradient. -/
theorem final9 (c : Dev nD) :
    (dats m 0 c).arrAt 9 (cfgs 0).N = Cert.Reference25Ideal.Read.val_main_v34 (m ((c : Thread nD τ).loc main_arg0)) (m ((c : Thread nD τ).loc main_arg4)) := by
  refine (dats m 0 c).arrAt_eq_of_covers 9 _ (by decide +kernel) fun t hf y => ?_
  obtain ⟨a, b, rfl⟩ : ∃ (a : Fin 512) (b : Fin 1024), y = (ix2 a b : S512x1024.Idx) :=
    ⟨y 0, y 1, by funext i; match i with | ⟨0, _⟩ => rfl | ⟨1, _⟩ => rfl⟩
  refine Eq.trans ?_ (congrArg _ (place9 t a b).symm)
  blk_simp
  rw [after0_9]
  have e : ((outsAt0 m c t).2.2.1 : S512x1024.Idx → EReal) (ix2 a b) = k0_pay3 (iblk m c 6 t) (X0_2 m c t) (ix2 a b) := by
    unfold outsAt0
    frame_out
  refine e.trans ((pay_branch2 _ _ _).trans (Eq.trans ?_ (branch_eq2 _ _ (row t a) b).symm))
  rw [gates2, upstream, mul_comm]

theorem size_part : ∀ t : Fin cfg0.N, ∀ a, (cfg0.win 10).xsize (cfg0.grid.coords t) a = (cfg0.win 10).size a := by decide +kernel

/-- What a point leaves of gate 0's gradient, at an entry. -/
theorem left0 (c : Dev nD) (t : Fin cfg0.N) (a : Fin 512) (j : Fin 1024) :
    ((outsAt0 m c t).2.2.2 : S512x3072.Idx → EReal) (ix2 a (part 0 j))
      = Cert.Reference25Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) (part 0 j)) := by
  unfold outsAt0
  frame_out
  have e : (ix2 a (part 0 j) : S512x3072.Idx) = (Rect.unit (s := S512x3072) ![0, 0] S512x1024.size inb_S512x3072_S512x1024_0_0).emb (ix2 a j : S512x1024.Idx) := by
    funext i
    match i with
    | ⟨0, _⟩ => exact Fin.ext (by simp [part, Rect.emb, Rect.unit])
    | ⟨1, _⟩ => exact Fin.ext (by simp [part, Rect.emb, Rect.unit])
  refine (View.canon_cons_of_not_mem _ _ ?_).trans ?_
  · intro hm
    have := ((Rect.mem_set_unit (inb := inb_S512x3072_S512x1024_0_2048)).mp hm 1).1
    change 2048 ≤ 0 * 1024 + j.val at this
    omega
  refine (View.canon_cons_of_not_mem _ _ ?_).trans ?_
  · intro hm
    have := ((Rect.mem_set_unit (inb := inb_S512x3072_S512x1024_0_1024)).mp hm 1).1
    change 1024 ≤ 0 * 1024 + j.val at this
    omega
  rw [e]
  refine (View.canon_cons_emb _ _ _ _).trans ?_
  refine (pay_gate0 _ _ _ _).trans (Eq.trans ?_ (gate_eq0 _ _ _ _ _ (row t a) j).symm)
  rw [gates0, branch0, upstream, mul_assoc]

/-- What a point leaves of gate 1's gradient, at an entry. -/
theorem left1 (c : Dev nD) (t : Fin cfg0.N) (a : Fin 512) (j : Fin 1024) :
    ((outsAt0 m c t).2.2.2 : S512x3072.Idx → EReal) (ix2 a (part 1 j))
      = Cert.Reference25Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) (part 1 j)) := by
  unfold outsAt0
  frame_out
  have e : (ix2 a (part 1 j) : S512x3072.Idx) = (Rect.unit (s := S512x3072) ![0, 1024] S512x1024.size inb_S512x3072_S512x1024_0_1024).emb (ix2 a j : S512x1024.Idx) := by
    funext i
    match i with
    | ⟨0, _⟩ => exact Fin.ext (by simp [part, Rect.emb, Rect.unit])
    | ⟨1, _⟩ => exact Fin.ext (by simp [part, Rect.emb, Rect.unit])
  refine (View.canon_cons_of_not_mem _ _ ?_).trans ?_
  · intro hm
    have := ((Rect.mem_set_unit (inb := inb_S512x3072_S512x1024_0_2048)).mp hm 1).1
    change 2048 ≤ 1 * 1024 + j.val at this
    omega
  rw [e]
  refine (View.canon_cons_emb _ _ _ _).trans ?_
  refine (pay_gate1 _ _ _ _).trans (Eq.trans ?_ (gate_eq1 _ _ _ _ _ (row t a) j).symm)
  rw [gates1, branch1, upstream, mul_assoc]

/-- What a point leaves of gate 2's gradient, at an entry. -/
theorem left2 (c : Dev nD) (t : Fin cfg0.N) (a : Fin 512) (j : Fin 1024) :
    ((outsAt0 m c t).2.2.2 : S512x3072.Idx → EReal) (ix2 a (part 2 j))
      = Cert.Reference25Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) (part 2 j)) := by
  unfold outsAt0
  frame_out
  have e : (ix2 a (part 2 j) : S512x3072.Idx) = (Rect.unit (s := S512x3072) ![0, 2048] S512x1024.size inb_S512x3072_S512x1024_0_2048).emb (ix2 a j : S512x1024.Idx) := by
    funext i
    match i with
    | ⟨0, _⟩ => exact Fin.ext (by simp [part, Rect.emb, Rect.unit])
    | ⟨1, _⟩ => exact Fin.ext (by simp [part, Rect.emb, Rect.unit])
  rw [e]
  refine (View.canon_cons_emb _ _ _ _).trans ?_
  refine (pay_gate2 _ _ _ _).trans (Eq.trans ?_ (gate_eq2 _ _ _ _ _ (row t a) j).symm)
  rw [gates2, branch2, upstream, mul_assoc]

theorem left (c : Dev nD) (t : Fin cfg0.N) (n : Fin 3) (a : Fin 512) (j : Fin 1024) :
    ((outsAt0 m c t).2.2.2 : S512x3072.Idx → EReal) (ix2 a (part n j))
      = Cert.Reference25Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (row t a) (part n j)) :=
  match n with
  | 0 => left0 m c t a j
  | 1 => left1 m c t a j
  | 2 => left2 m c t a j

end Cert.Kernel25Ideal.Value
-- ==== Proof.Gate.MergeGradient.lean ====
/- The gradients of the merge, over the whole arrays. -/
module

public import proofs.«01_k».proof.Defs
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Reference25Ideal.Read
public import Idealize.ShloMosaic.Adequacy
public import Idealize.ShloMosaic.Init
public import Idealize.ShloMosaic.Lib.Pipeline.ValueKit
public import proofs.«01_k».proof.Proof.Gate.MergePoint

@[expose] public section

set_option maxRecDepth 16384

noncomputable section

open Idealize.ShloMosaic Idealize.ShloMosaic.TcCoe Idealize.SL.Sem

namespace Cert.Kernel25Ideal.Value
open Cert.Kernel25Ideal Cert.Kernel25Ideal.Gen

variable (m : (ℓ : Loc nD τ sig) → Buf (Elt Ideal) ℓ)

/-- The gates' gradient over the columns that the call writes. -/
def gateGradient (c : Dev nD) (i : S8192x7040.Idx) : EReal :=
  if h : (i 1).val < 3072 then Cert.Reference25Ideal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (i 0) ⟨(i 1).val, h⟩) else 0

/-- An offset of zero blocks. -/
theorem offset_zero {a : ℕ} (s y : ℕ) (h : a = 0) : a * s + y = y := by rw [h, Nat.zero_mul, Nat.zero_add]

/-- Where an entry of a point's block of the gates' gradient lies. -/
theorem place10 (t : Fin cfg0.N) (y : ((cfg0.win 10).xblock (cfg0.grid.coords t)).Idx) (h0 : (y 0).val < 512) (h1 : (y 1).val < 3072) :
    ((((cfg0.win 10).blk t).view.emb y : S8192x7040.Idx) 0).val = (row t ⟨(y 0).val, h0⟩).val
      ∧ ((((cfg0.win 10).blk t).view.emb y : S8192x7040.Idx) 1).val = (y 1).val := by
  constructor
  · blk_point [idx t, row]
  · exact (Pipeline.Window.rect_emb_val win0_10 t y 1 rfl).trans (offset_zero _ _ (congrFun (idx t).2.2.2.2.2.2.2.2.2.2 1))

/-- What a point leaves of the gates' gradient, at an entry of the whole. -/
theorem point10 (c : Dev nD) (t : Fin cfg0.N) (a : Fin 512) (b : Fin 3072) (i : S8192x7040.Idx) (h0 : (i 0).val = (row t a).val) (h1 : (i 1).val = b.val) :
    ((outsAt0 m c t).2.2.2 : S512x3072.Idx → EReal) (ix2 a b) = gateGradient m c i := by
  obtain ⟨n, j, rfl⟩ : ∃ (n : Fin 3) (j : Fin 1024), b = part n j :=
    ⟨⟨b.val / 1024, by omega⟩, ⟨b.val % 1024, by omega⟩, Fin.ext (by simp only [part]; omega)⟩
  have q : (i 1).val < 3072 := lt_of_eq_of_lt h1 (part n j).isLt
  have p : (ix2 (row t a) (part n j) : S8192x3072.Idx) = ix2 (i 0) ⟨(i 1).val, q⟩ := by
    funext k
    match k with
    | ⟨0, _⟩ => exact Fin.ext h0.symm
    | ⟨1, _⟩ => exact Fin.ext h1.symm
  rw [left, p]
  unfold gateGradient
  rw [dif_pos q]
  rfl

/-- The same, at an entry of the part of the point's block that is moved. -/
theorem whole10 (c : Dev nD) (t : Fin cfg0.N) (y : ((cfg0.win 10).xblock (cfg0.grid.coords t)).Idx) (h0 : (y 0).val < 512) (h1 : (y 1).val < 3072) :
    ((outsAt0 m c t).2.2.2 : S512x3072.Idx → EReal) (ix2 ⟨(y 0).val, h0⟩ ⟨(y 1).val, h1⟩) = gateGradient m c (((cfg0.win 10).blk t).view.emb y) :=
  point10 m c t ⟨(y 0).val, h0⟩ ⟨(y 1).val, h1⟩ (((cfg0.win 10).blk t).view.emb y) (place10 t y h0 h1).1 (place10 t y h0 h1).2

/-- An entry of a point's block, within the part of it that is moved. -/
theorem moved10 (t : Fin cfg0.N) (y : ((cfg0.win 10).xblock (cfg0.grid.coords t)).Idx) (h0 : (y 0).val < 512) (h1 : (y 1).val < 3072) :
    (cfg0.win 10).xinj (cfg0.grid.coords t) y = (ix2 ⟨(y 0).val, h0⟩ ⟨(y 1).val, h1⟩ : S512x3072.Idx) := by
  funext i
  match i with
  | ⟨0, _⟩ => exact Fin.ext rfl
  | ⟨1, _⟩ => exact Fin.ext rfl

/-- The call leaves the gates' gradient in the columns that it writes. -/
theorem final10 (c : Dev nD) :
    (dats m 0 c).arrAt 10 (cfgs 0).N = fun i : S8192x7040.Idx => if (i 1).val / 3072 = 0 then gateGradient m c i else V m c main_v0_3 i := by
  refine (dats m 0 c).arrAt_eq_of_coversWhere 10 (gateGradient m c) (fun β => β (1 : Fin 2) = 0) (by decide +kernel) (fun t hf y => ?_) (fun j => Iff.rfl)
  · have h0 : (y 0).val < 512 := lt_of_lt_of_eq (y 0).isLt (size_part t 0)
    have h1 : (y 1).val < 3072 := lt_of_lt_of_eq (y 1).isLt (size_part t 1)
    refine (cast_eq rfl _).trans ?_
    rw [moved10 t y h0 h1, after0_10]
    exact whole10 m c t y h0 h1

/-- The slice after the call reads those columns. -/
theorem tail (c : Dev nD) : Pipeline.afterTail₀ cfgs (dats m) 0 (V0 m) [hostOps1] c main_v1 = Cert.Reference25Ideal.Read.val_main_v35 (m ((c : Thread nD τ).loc main_arg0)) (m ((c : Thread nD τ).loc main_arg1)) (m ((c : Thread nD τ).loc main_arg2)) (m ((c : Thread nD τ).loc main_arg3)) (m ((c : Thread nD τ).loc main_arg4)) := by
  have e : Pipeline.afterTail₀ cfgs (dats m) 0 (V0 m) [hostOps1] c main_v1
      = extractStridedSlice S8192x3072 ![0, 0] ((dats m 0 c).arrAt 10 (cfgs 0).N : S8192x7040.Idx → EReal) slices_S8192x7040_S8192x3072_0_0 := by
    rw [← (dats m 0 c).withArrays_arrAt sharedIn0 (V0 m c) (A_eq m c) 10]
    unfold Pipeline.afterTail₀
    after_results
    rfl
  rw [e, final10]
  funext i
  obtain ⟨a, b, rfl⟩ : ∃ (a : Fin 8192) (b : Fin 3072), i = (ix2 a b : S8192x3072.Idx) :=
    ⟨i 0, i 1, by funext k; match k with | ⟨0, _⟩ => rfl | ⟨1, _⟩ => rfl⟩
  have hb : 0 + b.val < 3072 := by omega
  refine (if_pos (Nat.div_eq_of_lt hb)).trans ((dif_pos hb).trans ?_)
  congr 1
  funext k
  match k with
  | ⟨0, _⟩ => exact Fin.ext (Nat.zero_add _)
  | ⟨1, _⟩ => exact Fin.ext (Nat.zero_add _)

end Cert.Kernel25Ideal.Value

namespace Cert.Gate

open Cert.Reference25Ideal Cert.Reference25Ideal.Gen in
/-- The reference's run, with its arrays named. -/
theorem run_merge_gradient (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v32) = Read.val_main_v32 (m ((c.tc : Thread nD τ).loc main_arg0)) (m ((c.tc : Thread nD τ).loc main_arg4))
      ∧ r.2.mem ((c.tc : Thread nD τ).loc main_v33) = Read.val_main_v33 (m ((c.tc : Thread nD τ).loc main_arg0)) (m ((c.tc : Thread nD τ).loc main_arg4))
      ∧ r.2.mem ((c.tc : Thread nD τ).loc main_v34) = Read.val_main_v34 (m ((c.tc : Thread nD τ).loc main_arg0)) (m ((c.tc : Thread nD τ).loc main_arg4))
      ∧ r.2.mem ((c.tc : Thread nD τ).loc main_v35) = Read.val_main_v35 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (Read.val_main_v32_eq _ _), (h c).2.1.trans (Read.val_main_v33_eq _ _),
      (h c).2.2.1.trans (Read.val_main_v34_eq _ _), (h c).2.2.2.1.trans (Read.val_main_v35_eq _ _ _ _ _), (h c).2.2.2.2⟩)
    (Value.run m ρ)

/-- The call and its reference return the same arrays. -/
theorem algebraic_merge_gradient : Cert.algebraic_Kernel25Ideal_Reference25Ideal (hKernel25Ideal := Cert.Kernel25Ideal.Gen.facts)
    (hReference25Ideal := Cert.Reference25Ideal.Gen.facts) := by
  pair_intro
  · run_from Cert.Kernel25Ideal.Gen.run_main m g
  · run_from run_merge_gradient m' g'
    · exact (Cert.Kernel25Ideal.Value.final7 m c).symm
    · exact (Cert.Kernel25Ideal.Value.final8 m c).symm
    · exact (Cert.Kernel25Ideal.Value.final9 m c).symm
    · exact (Cert.Kernel25Ideal.Value.tail m c).symm

/-- The reference terminates, and leaves its arguments and the semaphores as they were. -/
theorem frame_merge_gradient : Cert.quiescent_Reference25Ideal (hReference25Ideal := Cert.Reference25Ideal.Gen.facts) := fun m g _ =>
  (θ_run _ _ _).mono (fun r h => ⟨fun c => (h c).2.2.2.2, sem_eq_zero_of_no_sems (by decide) r.2⟩)
    (Cert.Reference25Ideal.Value.run m g)

end Cert.Gate
-- ==== Proof.Gate.Unit.lean ====
/- The unit between the two products of the feed-forward: one half of the columns through the gate, times the other half. -/
module

public import proofs.«01_k».proof.Defs
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import Idealize.ShloMosaic.Adequacy
public import Idealize.ShloMosaic.Init
public import Idealize.ShloMosaic.Lib.Pipeline.ValueKit
public import proofs.«01_k».proof.Proof.Gate.Model

@[expose] public section

set_option maxRecDepth 16384

noncomputable section

open Idealize.ShloMosaic Idealize.ShloMosaic.TcCoe Idealize.SL.Sem

namespace Cert.Kernel26Ideal.Value
open Cert.Kernel26Ideal Cert.Kernel26Ideal.Gen

variable (m : (ℓ : Loc nD τ sig) → Buf (Elt Ideal) ℓ)

theorem ix2_zero {n k : ℕ} (a : Fin n) (b : Fin k) : (ix2 a b) 0 = a := rfl

theorem ix2_one {n k : ℕ} (a : Fin n) (b : Fin k) : (ix2 a b) 1 = b := rfl

/-- The blocks of each array at a grid point. -/
theorem idx : ∀ t : Fin cfg0.N, win0_0.index t = ![t.val, 0] ∧ win0_1.index t = ![t.val, 0] :=
  (by decide +kernel : ∀ t : Fin grid0.N, _)

/-- What a point stores, at an entry. -/
theorem pay (x u : Vec Ideal S256x2816 .bf16) (y : S256x2816.Idx) :
    k0_pay1 x u y = x y * Ideal.div (Ideal.ofBits FTy.f32 1065353216#32) (Ideal.ofBits FTy.f32 1065353216#32 + Ideal.exp (-(x y))) * u y := by
  rw [← Cert.Gate.logistic_eq]
  pointwise [k0_pay1]

/-- The row of the whole arrays that a block's row is. -/
def row (t : Fin cfg0.N) (a : Fin 256) : Fin 8192 := ⟨t.val * 256 + a.val, by have := lt_of_lt_of_eq t.isLt N_0; omega⟩

/-- A column of the first half. -/
def first (b : Fin 2816) : Fin 5632 := ⟨b.val, by omega⟩

/-- A column of the second half. -/
def second (b : Fin 2816) : Fin 5632 := ⟨2816 + b.val, by omega⟩

theorem block_first (c : Dev nD) (t : Fin cfg0.N) (a : Fin 256) (b : Fin 2816) :
    View.ld (iblk m c 0 t) r0_0 (ix2 a b) = (m ((c : Thread nD τ).loc main_arg0) : S8192x5632.Idx → EReal) (ix2 (row t a) (first b)) := by
  blk_point [iblk, V, idx t, row, first]

theorem block_second (c : Dev nD) (t : Fin cfg0.N) (a : Fin 256) (b : Fin 2816) :
    View.ld (iblk m c 0 t) r0_1 (ix2 a b) = (m ((c : Thread nD τ).loc main_arg0) : S8192x5632.Idx → EReal) (ix2 (row t a) (second b)) := by
  blk_point [iblk, V, idx t, row, second]

theorem place (t : Fin cfg0.N) (a : Fin 256) (b : Fin 2816) :
    (((cfg0.win 1).blk t).view.emb (ix2 a b : S256x2816.Idx) : S8192x2816.Idx) = ix2 (row t a) b := by
  blk_point [idx t, row]

open Cert.Reference26Ideal.Read in
/-- The unit at an entry, as the reference has it. -/
theorem unit_eq (x : S8192x5632.Idx → EReal) (r : Fin 8192) (j : Fin 2816) :
    Cert.Reference26Ideal.Read.val_main_v5 (F := Ideal) x (ix2 r j)
      = x (ix2 r (first j)) * Ideal.div (Ideal.ofBits FTy.f32 1065353216#32)
        (Ideal.ofBits FTy.f32 1065353216#32 + Ideal.exp (-(x (ix2 r (first j))))) * x (ix2 r (second j)) := by
  pointwise [val_main_call0_v5, val_main_call0_v4, val_main_call0_v3, val_main_call0_v2, val_main_call0_v1, val_main_call0_v0, val_main_call0_cst, val_main_call0_cst_0, val_main_v5, val_main_v4, val_main_v3, val_main_v2, val_main_v1, val_main_v0, first, second]

/-- The call returns the unit. -/
theorem final (c : Dev nD) :
    (dats m 0 c).arrAt 1 (cfgs 0).N = Cert.Reference26Ideal.Read.val_main_v5 (m ((c : Thread nD τ).loc main_arg0)) := by
  refine (dats m 0 c).arrAt_eq_of_covers 1 _ (by decide +kernel) fun t hf y => ?_
  obtain ⟨a, b, rfl⟩ : ∃ (a : Fin 256) (b : Fin 2816), y = (ix2 a b : S256x2816.Idx) :=
    ⟨y 0, y 1, by funext i; match i with | ⟨0, _⟩ => rfl | ⟨1, _⟩ => rfl⟩
  refine Eq.trans ?_ (congrArg _ (place t a b).symm)
  blk_simp
  rw [after0_1]
  have e : (out0_1 (iblk m c 0 t) : S256x2816.Idx → EReal) (ix2 a b)
      = k0_pay1 (View.ld (iblk m c 0 t) r0_0) (View.ld (iblk m c 0 t) r0_1) (ix2 a b) := by
    frame_out
    rfl
  refine e.trans ((pay _ _ _).trans (Eq.trans ?_ (unit_eq _ (row t a) b).symm))
  simp only [block_first, block_second]

end Cert.Kernel26Ideal.Value

namespace Cert.Gate

open Cert.Reference26Ideal Cert.Reference26Ideal.Gen in
/-- The reference's run, with its array named. -/
theorem run_unit (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v5) = Read.val_main_v5 (m ((c.tc : Thread nD τ).loc main_arg0))
      ∧ r.2.mem ((c.tc : Thread nD τ).loc main_arg0) = m ((c.tc : Thread nD τ).loc main_arg0) :=
  (θ_run defs _ _).mono (fun _ h c => ⟨(h c).1.trans (Read.val_main_v5_eq _), (h c).2⟩)
    (Value.run m ρ)

/-- The call and its reference return the same array. -/
theorem algebraic_unit : Cert.algebraic_Kernel26Ideal_Reference26Ideal (hKernel26Ideal := Cert.Kernel26Ideal.Gen.facts)
    (hReference26Ideal := Cert.Reference26Ideal.Gen.facts) := by
  pair_intro
  · run_from Cert.Kernel26Ideal.Gen.run_main m g
  · run_from run_unit m' g'
    exact (Cert.Kernel26Ideal.Value.final m c).symm

/-- The reference terminates, and leaves its arguments and the semaphores as they were. -/
theorem frame_unit : Cert.quiescent_Reference26Ideal (hReference26Ideal := Cert.Reference26Ideal.Gen.facts) := fun m g _ =>
  (θ_run _ _ _).mono (fun r h => ⟨fun c => (h c).2, sem_eq_zero_of_no_sems (by decide) r.2⟩)
    (Cert.Reference26Ideal.Value.run m g)

end Cert.Gate
-- ==== Proof.Gate.Merge.lean ====
/- The merge of the three branches: each through its gate, summed. -/
module

public import proofs.«01_k».proof.Defs
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import Idealize.ShloMosaic.Adequacy
public import Idealize.ShloMosaic.Init
public import Idealize.ShloMosaic.Lib.Pipeline.ValueKit
public import proofs.«01_k».proof.Proof.Gate.Model

@[expose] public section

set_option maxRecDepth 16384

noncomputable section

open Idealize.ShloMosaic Idealize.ShloMosaic.TcCoe Idealize.SL.Sem

namespace Cert.Kernel27Ideal.Value
open Cert.Kernel27Ideal Cert.Kernel27Ideal.Gen

variable (m : (ℓ : Loc nD τ sig) → Buf (Elt Ideal) ℓ)

theorem ix2_zero {n k : ℕ} (a : Fin n) (b : Fin k) : (ix2 a b) 0 = a := rfl

theorem ix2_one {n k : ℕ} (a : Fin n) (b : Fin k) : (ix2 a b) 1 = b := rfl

/-- The blocks of each array at a grid point. -/
theorem idx : ∀ t : Fin cfg0.N, win0_0.index t = ![t.val, 0] ∧ win0_1.index t = ![t.val, 1] ∧ win0_2.index t = ![t.val, 2] ∧
    win0_3.index t = ![t.val, 0] ∧ win0_4.index t = ![t.val, 0] ∧ win0_5.index t = ![t.val, 0] ∧ win0_6.index t = ![t.val, 0] :=
  (by decide +kernel : ∀ t : Fin grid0.N, _)

/-- What a point stores, at an entry. -/
theorem pay (x0 x1 x2 b0 b1 b2 : Vec Ideal S512x1024 .bf16) (y : S512x1024.Idx) :
    k0_pay1 (k0_pay2 x0 b0 x1 b1) (k0_pay3 x2) b2 y = Ideal.div (Ideal.ofBits FTy.f32 1065353216#32) (Ideal.ofBits FTy.f32 1065353216#32 + Ideal.exp (-(x0 y))) * b0 y + Ideal.div (Ideal.ofBits FTy.f32 1065353216#32) (Ideal.ofBits FTy.f32 1065353216#32 + Ideal.exp (-(x1 y))) * b1 y + Ideal.div (Ideal.ofBits FTy.f32 1065353216#32) (Ideal.ofBits FTy.f32 1065353216#32 + Ideal.exp (-(x2 y))) * b2 y := by
  rw [← Cert.Gate.logistic_eq, ← Cert.Gate.logistic_eq, ← Cert.Gate.logistic_eq]
  pointwise [k0_pay1, k0_pay2, k0_pay3]

/-- The row of the whole arrays that a block's row is. -/
def row (t : Fin cfg0.N) (a : Fin 512) : Fin 8192 := ⟨t.val * 512 + a.val, by have := lt_of_lt_of_eq t.isLt N_0; omega⟩

/-- A column of the projection that gates a branch. -/
def gate (n : Fin 3) (b : Fin 1024) : Fin 7040 := ⟨n.val * 1024 + b.val, by omega⟩

theorem gates0 (c : Dev nD) (t : Fin cfg0.N) (a : Fin 512) (b : Fin 1024) :
    X0_0 m c t (ix2 a b) = (m ((c : Thread nD τ).loc main_arg0) : S8192x7040.Idx → EReal) (ix2 (row t a) (gate 0 b)) := by
  unfold X0_0 Pipeline.Window.fill
  rw [dif_pos (moved0_0 t _)]
  blk_point [iblk, V, idx t, row, gate]

theorem gates1 (c : Dev nD) (t : Fin cfg0.N) (a : Fin 512) (b : Fin 1024) :
    X0_1 m c t (ix2 a b) = (m ((c : Thread nD τ).loc main_arg0) : S8192x7040.Idx → EReal) (ix2 (row t a) (gate 1 b)) := by
  unfold X0_1 Pipeline.Window.fill
  rw [dif_pos (moved0_1 t _)]
  blk_point [iblk, V, idx t, row, gate]

theorem gates2 (c : Dev nD) (t : Fin cfg0.N) (a : Fin 512) (b : Fin 1024) :
    X0_2 m c t (ix2 a b) = (m ((c : Thread nD τ).loc main_arg0) : S8192x7040.Idx → EReal) (ix2 (row t a) (gate 2 b)) := by
  unfold X0_2 Pipeline.Window.fill
  rw [dif_pos (moved0_2 t _)]
  blk_point [iblk, V, idx t, row, gate]

theorem branch0 (c : Dev nD) (t : Fin cfg0.N) (a : Fin 512) (b : Fin 1024) :
    iblk m c 3 t (ix2 a b) = (m ((c : Thread nD τ).loc main_arg1) : S8192x1024.Idx → EReal) (ix2 (row t a) b) := by
  blk_point [iblk, V, idx t, row]

theorem branch1 (c : Dev nD) (t : Fin cfg0.N) (a : Fin 512) (b : Fin 1024) :
    iblk m c 4 t (ix2 a b) = (m ((c : Thread nD τ).loc main_arg2) : S8192x1024.Idx → EReal) (ix2 (row t a) b) := by
  blk_point [iblk, V, idx t, row]

theorem branch2 (c : Dev nD) (t : Fin cfg0.N) (a : Fin 512) (b : Fin 1024) :
    iblk m c 5 t (ix2 a b) = (m ((c : Thread nD τ).loc main_arg3) : S8192x1024.Idx → EReal) (ix2 (row t a) b) := by
  blk_point [iblk, V, idx t, row]

theorem place (t : Fin cfg0.N) (a : Fin 512) (b : Fin 1024) :
    (((cfg0.win 6).blk t).view.emb (ix2 a b : S512x1024.Idx) : S8192x1024.Idx) = ix2 (row t a) b := by
  blk_point [idx t, row]

open Cert.Reference27Ideal.Read in
/-- The merge at an entry, as the reference has it. -/
theorem merge_eq (x : S8192x7040.Idx → EReal) (b0 b1 b2 : S8192x1024.Idx → EReal) (r : Fin 8192) (j : Fin 1024) :
    Cert.Reference27Ideal.Read.val_main_v17 (F := Ideal) x b0 b1 b2 (ix2 r j) = Ideal.div (Ideal.ofBits FTy.f32 1065353216#32) (Ideal.ofBits FTy.f32 1065353216#32 + Ideal.exp (-(x (ix2 r (gate 0 j))))) * b0 (ix2 r j) + Ideal.div (Ideal.ofBits FTy.f32 1065353216#32) (Ideal.ofBits FTy.f32 1065353216#32 + Ideal.exp (-(x (ix2 r (gate 1 j))))) * b1 (ix2 r j) + Ideal.div (Ideal.ofBits FTy.f32 1065353216#32) (Ideal.ofBits FTy.f32 1065353216#32 + Ideal.exp (-(x (ix2 r (gate 2 j))))) * b2 (ix2 r j) := by
  rw [val_main_v17_apply, val_main_v16_apply, Fin.sum_univ_three]
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, gate]

/-- The call returns the merge. -/
theorem final (c : Dev nD) :
    (dats m 0 c).arrAt 6 (cfgs 0).N = Cert.Reference27Ideal.Read.val_main_v17 (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨a, b, rfl⟩ : ∃ (a : Fin 512) (b : Fin 1024), y = (ix2 a b : S512x1024.Idx) :=
    ⟨y 0, y 1, by funext i; match i with | ⟨0, _⟩ => rfl | ⟨1, _⟩ => rfl⟩
  refine Eq.trans ?_ (congrArg _ (place t a b).symm)
  blk_simp
  rw [after0_6]
  have e : (outsAt0 m c t : S512x1024.Idx → EReal) (ix2 a b)
      = k0_pay1 (k0_pay2 (X0_0 m c t) (iblk m c 3 t) (X0_1 m c t) (iblk m c 4 t)) (k0_pay3 (X0_2 m c t)) (iblk m c 5 t) (ix2 a b) := by
    unfold outsAt0
    frame_out
  refine e.trans ((pay _ _ _ _ _ _ _).trans (Eq.trans ?_ (merge_eq _ _ _ _ (row t a) b).symm))
  simp only [gates0, gates1, gates2, branch0, branch1, branch2]

end Cert.Kernel27Ideal.Value

namespace Cert.Gate

open Cert.Reference27Ideal Cert.Reference27Ideal.Gen in
/-- The reference's run, with its array named. -/
theorem run_merge (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v17) = Read.val_main_v17 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (Read.val_main_v17_eq _ _ _ _), (h c).2⟩)
    (Value.run m ρ)

/-- The call and its reference return the same array. -/
theorem algebraic_merge : Cert.algebraic_Kernel27Ideal_Reference27Ideal (hKernel27Ideal := Cert.Kernel27Ideal.Gen.facts)
    (hReference27Ideal := Cert.Reference27Ideal.Gen.facts) := by
  pair_intro
  · run_from Cert.Kernel27Ideal.Gen.run_main m g
  · run_from run_merge m' g'
    exact (Cert.Kernel27Ideal.Value.final m c).symm

/-- The reference terminates, and leaves its arguments and the semaphores as they were. -/
theorem frame_merge : Cert.quiescent_Reference27Ideal (hReference27Ideal := Cert.Reference27Ideal.Gen.facts) := fun m g _ =>
  (θ_run _ _ _).mono (fun r h => ⟨fun c => (h c).2, sem_eq_zero_of_no_sems (by decide) r.2⟩)
    (Cert.Reference27Ideal.Value.run m g)

end Cert.Gate
-- ==== Proof.Norm.Forward.lean ====
/- The norm of a layer's rows, cast for the product that follows. -/
module

public import proofs.«01_k».proof.Defs
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import Idealize.ShloMosaic.Adequacy
public import Idealize.ShloMosaic.Init
public import Idealize.ShloMosaic.Lib.Pipeline.ValueKit
public import proofs.«01_k».proof.Proof.Norm.Model

@[expose] public section

set_option maxRecDepth 16384

noncomputable section

open Idealize.ShloMosaic Idealize.ShloMosaic.TcCoe Idealize.SL.Sem

namespace Cert.Kernel28Ideal.Value
open Cert.Kernel28Ideal Cert.Kernel28Ideal.Gen

variable (m : (ℓ : Loc nD τ sig) → Buf (Elt Ideal) ℓ)

theorem ix2_zero {n k : ℕ} (a : Fin n) (b : Fin k) : (ix2 a b) 0 = a := rfl

theorem ix2_one {n k : ℕ} (a : Fin n) (b : Fin k) : (ix2 a b) 1 = b := rfl

/-- The blocks of each array at a grid point. -/
theorem idx : ∀ t : Fin cfg0.N, win0_0.index t = ![t.val, 0] ∧ win0_1.index t = ![0, 0] ∧ win0_2.index t = ![t.val, 0] :=
  (by decide +kernel : ∀ t : Fin grid0.N, _)

/-- What a point stores, at an entry. -/
theorem pay (x : Vec Ideal S512x1024 .f32) (g : Vec Ideal S1x1024 .f32) (a : Fin 512) (b : Fin 1024) :
    k0_pay1 x g (ix2 a b) = x (ix2 a b) * Ideal.rsqrt (Cert.Norm.square fun k => x (ix2 a k)) * g (ix2 0 b) := by
  pointwise [k0_pay1]

/-- The row of the whole arrays that a block's row is. -/
def row (t : Fin cfg0.N) (a : Fin 512) : Fin 8192 := ⟨t.val * 512 + a.val, by have := lt_of_lt_of_eq t.isLt N_0; omega⟩

theorem block0 (c : Dev nD) (t : Fin cfg0.N) (a : Fin 512) (b : Fin 1024) :
    iblk m c 0 t (ix2 a b) = (m ((c : Thread nD τ).loc main_arg0) : S8192x1024.Idx → EReal) (ix2 (row t a) b) := by
  blk_point [iblk, V, idx t, row]

theorem block1 (c : Dev nD) (t : Fin cfg0.N) (b : Fin 1024) :
    iblk m c 1 t (ix2 0 b) = (m ((c : Thread nD τ).loc main_arg1) : S1x1024.Idx → EReal) (ix2 0 b) := by
  blk_point [iblk, V, idx t]

theorem place (t : Fin cfg0.N) (a : Fin 512) (b : Fin 1024) :
    (((cfg0.win 2).blk t).view.emb (ix2 a b : S512x1024.Idx) : S8192x1024.Idx) = ix2 (row t a) b := by
  blk_point [idx t, row]

open Cert.Reference28Ideal.Read in
/-- The normed rows at an entry, as the reference has them. -/
theorem rows_eq (x : S8192x1024.Idx → EReal) (g : S1x1024.Idx → EReal) (r : Fin 8192) (j : Fin 1024) :
    Cert.Reference28Ideal.Read.val_main_v12 (F := Ideal) x g (ix2 r j)
      = x (ix2 r j) * Ideal.rsqrt (Cert.Norm.square fun k => x (ix2 r k)) * g (ix2 0 j) := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]

/-- The call returns the normed rows. -/
theorem final (c : Dev nD) :
    (dats m 0 c).arrAt 2 (cfgs 0).N = Cert.Reference28Ideal.Read.val_main_v12 (m ((c : Thread nD τ).loc main_arg0)) (m ((c : Thread nD τ).loc main_arg1)) := by
  refine (dats m 0 c).arrAt_eq_of_covers 2 _ (by decide +kernel) fun t hf y => ?_
  obtain ⟨a, b, rfl⟩ : ∃ (a : Fin 512) (b : Fin 1024), y = (ix2 a b : S512x1024.Idx) :=
    ⟨y 0, y 1, by funext i; match i with | ⟨0, _⟩ => rfl | ⟨1, _⟩ => rfl⟩
  refine Eq.trans ?_ (congrArg _ (place t a b).symm)
  blk_simp
  rw [after0_2]
  frame_out
  refine (pay _ _ a b).trans (Eq.trans ?_ (rows_eq _ _ (row t a) b).symm)
  simp only [block0, block1]

end Cert.Kernel28Ideal.Value

namespace Cert.Norm

open Cert.Reference28Ideal Cert.Reference28Ideal.Gen in
/-- The reference's run, with its array named. -/
theorem run_forward (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v12) = Read.val_main_v12 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (Read.val_main_v12_eq _ _), (h c).2⟩)
    (Value.run m ρ)

/-- The call and its reference return the same array. -/
theorem algebraic_forward : Cert.algebraic_Kernel28Ideal_Reference28Ideal (hKernel28Ideal := Cert.Kernel28Ideal.Gen.facts)
    (hReference28Ideal := Cert.Reference28Ideal.Gen.facts) := by
  pair_intro
  · run_from Cert.Kernel28Ideal.Gen.run_main m g
  · run_from run_forward m' g'
    exact (Cert.Kernel28Ideal.Value.final m c).symm

/-- The reference terminates, and leaves its arguments and the semaphores as they were. -/
theorem frame_forward : Cert.quiescent_Reference28Ideal (hReference28Ideal := Cert.Reference28Ideal.Gen.facts) := fun m g _ =>
  (θ_run _ _ _).mono (fun r h => ⟨fun c => (h c).2, sem_eq_zero_of_no_sems (by decide) r.2⟩)
    (Cert.Reference28Ideal.Value.run m g)

end Cert.Norm
-- ==== Proof.Gate.Heads.lean ====
/- The norm of the delta rule's heads, through the gate. -/
module

public import proofs.«01_k».proof.Defs
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Reference29Ideal.Read
public import Idealize.ShloMosaic.Adequacy
public import Idealize.ShloMosaic.Init
public import Idealize.ShloMosaic.Lib.Pipeline.ValueKit
public import proofs.«01_k».proof.Proof.Gate.Model

@[expose] public section

set_option maxRecDepth 16384

noncomputable section

open Idealize.ShloMosaic Idealize.ShloMosaic.TcCoe Idealize.SL.Sem

namespace Cert.Kernel29Ideal.Value
open Cert.Kernel29Ideal Cert.Kernel29Ideal.Gen

variable (m : (ℓ : Loc nD τ sig) → Buf (Elt Ideal) ℓ)

theorem ix2_zero {n k : ℕ} (a : Fin n) (b : Fin k) : (ix2 a b) 0 = a := rfl

theorem ix2_one {n k : ℕ} (a : Fin n) (b : Fin k) : (ix2 a b) 1 = b := rfl

/-- The blocks of each array at a grid point. -/
theorem idx : ∀ t : Fin cfg0.N, win0_0.index t = ![t.val, 0] ∧ win0_1.index t = ![t.val, 9] ∧ win0_2.index t = ![0, 0] ∧ win0_3.index t = ![t.val, 0] :=
  (by decide +kernel : ∀ t : Fin grid0.N, _)

/-- A head's mean square plus the small constant. -/
abbrev square (x : Fin 128 → EReal) : EReal :=
  Ideal.div (∑ k, x k * x k) (Ideal.ofBits FTy.f32 1124073472#32) + Ideal.ofBits FTy.f32 897988541#32

/-- What a point stores of head 0, at an entry. -/
theorem pay0 (g : Vec Ideal S1x128 .f32) (x : Vec Ideal S512x128 .f32) (z : Vec Ideal S512x128 .bf16) (a : Fin 512) (b : Fin 128) :
    k0_pay2 g x z (ix2 a b) = x (ix2 a b) * Ideal.rsqrt (square fun k => x (ix2 a k)) * g (ix2 0 b) * (z (ix2 a b) * Ideal.div (Ideal.ofBits FTy.f32 1065353216#32) (Ideal.ofBits FTy.f32 1065353216#32 + Ideal.exp (-(z (ix2 a b))))) := by
  rw [← Cert.Gate.logistic_eq]
  pointwise [k0_pay2]

/-- What a point stores of head 1, at an entry. -/
theorem pay1 (g : Vec Ideal S1x128 .f32) (x : Vec Ideal S512x128 .f32) (z : Vec Ideal S512x128 .bf16) (a : Fin 512) (b : Fin 128) :
    k0_pay5 (k0_pay3 x) (k0_pay4 g) z (ix2 a b) = x (ix2 a b) * Ideal.rsqrt (square fun k => x (ix2 a k)) * g (ix2 0 b) * (z (ix2 a b) * Ideal.div (Ideal.ofBits FTy.f32 1065353216#32) (Ideal.ofBits FTy.f32 1065353216#32 + Ideal.exp (-(z (ix2 a b))))) := by
  rw [← Cert.Gate.logistic_eq]
  pointwise [k0_pay5, k0_pay3, k0_pay4]

/-- What a point stores of head 2, at an entry. -/
theorem pay2 (g : Vec Ideal S1x128 .f32) (x : Vec Ideal S512x128 .f32) (z : Vec Ideal S512x128 .bf16) (a : Fin 512) (b : Fin 128) :
    k0_pay6 g x z (ix2 a b) = x (ix2 a b) * Ideal.rsqrt (square fun k => x (ix2 a k)) * g (ix2 0 b) * (z (ix2 a b) * Ideal.div (Ideal.ofBits FTy.f32 1065353216#32) (Ideal.ofBits FTy.f32 1065353216#32 + Ideal.exp (-(z (ix2 a b))))) := by
  rw [← Cert.Gate.logistic_eq]
  pointwise [k0_pay6]

/-- What a point stores of head 3, at an entry. -/
theorem pay3 (g : Vec Ideal S1x128 .f32) (x : Vec Ideal S512x128 .f32) (z : Vec Ideal S512x128 .bf16) (a : Fin 512) (b : Fin 128) :
    k0_pay1 g x z (ix2 a b) = x (ix2 a b) * Ideal.rsqrt (square fun k => x (ix2 a k)) * g (ix2 0 b) * (z (ix2 a b) * Ideal.div (Ideal.ofBits FTy.f32 1065353216#32) (Ideal.ofBits FTy.f32 1065353216#32 + Ideal.exp (-(z (ix2 a b))))) := by
  rw [← Cert.Gate.logistic_eq]
  pointwise [k0_pay1]

/-- The row of the whole arrays that a block's row is. -/
def row (t : Fin cfg0.N) (a : Fin 512) : Fin 8192 := ⟨t.val * 512 + a.val, by have := lt_of_lt_of_eq t.isLt N_0; omega⟩

/-- A column of a head. -/
def col (h : Fin 4) (b : Fin 128) : Fin 512 := ⟨h.val * 128 + b.val, by omega⟩

/-- The column of the projection that gates a column of a head. -/
def gate (h : Fin 4) (b : Fin 128) : Fin 7040 := ⟨4608 + (h.val * 128 + b.val), by omega⟩

theorem value0 (c : Dev nD) (t : Fin cfg0.N) (a : Fin 512) (b : Fin 128) :
    View.ld (iblk m c 0 t) (Rect.unit (s := S512x512) ![0, 0] ![512, 128] inb_S512x512_S512x128_0_0) (ix2 a b) = ((m ((c : Thread nD τ).loc main_arg0)) : S8192x512.Idx → EReal) (ix2 (row t a) (col 0 b)) := by
  blk_point [iblk, V, idx t, row, col]

theorem gates0 (c : Dev nD) (t : Fin cfg0.N) (a : Fin 512) (b : Fin 128) :
    View.ld (X0_1 m c t) (Rect.unit (s := S512x512) ![0, 0] ![512, 128] inb_S512x512_S512x128_0_0) (ix2 a b) = ((m ((c : Thread nD τ).loc main_arg1)) : S8192x7040.Idx → EReal) (ix2 (row t a) (gate 0 b)) := by
  unfold X0_1 Pipeline.Window.fill View.ld
  beta_reduce
  rw [dif_pos (moved0_1 t _)]
  blk_point [iblk, V, idx t, row, gate]
  · simp [Rect.unit, LoadRect.idx, ix2_zero, ix2_one]
  · simp [Rect.unit, LoadRect.idx, ix2_zero, ix2_one]

theorem value1 (c : Dev nD) (t : Fin cfg0.N) (a : Fin 512) (b : Fin 128) :
    View.ld (iblk m c 0 t) (Rect.unit (s := S512x512) ![0, 128] ![512, 128] inb_S512x512_S512x128_0_128) (ix2 a b) = ((m ((c : Thread nD τ).loc main_arg0)) : S8192x512.Idx → EReal) (ix2 (row t a) (col 1 b)) := by
  blk_point [iblk, V, idx t, row, col]

theorem gates1 (c : Dev nD) (t : Fin cfg0.N) (a : Fin 512) (b : Fin 128) :
    View.ld (X0_1 m c t) (Rect.unit (s := S512x512) ![0, 128] ![512, 128] inb_S512x512_S512x128_0_128) (ix2 a b) = ((m ((c : Thread nD τ).loc main_arg1)) : S8192x7040.Idx → EReal) (ix2 (row t a) (gate 1 b)) := by
  unfold X0_1 Pipeline.Window.fill View.ld
  beta_reduce
  rw [dif_pos (moved0_1 t _)]
  blk_point [iblk, V, idx t, row, gate]
  · simp [Rect.unit, LoadRect.idx, ix2_zero, ix2_one]
  · simp [Rect.unit, LoadRect.idx, ix2_zero, ix2_one]

theorem value2 (c : Dev nD) (t : Fin cfg0.N) (a : Fin 512) (b : Fin 128) :
    View.ld (iblk m c 0 t) (Rect.unit (s := S512x512) ![0, 256] ![512, 128] inb_S512x512_S512x128_0_256) (ix2 a b) = ((m ((c : Thread nD τ).loc main_arg0)) : S8192x512.Idx → EReal) (ix2 (row t a) (col 2 b)) := by
  blk_point [iblk, V, idx t, row, col]

theorem gates2 (c : Dev nD) (t : Fin cfg0.N) (a : Fin 512) (b : Fin 128) :
    View.ld (X0_1 m c t) (Rect.unit (s := S512x512) ![0, 256] ![512, 128] inb_S512x512_S512x128_0_256) (ix2 a b) = ((m ((c : Thread nD τ).loc main_arg1)) : S8192x7040.Idx → EReal) (ix2 (row t a) (gate 2 b)) := by
  unfold X0_1 Pipeline.Window.fill View.ld
  beta_reduce
  rw [dif_pos (moved0_1 t _)]
  blk_point [iblk, V, idx t, row, gate]
  · simp [Rect.unit, LoadRect.idx, ix2_zero, ix2_one]
  · simp [Rect.unit, LoadRect.idx, ix2_zero, ix2_one]

theorem value3 (c : Dev nD) (t : Fin cfg0.N) (a : Fin 512) (b : Fin 128) :
    View.ld (iblk m c 0 t) (Rect.unit (s := S512x512) ![0, 384] ![512, 128] inb_S512x512_S512x128_0_384) (ix2 a b) = ((m ((c : Thread nD τ).loc main_arg0)) : S8192x512.Idx → EReal) (ix2 (row t a) (col 3 b)) := by
  blk_point [iblk, V, idx t, row, col]

theorem gates3 (c : Dev nD) (t : Fin cfg0.N) (a : Fin 512) (b : Fin 128) :
    View.ld (X0_1 m c t) (Rect.unit (s := S512x512) ![0, 384] ![512, 128] inb_S512x512_S512x128_0_384) (ix2 a b) = ((m ((c : Thread nD τ).loc main_arg1)) : S8192x7040.Idx → EReal) (ix2 (row t a) (gate 3 b)) := by
  unfold X0_1 Pipeline.Window.fill View.ld
  beta_reduce
  rw [dif_pos (moved0_1 t _)]
  blk_point [iblk, V, idx t, row, gate]
  · simp [Rect.unit, LoadRect.idx, ix2_zero, ix2_one]
  · simp [Rect.unit, LoadRect.idx, ix2_zero, ix2_one]

theorem gain (c : Dev nD) (t : Fin cfg0.N) (b : Fin 128) :
    iblk m c 2 t (ix2 0 b) = (m ((c : Thread nD τ).loc main_arg2) : S1x128.Idx → EReal) (ix2 0 b) := by
  blk_point [iblk, V, idx t]

theorem place (t : Fin cfg0.N) (a : Fin 512) (b : Fin 512) :
    (((cfg0.win 3).blk t).view.emb (ix2 a b : S512x512.Idx) : S8192x512.Idx) = ix2 (row t a) b := by
  blk_point [idx t, row]

open Cert.Reference29Ideal.Read in
/-- Head 0 at an entry, as the reference has it. -/
theorem head_eq0 (x : S8192x512.Idx → EReal) (z : S8192x7040.Idx → EReal) (g : S1x128.Idx → EReal) (r : Fin 8192) (j : Fin 128) :
    Cert.Reference29Ideal.Read.val_main_v21 (F := Ideal) x z g (ix2 r (col 0 j))
      = x (ix2 r (col 0 j)) * Ideal.rsqrt (square fun k => x (ix2 r (col 0 k))) * g (ix2 0 j) * (z (ix2 r (gate 0 j)) * Ideal.div (Ideal.ofBits FTy.f32 1065353216#32) (Ideal.ofBits FTy.f32 1065353216#32 + Ideal.exp (-(z (ix2 r (gate 0 j)))))) := by
  have q : (j.val) / 128 = 0 := by omega
  have p : (j.val) % 128 = j.val := by omega
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_v1, val_main_call0_v2, val_main_call0_v3, val_main_call0_v4, val_main_call0_v5, val_main_call0_cst, val_main_call0_cst_0, col, gate]
  simp [q, p, square]

open Cert.Reference29Ideal.Read in
/-- Head 1 at an entry, as the reference has it. -/
theorem head_eq1 (x : S8192x512.Idx → EReal) (z : S8192x7040.Idx → EReal) (g : S1x128.Idx → EReal) (r : Fin 8192) (j : Fin 128) :
    Cert.Reference29Ideal.Read.val_main_v21 (F := Ideal) x z g (ix2 r (col 1 j))
      = x (ix2 r (col 1 j)) * Ideal.rsqrt (square fun k => x (ix2 r (col 1 k))) * g (ix2 0 j) * (z (ix2 r (gate 1 j)) * Ideal.div (Ideal.ofBits FTy.f32 1065353216#32) (Ideal.ofBits FTy.f32 1065353216#32 + Ideal.exp (-(z (ix2 r (gate 1 j)))))) := by
  have q : (128 + j.val) / 128 = 1 := by omega
  have p : (128 + j.val) % 128 = j.val := by omega
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_v1, val_main_call0_v2, val_main_call0_v3, val_main_call0_v4, val_main_call0_v5, val_main_call0_cst, val_main_call0_cst_0, col, gate]
  simp [q, p, square]

open Cert.Reference29Ideal.Read in
/-- Head 2 at an entry, as the reference has it. -/
theorem head_eq2 (x : S8192x512.Idx → EReal) (z : S8192x7040.Idx → EReal) (g : S1x128.Idx → EReal) (r : Fin 8192) (j : Fin 128) :
    Cert.Reference29Ideal.Read.val_main_v21 (F := Ideal) x z g (ix2 r (col 2 j))
      = x (ix2 r (col 2 j)) * Ideal.rsqrt (square fun k => x (ix2 r (col 2 k))) * g (ix2 0 j) * (z (ix2 r (gate 2 j)) * Ideal.div (Ideal.ofBits FTy.f32 1065353216#32) (Ideal.ofBits FTy.f32 1065353216#32 + Ideal.exp (-(z (ix2 r (gate 2 j)))))) := by
  have q : (256 + j.val) / 128 = 2 := by omega
  have p : (256 + j.val) % 128 = j.val := by omega
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_v1, val_main_call0_v2, val_main_call0_v3, val_main_call0_v4, val_main_call0_v5, val_main_call0_cst, val_main_call0_cst_0, col, gate]
  simp [q, p, square]

open Cert.Reference29Ideal.Read in
/-- Head 3 at an entry, as the reference has it. -/
theorem head_eq3 (x : S8192x512.Idx → EReal) (z : S8192x7040.Idx → EReal) (g : S1x128.Idx → EReal) (r : Fin 8192) (j : Fin 128) :
    Cert.Reference29Ideal.Read.val_main_v21 (F := Ideal) x z g (ix2 r (col 3 j))
      = x (ix2 r (col 3 j)) * Ideal.rsqrt (square fun k => x (ix2 r (col 3 k))) * g (ix2 0 j) * (z (ix2 r (gate 3 j)) * Ideal.div (Ideal.ofBits FTy.f32 1065353216#32) (Ideal.ofBits FTy.f32 1065353216#32 + Ideal.exp (-(z (ix2 r (gate 3 j)))))) := by
  have q : (384 + j.val) / 128 = 3 := by omega
  have p : (384 + j.val) % 128 = j.val := by omega
  pointwise [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_call0_v0, val_main_call0_v1, val_main_call0_v2, val_main_call0_v3, val_main_call0_v4, val_main_call0_v5, val_main_call0_cst, val_main_call0_cst_0, col, gate]
  simp [q, p, square]

/-- What a point leaves of head 0, at an entry. -/
theorem left0 (c : Dev nD) (t : Fin cfg0.N) (a : Fin 512) (j : Fin 128) :
    (outsAt0 m c t : S512x512.Idx → EReal) (ix2 a (col 0 j))
      = Cert.Reference29Ideal.Read.val_main_v21 (F := Ideal) (m ((c : Thread nD τ).loc main_arg0)) (m ((c : Thread nD τ).loc main_arg1)) (m ((c : Thread nD τ).loc main_arg2)) (ix2 (row t a) (col 0 j)) := by
  unfold outsAt0
  frame_out
  have e : (ix2 a (col 0 j) : S512x512.Idx) = (Rect.unit (s := S512x512) ![0, 0] S512x128.size inb_S512x512_S512x128_0_0).emb (ix2 a j : S512x128.Idx) := by
    funext i
    match i with
    | ⟨0, _⟩ => exact Fin.ext (by simp [col, Rect.emb, Rect.unit])
    | ⟨1, _⟩ => exact Fin.ext (by simp [col, Rect.emb, Rect.unit])
  refine (View.canon_cons_of_not_mem _ _ ?_).trans ?_
  · intro hm
    have := ((Rect.mem_set_unit (inb := inb_S512x512_S512x128_0_384)).mp hm 1).1
    change 384 ≤ 0 * 128 + j.val at this
    omega
  refine (View.canon_cons_of_not_mem _ _ ?_).trans ?_
  · intro hm
    have := ((Rect.mem_set_unit (inb := inb_S512x512_S512x128_0_256)).mp hm 1).1
    change 256 ≤ 0 * 128 + j.val at this
    omega
  refine (View.canon_cons_of_not_mem _ _ ?_).trans ?_
  · intro hm
    have := ((Rect.mem_set_unit (inb := inb_S512x512_S512x128_0_128)).mp hm 1).1
    change 128 ≤ 0 * 128 + j.val at this
    omega
  rw [e]
  refine (View.canon_cons_emb _ _ _ _).trans ?_
  refine (pay0 _ _ _ _ _).trans (Eq.trans ?_ (head_eq0 _ _ _ (row t a) j).symm)
  simp only [value0, gates0, gain]

/-- What a point leaves of head 1, at an entry. -/
theorem left1 (c : Dev nD) (t : Fin cfg0.N) (a : Fin 512) (j : Fin 128) :
    (outsAt0 m c t : S512x512.Idx → EReal) (ix2 a (col 1 j))
      = Cert.Reference29Ideal.Read.val_main_v21 (F := Ideal) (m ((c : Thread nD τ).loc main_arg0)) (m ((c : Thread nD τ).loc main_arg1)) (m ((c : Thread nD τ).loc main_arg2)) (ix2 (row t a) (col 1 j)) := by
  unfold outsAt0
  frame_out
  have e : (ix2 a (col 1 j) : S512x512.Idx) = (Rect.unit (s := S512x512) ![0, 128] S512x128.size inb_S512x512_S512x128_0_128).emb (ix2 a j : S512x128.Idx) := by
    funext i
    match i with
    | ⟨0, _⟩ => exact Fin.ext (by simp [col, Rect.emb, Rect.unit])
    | ⟨1, _⟩ => exact Fin.ext (by simp [col, Rect.emb, Rect.unit])
  refine (View.canon_cons_of_not_mem _ _ ?_).trans ?_
  · intro hm
    have := ((Rect.mem_set_unit (inb := inb_S512x512_S512x128_0_384)).mp hm 1).1
    change 384 ≤ 1 * 128 + j.val at this
    omega
  refine (View.canon_cons_of_not_mem _ _ ?_).trans ?_
  · intro hm
    have := ((Rect.mem_set_unit (inb := inb_S512x512_S512x128_0_256)).mp hm 1).1
    change 256 ≤ 1 * 128 + j.val at this
    omega
  rw [e]
  refine (View.canon_cons_emb _ _ _ _).trans ?_
  refine (pay1 _ _ _ _ _).trans (Eq.trans ?_ (head_eq1 _ _ _ (row t a) j).symm)
  simp only [value1, gates1, gain]

/-- What a point leaves of head 2, at an entry. -/
theorem left2 (c : Dev nD) (t : Fin cfg0.N) (a : Fin 512) (j : Fin 128) :
    (outsAt0 m c t : S512x512.Idx → EReal) (ix2 a (col 2 j))
      = Cert.Reference29Ideal.Read.val_main_v21 (F := Ideal) (m ((c : Thread nD τ).loc main_arg0)) (m ((c : Thread nD τ).loc main_arg1)) (m ((c : Thread nD τ).loc main_arg2)) (ix2 (row t a) (col 2 j)) := by
  unfold outsAt0
  frame_out
  have e : (ix2 a (col 2 j) : S512x512.Idx) = (Rect.unit (s := S512x512) ![0, 256] S512x128.size inb_S512x512_S512x128_0_256).emb (ix2 a j : S512x128.Idx) := by
    funext i
    match i with
    | ⟨0, _⟩ => exact Fin.ext (by simp [col, Rect.emb, Rect.unit])
    | ⟨1, _⟩ => exact Fin.ext (by simp [col, Rect.emb, Rect.unit])
  refine (View.canon_cons_of_not_mem _ _ ?_).trans ?_
  · intro hm
    have := ((Rect.mem_set_unit (inb := inb_S512x512_S512x128_0_384)).mp hm 1).1
    change 384 ≤ 2 * 128 + j.val at this
    omega
  rw [e]
  refine (View.canon_cons_emb _ _ _ _).trans ?_
  refine (pay2 _ _ _ _ _).trans (Eq.trans ?_ (head_eq2 _ _ _ (row t a) j).symm)
  simp only [value2, gates2, gain]

/-- What a point leaves of head 3, at an entry. -/
theorem left3 (c : Dev nD) (t : Fin cfg0.N) (a : Fin 512) (j : Fin 128) :
    (outsAt0 m c t : S512x512.Idx → EReal) (ix2 a (col 3 j))
      = Cert.Reference29Ideal.Read.val_main_v21 (F := Ideal) (m ((c : Thread nD τ).loc main_arg0)) (m ((c : Thread nD τ).loc main_arg1)) (m ((c : Thread nD τ).loc main_arg2)) (ix2 (row t a) (col 3 j)) := by
  unfold outsAt0
  frame_out
  have e : (ix2 a (col 3 j) : S512x512.Idx) = (Rect.unit (s := S512x512) ![0, 384] S512x128.size inb_S512x512_S512x128_0_384).emb (ix2 a j : S512x128.Idx) := by
    funext i
    match i with
    | ⟨0, _⟩ => exact Fin.ext (by simp [col, Rect.emb, Rect.unit])
    | ⟨1, _⟩ => exact Fin.ext (by simp [col, Rect.emb, Rect.unit])
  rw [e]
  refine (View.canon_cons_emb _ _ _ _).trans ?_
  refine (pay3 _ _ _ _ _).trans (Eq.trans ?_ (head_eq3 _ _ _ (row t a) j).symm)
  simp only [value3, gates3, gain]

theorem left (c : Dev nD) (t : Fin cfg0.N) (h : Fin 4) (a : Fin 512) (j : Fin 128) :
    (outsAt0 m c t : S512x512.Idx → EReal) (ix2 a (col h j))
      = Cert.Reference29Ideal.Read.val_main_v21 (F := Ideal) (m ((c : Thread nD τ).loc main_arg0)) (m ((c : Thread nD τ).loc main_arg1)) (m ((c : Thread nD τ).loc main_arg2)) (ix2 (row t a) (col h j)) :=
  match h with
  | 0 => left0 m c t a j
  | 1 => left1 m c t a j
  | 2 => left2 m c t a j
  | 3 => left3 m c t a j

/-- The call returns the gated heads. -/
theorem final (c : Dev nD) :
    (dats m 0 c).arrAt 3 (cfgs 0).N = Cert.Reference29Ideal.Read.val_main_v21 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨a, b, rfl⟩ : ∃ (a : Fin 512) (b : Fin 512), y = (ix2 a b : S512x512.Idx) :=
    ⟨y 0, y 1, by funext i; match i with | ⟨0, _⟩ => rfl | ⟨1, _⟩ => rfl⟩
  refine Eq.trans ?_ (congrArg _ (place t a b).symm)
  obtain ⟨h, j, rfl⟩ : ∃ (h : Fin 4) (j : Fin 128), b = col h j :=
    ⟨⟨b.val / 128, by omega⟩, ⟨b.val % 128, by omega⟩, Fin.ext (by simp only [col]; omega)⟩
  blk_simp
  rw [after0_3]
  exact left m c t h a j

end Cert.Kernel29Ideal.Value

namespace Cert.Gate

open Cert.Reference29Ideal Cert.Reference29Ideal.Gen in
/-- The reference's run, with its array named. -/
theorem run_heads (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v21) = Read.val_main_v21 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (Read.val_main_v21_eq _ _ _), (h c).2⟩)
    (Value.run m ρ)

/-- The call and its reference return the same array. -/
theorem algebraic_heads : Cert.algebraic_Kernel29Ideal_Reference29Ideal (hKernel29Ideal := Cert.Kernel29Ideal.Gen.facts)
    (hReference29Ideal := Cert.Reference29Ideal.Gen.facts) := by
  pair_intro
  · run_from Cert.Kernel29Ideal.Gen.run_main m g
  · run_from run_heads m' g'
    exact (Cert.Kernel29Ideal.Value.final m c).symm

/-- The reference terminates, and leaves its arguments and the semaphores as they were. -/
theorem frame_heads : Cert.quiescent_Reference29Ideal (hReference29Ideal := Cert.Reference29Ideal.Gen.facts) := fun m g _ =>
  (θ_run _ _ _).mono (fun r h => ⟨fun c => (h c).2, sem_eq_zero_of_no_sems (by decide) r.2⟩)
    (Cert.Reference29Ideal.Value.run m g)

end Cert.Gate
-- ==== Proof.Rope.Forward.lean ====
/- The rotary embedding of the attention. -/
module

public import proofs.«01_k».proof.Defs
public import proofs.«01_k».proof.Proof.Gen.Kernel30Ideal.Frame
public import proofs.«01_k».proof.Proof.Gen.Reference30Ideal
public import proofs.«01_k».proof.Proof.Gen.Reference30Ideal.Run
public import proofs.«01_k».proof.Proof.Gen.Reference30Ideal.Read
public import Idealize.ShloMosaic.Adequacy
public import Idealize.ShloMosaic.Init
public import Idealize.ShloMosaic.Lib.Pipeline.ValueKit

@[expose] public section

set_option maxRecDepth 16384

noncomputable section

open Idealize.ShloMosaic Idealize.ShloMosaic.TcCoe Idealize.SL.Sem Idealize.ShloMosaic.StableHlo
namespace Cert.Kernel30Ideal.Value
open Cert.Kernel30Ideal Cert.Kernel30Ideal.Gen

variable (m : (ℓ : Loc nD τ sig) → Buf (Elt Ideal) ℓ)

theorem ix2_zero {n k : ℕ} (a : Fin n) (b : Fin k) : (ix2 a b) 0 = a := rfl

theorem ix2_one {n k : ℕ} (a : Fin n) (b : Fin k) : (ix2 a b) 1 = b := rfl

/-- The blocks of each array at a grid point. -/
theorem idx : ∀ t : Fin cfg0.N, win0_0.index t = ![t.val, 12] ∧ win0_1.index t = ![t.val, 52] ∧ win0_2.index t = ![t.val, 53] ∧ win0_3.index t = ![t.val, 0] ∧ win0_4.index t = ![t.val, 0]
    ∧ win0_5.index t = ![t.val, 0] ∧ win0_6.index t = ![t.val, 0] ∧ win0_7.index t = ![t.val, 0] :=
  (by decide +kernel : ∀ t : Fin grid0.N, _)

/-- A table over the lanes of two heads: the first eight lanes of a head have one row, the next eight another, the rest one value. -/
def lanes (u v : Fin 8 → EReal) (w : EReal) (b : Fin 128) : EReal :=
  if h : b.val % 64 < 8 then u ⟨b.val % 64, h⟩ else if h : b.val % 64 - 8 < 8 then v ⟨b.val % 64 - 8, h⟩ else w

/-- A lane of two heads, turned as the kernel turns it. -/
def turn (x c s : Fin 128 → EReal) (b : Fin 128) : EReal :=
  x b * c b + (if b.val % 64 < 8 then x ⟨(b.val + 128 - 120) % 128, Nat.mod_lt _ (by decide)⟩ else x ⟨(b.val + 128 - 8) % 128, Nat.mod_lt _ (by decide)⟩) * s b

/-- A lane of two heads, turned as the reference turns it. -/
def spin (x : Fin 128 → EReal) (c s : Fin 8 → EReal) (b : Fin 128) : EReal :=
  if h : b.val % 64 < 8 then x b * c ⟨b.val % 64, h⟩ - x ⟨(b.val + 128 - 120) % 128, Nat.mod_lt _ (by decide)⟩ * s ⟨b.val % 64, h⟩
  else if h : b.val % 64 - 8 < 8 then x b * c ⟨b.val % 64 - 8, h⟩ + x ⟨(b.val + 128 - 8) % 128, Nat.mod_lt _ (by decide)⟩ * s ⟨b.val % 64 - 8, h⟩
  else x b

/-- The two are the same. -/
theorem turn_eq (x : Fin 128 → EReal) (c s : Fin 8 → EReal) (b : Fin 128) :
    turn x (lanes c c 1) (lanes (fun j => -s j) s 0) b = spin x c s b := by
  unfold turn lanes spin
  split_ifs
  · rw [mul_neg, sub_eq_add_neg]
  · rfl
  · rw [mul_one, mul_zero, add_zero]

/-- Whether a lane is among the first eight of its head. -/
theorem lane : ∀ b : Fin 128, IntOp.cmpi CmpIPredicate.slt (Scalar.select (IntOp.andi (IntOp.xori (IntOp.cmpi CmpIPredicate.slt (IntOp.remsi ArithUnit.vector (BitVec.ofNat 32 b.val) (Scalar.select (Scalar.cmpi CmpIPredicate.eq 64#32 0#32) 1#32 64#32)) 0#32) (Scalar.cmpi CmpIPredicate.slt (Scalar.select (Scalar.cmpi CmpIPredicate.eq 64#32 0#32) 1#32 64#32) 0#32))
      (IntOp.cmpi CmpIPredicate.ne (IntOp.remsi ArithUnit.vector (BitVec.ofNat 32 b.val) (Scalar.select (Scalar.cmpi CmpIPredicate.eq 64#32 0#32) 1#32 64#32)) 0#32)) (IntOp.addi (IntOp.remsi ArithUnit.vector (BitVec.ofNat 32 b.val) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 b.val) (Scalar.select (Scalar.cmpi CmpIPredicate.eq 64#32 0#32) 1#32 64#32))) 8#32 = if b.val % 64 < 8 then 1#1 else 0#1 := by decide +kernel

theorem pick (p : Prop) [Decidable p] (x y : EReal) : Scalar.select (if p then 1#1 else 0#1) x y = if p then x else y := by
  split_ifs <;> rfl

theorem pay0 (c s : Vec Ideal S512x128 .f32) (x : Vec Ideal S512x128 .bf16) (a : Fin 512) (b : Fin 128) :
    k0_pay3 c s x (ix2 a b) = turn (fun k => x (ix2 a k)) (fun k => c (ix2 a k)) (fun k => s (ix2 a k)) b * Ideal.ofBits FTy.f32 1040187392#32 := by
  unfold turn
  rw [← pick, ← lane]
  pointwise [k0_pay3, k0_pay2, k0_pay1]

theorem pay1 (c s : Vec Ideal S512x128 .f32) (x : Vec Ideal S512x128 .bf16) (a : Fin 512) (b : Fin 128) :
    k0_pay5 (k0_pay1 c) (k0_pay2 s) (k0_pay4 x) (iota Kind.tc S512x128 32 [1] iota_S512x128_d1_w32) (ix2 a b) = turn (fun k => x (ix2 a k)) (fun k => c (ix2 a k)) (fun k => s (ix2 a k)) b * Ideal.ofBits FTy.f32 1040187392#32 := by
  unfold turn
  rw [← pick, ← lane]
  pointwise [k0_pay5, k0_pay4, k0_pay2, k0_pay1]

theorem pay2 (c s : Vec Ideal S512x128 .f32) (x : Vec Ideal S512x128 .bf16) (a : Fin 512) (b : Fin 128) :
    k0_pay10 (k0_pay1 c) (k0_pay2 s) (k0_pay6 x) (64#32) k0_pay7 k0_pay8 k0_pay9 0#32 (ix2 a b) = turn (fun k => x (ix2 a k)) (fun k => c (ix2 a k)) (fun k => s (ix2 a k)) b * Ideal.ofBits FTy.f32 1040187392#32 := by
  unfold turn
  rw [← pick, ← lane]
  pointwise [k0_pay10, k0_pay9, k0_pay8, k0_pay7, k0_pay6, k0_pay2, k0_pay1]
  have e : Scalar.select (Scalar.cmpi CmpIPredicate.eq 64#32 0#32) 1#32 64#32 = 64#32 := by decide +kernel
  simp only [e]

theorem pay3 (c s : Vec Ideal S512x128 .f32) (x : Vec Ideal S512x128 .bf16) (a : Fin 512) (b : Fin 128) :
    k0_pay14 (k0_pay1 c) (k0_pay2 s) (k0_pay11 x) k0_pay12 (k0_pay13 x) 8#32 (ix2 a b) = turn (fun k => x (ix2 a k)) (fun k => c (ix2 a k)) (fun k => s (ix2 a k)) b * Ideal.ofBits FTy.f32 1040187392#32 := by
  unfold turn
  rw [← pick, ← lane]
  pointwise [k0_pay14, k0_pay13, k0_pay12, k0_pay11, k0_pay2, k0_pay1]

theorem pay4 (c s : Vec Ideal S512x128 .f32) (x : Vec Ideal S512x128 .bf16) (a : Fin 512) (b : Fin 128) :
    k0_pay15 (k0_pay1 c) (k0_pay2 s) x (ix2 a b) = turn (fun k => x (ix2 a k)) (fun k => c (ix2 a k)) (fun k => s (ix2 a k)) b := by
  unfold turn
  rw [← pick, ← lane]
  pointwise [k0_pay15, k0_pay2, k0_pay1]

/-- The row of the whole arrays that a block's row is. -/
def row (t : Fin cfg0.N) (a : Fin 512) : Fin 8192 := ⟨t.val * 512 + a.val, by have := lt_of_lt_of_eq t.isLt N_0; omega⟩

/-- A lane of a pair of heads. -/
def col (h : Fin 4) (b : Fin 128) : Fin 512 := ⟨h.val * 128 + b.val, by omega⟩

/-- The column of the projection that has a lane of a pair of the queries' heads. -/
def query (h : Fin 4) (b : Fin 128) : Fin 7040 := ⟨6144 + (h.val * 128 + b.val), by omega⟩

/-- The column of the projection that has a lane of the keys' heads. -/
def key (b : Fin 128) : Fin 7040 := ⟨6656 + b.val, by omega⟩

/-- The column of the projection that has a lane of the values' heads. -/
def value (b : Fin 128) : Fin 7040 := ⟨6784 + b.val, by omega⟩

/-- The cosine of a position's angle. -/
abbrev cosine (p : S8192.Idx → BitVec 32) (r : Fin 8192) (j : Fin 8) : EReal := Cert.Reference30Ideal.Read.val_main_v16 (F := Ideal) p (ix2 r j)

/-- The sine of a position's angle. -/
abbrev sine (p : S8192.Idx → BitVec 32) (r : Fin 8192) (j : Fin 8) : EReal := Cert.Reference30Ideal.Read.val_main_v18 (F := Ideal) p (ix2 r j)

theorem cosines (c : Dev nD) :
    (V m c main_v16 : S8192x8.Idx → EReal) = Cert.Reference30Ideal.Read.val_main_v16 (F := Ideal) (m ((c : Thread nD τ).loc main_arg1)) := by
  unfold V
  after_results_simp
  rfl

theorem cos_rest (c : Dev nD) :
    (V m c main_v18 : S8192x48.Idx → EReal) = broadcastInDim S8192x48 ![] bcast_S_S8192x48 (constant (F := Ideal) S_ .f32 1065353216#32) := by
  unfold V
  rfl

/-- The table of the cosines that the call reads. -/
theorem cos_table (c : Dev nD) (r : Fin 8192) (b : Fin 128) :
    (V m c main_v25 : S8192x128.Idx → EReal) (ix2 r b) = lanes (cosine (m ((c : Thread nD τ).loc main_arg1)) r) (cosine (m ((c : Thread nD τ).loc main_arg1)) r) 1 b := by
  have h : V m c main_v25 = shapeCast S8192x128 (broadcastInDim S1x8192x2x64 ![0, 1, 2, 3] bcast_S1x8192x1x64_S1x8192x2x64_0_1_2_3
     (shapeCast S1x8192x1x64 (concatenate S8192x64 1 [⟨S8192x8, V m c main_v16⟩, ⟨S8192x8, V m c main_v16⟩, ⟨S8192x48, V m c main_v18⟩] concatenates_S8192x8_S8192x8_S8192x48_S8192x64_d1) shapeCasts_S8192x64_S1x8192x1x64)) shapeCasts_S1x8192x2x64_S8192x128 := by
    unfold V
    rfl
  rw [h, cos_rest, cosines]
  unfold lanes
  pointwise []

theorem sines (c : Dev nD) :
    (V m c main_v17 : S8192x8.Idx → EReal) = Cert.Reference30Ideal.Read.val_main_v18 (F := Ideal) (m ((c : Thread nD τ).loc main_arg1)) := by
  unfold V
  after_results_simp
  rfl

theorem sin_rest (c : Dev nD) :
    (V m c main_v21 : S8192x48.Idx → EReal) = broadcastInDim S8192x48 ![] bcast_S_S8192x48 (constant (F := Ideal) S_ .f32 0#32) := by
  unfold V
  rfl

theorem sin_neg (c : Dev nD) :
    (V m c main_v20 : S8192x8.Idx → EReal) = Host.negf (F := Ideal) (φ := .f32) (V m c main_v17) := by
  unfold V
  rfl

/-- The table of the sines that the call reads. -/
theorem sin_table (c : Dev nD) (r : Fin 8192) (b : Fin 128) :
    (V m c main_v28 : S8192x128.Idx → EReal) (ix2 r b) = lanes (fun j => -sine (m ((c : Thread nD τ).loc main_arg1)) r j) (sine (m ((c : Thread nD τ).loc main_arg1)) r) 0 b := by
  have h : V m c main_v28 = shapeCast S8192x128 (broadcastInDim S1x8192x2x64 ![0, 1, 2, 3] bcast_S1x8192x1x64_S1x8192x2x64_0_1_2_3
     (shapeCast S1x8192x1x64 (concatenate S8192x64 1 [⟨S8192x8, V m c main_v20⟩, ⟨S8192x8, V m c main_v17⟩, ⟨S8192x48, V m c main_v21⟩] concatenates_S8192x8_S8192x8_S8192x48_S8192x64_d1) shapeCasts_S8192x64_S1x8192x1x64)) shapeCasts_S1x8192x2x64_S8192x128 := by
    unfold V
    rfl
  rw [h, sin_rest, sin_neg, sines]
  unfold lanes
  pointwise []

theorem queries0 (c : Dev nD) (t : Fin cfg0.N) (a : Fin 512) (b : Fin 128) :
    View.ld (X0_0 m c t) (Rect.unit (s := S512x512) ![0, 0] ![512, 128] inb_S512x512_S512x128_0_0) (ix2 a b) = ((m ((c : Thread nD τ).loc main_arg0)) : S8192x7040.Idx → EReal) (ix2 (row t a) (query 0 b)) := by
  unfold X0_0 Pipeline.Window.fill View.ld
  beta_reduce
  rw [dif_pos (moved0_0 t _)]
  rw [← V_main_arg0 m c]
  blk_point [iblk, idx t, row, query]
  · simp [Rect.unit, LoadRect.idx, ix2_zero, ix2_one]
  · simp [Rect.unit, LoadRect.idx, ix2_zero, ix2_one]

theorem queries1 (c : Dev nD) (t : Fin cfg0.N) (a : Fin 512) (b : Fin 128) :
    View.ld (X0_0 m c t) (Rect.unit (s := S512x512) ![0, 128] ![512, 128] inb_S512x512_S512x128_0_128) (ix2 a b) = ((m ((c : Thread nD τ).loc main_arg0)) : S8192x7040.Idx → EReal) (ix2 (row t a) (query 1 b)) := by
  unfold X0_0 Pipeline.Window.fill View.ld
  beta_reduce
  rw [dif_pos (moved0_0 t _)]
  rw [← V_main_arg0 m c]
  blk_point [iblk, idx t, row, query]
  · simp [Rect.unit, LoadRect.idx, ix2_zero, ix2_one]
  · simp [Rect.unit, LoadRect.idx, ix2_zero, ix2_one]

theorem queries2 (c : Dev nD) (t : Fin cfg0.N) (a : Fin 512) (b : Fin 128) :
    View.ld (X0_0 m c t) (Rect.unit (s := S512x512) ![0, 256] ![512, 128] inb_S512x512_S512x128_0_256) (ix2 a b) = ((m ((c : Thread nD τ).loc main_arg0)) : S8192x7040.Idx → EReal) (ix2 (row t a) (query 2 b)) := by
  unfold X0_0 Pipeline.Window.fill View.ld
  beta_reduce
  rw [dif_pos (moved0_0 t _)]
  rw [← V_main_arg0 m c]
  blk_point [iblk, idx t, row, query]
  · simp [Rect.unit, LoadRect.idx, ix2_zero, ix2_one]
  · simp [Rect.unit, LoadRect.idx, ix2_zero, ix2_one]

theorem queries3 (c : Dev nD) (t : Fin cfg0.N) (a : Fin 512) (b : Fin 128) :
    View.ld (X0_0 m c t) (Rect.unit (s := S512x512) ![0, 384] ![512, 128] inb_S512x512_S512x128_0_384) (ix2 a b) = ((m ((c : Thread nD τ).loc main_arg0)) : S8192x7040.Idx → EReal) (ix2 (row t a) (query 3 b)) := by
  unfold X0_0 Pipeline.Window.fill View.ld
  beta_reduce
  rw [dif_pos (moved0_0 t _)]
  rw [← V_main_arg0 m c]
  blk_point [iblk, idx t, row, query]
  · simp [Rect.unit, LoadRect.idx, ix2_zero, ix2_one]
  · simp [Rect.unit, LoadRect.idx, ix2_zero, ix2_one]

theorem keys (c : Dev nD) (t : Fin cfg0.N) (a : Fin 512) (b : Fin 128) :
    iblk m c 1 t (ix2 a b) = ((m ((c : Thread nD τ).loc main_arg0)) : S8192x7040.Idx → EReal) (ix2 (row t a) (key b)) := by
  rw [← V_main_arg0 m c]
  blk_point [iblk, idx t, row, key]

theorem values (c : Dev nD) (t : Fin cfg0.N) (a : Fin 512) (b : Fin 128) :
    iblk m c 2 t (ix2 a b) = ((m ((c : Thread nD τ).loc main_arg0)) : S8192x7040.Idx → EReal) (ix2 (row t a) (value b)) := by
  rw [← V_main_arg0 m c]
  blk_point [iblk, idx t, row, value]

theorem cos_block (c : Dev nD) (t : Fin cfg0.N) (a : Fin 512) (b : Fin 128) :
    iblk m c 3 t (ix2 a b) = lanes (cosine (m ((c : Thread nD τ).loc main_arg1)) (row t a)) (cosine (m ((c : Thread nD τ).loc main_arg1)) (row t a)) 1 b := by
  rw [← cos_table m c]
  blk_point [iblk, idx t, row]

theorem sin_block (c : Dev nD) (t : Fin cfg0.N) (a : Fin 512) (b : Fin 128) :
    iblk m c 4 t (ix2 a b) = lanes (fun j => -sine (m ((c : Thread nD τ).loc main_arg1)) (row t a) j) (sine (m ((c : Thread nD τ).loc main_arg1)) (row t a)) 0 b := by
  rw [← sin_table m c]
  blk_point [iblk, idx t, row]

theorem place5 (t : Fin cfg0.N) (a : Fin 512) (b : Fin 512) :
    (((cfg0.win 5).blk t).view.emb (ix2 a b : S512x512.Idx) : S8192x512.Idx) = ix2 (row t a) b := by
  blk_point [idx t, row]

theorem place6 (t : Fin cfg0.N) (a : Fin 512) (b : Fin 128) :
    (((cfg0.win 6).blk t).view.emb (ix2 a b : S512x128.Idx) : S8192x128.Idx) = ix2 (row t a) b := by
  blk_point [idx t, row]

theorem place7 (t : Fin cfg0.N) (a : Fin 512) (b : Fin 128) :
    (((cfg0.win 7).blk t).view.emb (ix2 a b : S512x128.Idx) : S8192x128.Idx) = ix2 (row t a) b := by
  blk_point [idx t, row]

theorem at_eq (x : S8192x7040.Idx → EReal) (r : Fin 8192) {n k : ℕ} {hn : n < 7040} {hk : k < 7040} (e : n = k) :
    x (ix2 r ⟨n, hn⟩) = x (ix2 r ⟨k, hk⟩) := by
  subst e
  rfl

/-- What the reference has at a lane. -/
theorem turned0 (x : S8192x7040.Idx → EReal) (p : S8192.Idx → BitVec 32) (r : Fin 8192) (b : Fin 128) :
    Cert.Reference30Ideal.Read.val_main_v57 (F := Ideal) x p (ix2 r (col 0 b))
      = spin (fun k => x (ix2 r (query 0 k))) (cosine p r) (sine p r) b * Ideal.ofBits FTy.f32 1040187392#32 := by
  unfold spin
  pointwise [Cert.Reference30Ideal.Read.val_main_v60, Cert.Reference30Ideal.Read.val_main_v59, Cert.Reference30Ideal.Read.val_main_v58, Cert.Reference30Ideal.Read.val_main_v57, Cert.Reference30Ideal.Read.val_main_v56, Cert.Reference30Ideal.Read.val_main_v55, Cert.Reference30Ideal.Read.val_main_v54, Cert.Reference30Ideal.Read.val_main_v53, Cert.Reference30Ideal.Read.val_main_v52, Cert.Reference30Ideal.Read.val_main_v51, Cert.Reference30Ideal.Read.val_main_v50, Cert.Reference30Ideal.Read.val_main_v49, Cert.Reference30Ideal.Read.val_main_v48, Cert.Reference30Ideal.Read.val_main_v47, Cert.Reference30Ideal.Read.val_main_v46, Cert.Reference30Ideal.Read.val_main_v45, Cert.Reference30Ideal.Read.val_main_v44, Cert.Reference30Ideal.Read.val_main_v43, Cert.Reference30Ideal.Read.val_main_v42, Cert.Reference30Ideal.Read.val_main_v41, Cert.Reference30Ideal.Read.val_main_v40, Cert.Reference30Ideal.Read.val_main_v39, Cert.Reference30Ideal.Read.val_main_v38, Cert.Reference30Ideal.Read.val_main_v37, Cert.Reference30Ideal.Read.val_main_v36, Cert.Reference30Ideal.Read.val_main_v35, Cert.Reference30Ideal.Read.val_main_v34, Cert.Reference30Ideal.Read.val_main_v33, Cert.Reference30Ideal.Read.val_main_v32, Cert.Reference30Ideal.Read.val_main_v31, Cert.Reference30Ideal.Read.val_main_v30, Cert.Reference30Ideal.Read.val_main_v29, Cert.Reference30Ideal.Read.val_main_v28, Cert.Reference30Ideal.Read.val_main_v27, Cert.Reference30Ideal.Read.val_main_v26, Cert.Reference30Ideal.Read.val_main_v25, Cert.Reference30Ideal.Read.val_main_v24, Cert.Reference30Ideal.Read.val_main_v23, Cert.Reference30Ideal.Read.val_main_v22, Cert.Reference30Ideal.Read.val_main_v21, Cert.Reference30Ideal.Read.val_main_v20, Cert.Reference30Ideal.Read.val_main_v19, Cert.Reference30Ideal.Read.val_main_v17, Cert.Reference30Ideal.Read.val_main_cst_3, col, query, key]
  refine congrArg (· * Ideal.ofBits FTy.f32 1040187392#32) ?_
  refine dite_congr rfl (fun _ => ?_) (fun _ => dite_congr rfl (fun _ => ?_) (fun _ => ?_))
  · exact congrArg₂ (· - ·) (congrArg (· * _) (at_eq x r (by omega))) (congrArg (· * _) (at_eq x r (by omega)))
  · exact congrArg₂ (· + ·) (congrArg (· * _) (at_eq x r (by omega))) (congrArg (· * _) (at_eq x r (by omega)))
  · exact at_eq x r (by omega)

/-- What the reference has at a lane. -/
theorem turned1 (x : S8192x7040.Idx → EReal) (p : S8192.Idx → BitVec 32) (r : Fin 8192) (b : Fin 128) :
    Cert.Reference30Ideal.Read.val_main_v57 (F := Ideal) x p (ix2 r (col 1 b))
      = spin (fun k => x (ix2 r (query 1 k))) (cosine p r) (sine p r) b * Ideal.ofBits FTy.f32 1040187392#32 := by
  unfold spin
  pointwise [Cert.Reference30Ideal.Read.val_main_v60, Cert.Reference30Ideal.Read.val_main_v59, Cert.Reference30Ideal.Read.val_main_v58, Cert.Reference30Ideal.Read.val_main_v57, Cert.Reference30Ideal.Read.val_main_v56, Cert.Reference30Ideal.Read.val_main_v55, Cert.Reference30Ideal.Read.val_main_v54, Cert.Reference30Ideal.Read.val_main_v53, Cert.Reference30Ideal.Read.val_main_v52, Cert.Reference30Ideal.Read.val_main_v51, Cert.Reference30Ideal.Read.val_main_v50, Cert.Reference30Ideal.Read.val_main_v49, Cert.Reference30Ideal.Read.val_main_v48, Cert.Reference30Ideal.Read.val_main_v47, Cert.Reference30Ideal.Read.val_main_v46, Cert.Reference30Ideal.Read.val_main_v45, Cert.Reference30Ideal.Read.val_main_v44, Cert.Reference30Ideal.Read.val_main_v43, Cert.Reference30Ideal.Read.val_main_v42, Cert.Reference30Ideal.Read.val_main_v41, Cert.Reference30Ideal.Read.val_main_v40, Cert.Reference30Ideal.Read.val_main_v39, Cert.Reference30Ideal.Read.val_main_v38, Cert.Reference30Ideal.Read.val_main_v37, Cert.Reference30Ideal.Read.val_main_v36, Cert.Reference30Ideal.Read.val_main_v35, Cert.Reference30Ideal.Read.val_main_v34, Cert.Reference30Ideal.Read.val_main_v33, Cert.Reference30Ideal.Read.val_main_v32, Cert.Reference30Ideal.Read.val_main_v31, Cert.Reference30Ideal.Read.val_main_v30, Cert.Reference30Ideal.Read.val_main_v29, Cert.Reference30Ideal.Read.val_main_v28, Cert.Reference30Ideal.Read.val_main_v27, Cert.Reference30Ideal.Read.val_main_v26, Cert.Reference30Ideal.Read.val_main_v25, Cert.Reference30Ideal.Read.val_main_v24, Cert.Reference30Ideal.Read.val_main_v23, Cert.Reference30Ideal.Read.val_main_v22, Cert.Reference30Ideal.Read.val_main_v21, Cert.Reference30Ideal.Read.val_main_v20, Cert.Reference30Ideal.Read.val_main_v19, Cert.Reference30Ideal.Read.val_main_v17, Cert.Reference30Ideal.Read.val_main_cst_3, col, query, key]
  have e : (128 + b.val) % 64 = b.val % 64 := by omega
  simp only [e]
  refine congrArg (· * Ideal.ofBits FTy.f32 1040187392#32) ?_
  refine dite_congr rfl (fun _ => ?_) (fun _ => dite_congr rfl (fun _ => ?_) (fun _ => ?_))
  · exact congrArg₂ (· - ·) (congrArg (· * _) (at_eq x r (by omega))) (congrArg (· * _) (at_eq x r (by omega)))
  · exact congrArg₂ (· + ·) (congrArg (· * _) (at_eq x r (by omega))) (congrArg (· * _) (at_eq x r (by omega)))
  · exact at_eq x r (by omega)

/-- What the reference has at a lane. -/
theorem turned2 (x : S8192x7040.Idx → EReal) (p : S8192.Idx → BitVec 32) (r : Fin 8192) (b : Fin 128) :
    Cert.Reference30Ideal.Read.val_main_v57 (F := Ideal) x p (ix2 r (col 2 b))
      = spin (fun k => x (ix2 r (query 2 k))) (cosine p r) (sine p r) b * Ideal.ofBits FTy.f32 1040187392#32 := by
  unfold spin
  pointwise [Cert.Reference30Ideal.Read.val_main_v60, Cert.Reference30Ideal.Read.val_main_v59, Cert.Reference30Ideal.Read.val_main_v58, Cert.Reference30Ideal.Read.val_main_v57, Cert.Reference30Ideal.Read.val_main_v56, Cert.Reference30Ideal.Read.val_main_v55, Cert.Reference30Ideal.Read.val_main_v54, Cert.Reference30Ideal.Read.val_main_v53, Cert.Reference30Ideal.Read.val_main_v52, Cert.Reference30Ideal.Read.val_main_v51, Cert.Reference30Ideal.Read.val_main_v50, Cert.Reference30Ideal.Read.val_main_v49, Cert.Reference30Ideal.Read.val_main_v48, Cert.Reference30Ideal.Read.val_main_v47, Cert.Reference30Ideal.Read.val_main_v46, Cert.Reference30Ideal.Read.val_main_v45, Cert.Reference30Ideal.Read.val_main_v44, Cert.Reference30Ideal.Read.val_main_v43, Cert.Reference30Ideal.Read.val_main_v42, Cert.Reference30Ideal.Read.val_main_v41, Cert.Reference30Ideal.Read.val_main_v40, Cert.Reference30Ideal.Read.val_main_v39, Cert.Reference30Ideal.Read.val_main_v38, Cert.Reference30Ideal.Read.val_main_v37, Cert.Reference30Ideal.Read.val_main_v36, Cert.Reference30Ideal.Read.val_main_v35, Cert.Reference30Ideal.Read.val_main_v34, Cert.Reference30Ideal.Read.val_main_v33, Cert.Reference30Ideal.Read.val_main_v32, Cert.Reference30Ideal.Read.val_main_v31, Cert.Reference30Ideal.Read.val_main_v30, Cert.Reference30Ideal.Read.val_main_v29, Cert.Reference30Ideal.Read.val_main_v28, Cert.Reference30Ideal.Read.val_main_v27, Cert.Reference30Ideal.Read.val_main_v26, Cert.Reference30Ideal.Read.val_main_v25, Cert.Reference30Ideal.Read.val_main_v24, Cert.Reference30Ideal.Read.val_main_v23, Cert.Reference30Ideal.Read.val_main_v22, Cert.Reference30Ideal.Read.val_main_v21, Cert.Reference30Ideal.Read.val_main_v20, Cert.Reference30Ideal.Read.val_main_v19, Cert.Reference30Ideal.Read.val_main_v17, Cert.Reference30Ideal.Read.val_main_cst_3, col, query, key]
  have e : (256 + b.val) % 64 = b.val % 64 := by omega
  simp only [e]
  refine congrArg (· * Ideal.ofBits FTy.f32 1040187392#32) ?_
  refine dite_congr rfl (fun _ => ?_) (fun _ => dite_congr rfl (fun _ => ?_) (fun _ => ?_))
  · exact congrArg₂ (· - ·) (congrArg (· * _) (at_eq x r (by omega))) (congrArg (· * _) (at_eq x r (by omega)))
  · exact congrArg₂ (· + ·) (congrArg (· * _) (at_eq x r (by omega))) (congrArg (· * _) (at_eq x r (by omega)))
  · exact at_eq x r (by omega)

/-- What the reference has at a lane. -/
theorem turned3 (x : S8192x7040.Idx → EReal) (p : S8192.Idx → BitVec 32) (r : Fin 8192) (b : Fin 128) :
    Cert.Reference30Ideal.Read.val_main_v57 (F := Ideal) x p (ix2 r (col 3 b))
      = spin (fun k => x (ix2 r (query 3 k))) (cosine p r) (sine p r) b * Ideal.ofBits FTy.f32 1040187392#32 := by
  unfold spin
  pointwise [Cert.Reference30Ideal.Read.val_main_v60, Cert.Reference30Ideal.Read.val_main_v59, Cert.Reference30Ideal.Read.val_main_v58, Cert.Reference30Ideal.Read.val_main_v57, Cert.Reference30Ideal.Read.val_main_v56, Cert.Reference30Ideal.Read.val_main_v55, Cert.Reference30Ideal.Read.val_main_v54, Cert.Reference30Ideal.Read.val_main_v53, Cert.Reference30Ideal.Read.val_main_v52, Cert.Reference30Ideal.Read.val_main_v51, Cert.Reference30Ideal.Read.val_main_v50, Cert.Reference30Ideal.Read.val_main_v49, Cert.Reference30Ideal.Read.val_main_v48, Cert.Reference30Ideal.Read.val_main_v47, Cert.Reference30Ideal.Read.val_main_v46, Cert.Reference30Ideal.Read.val_main_v45, Cert.Reference30Ideal.Read.val_main_v44, Cert.Reference30Ideal.Read.val_main_v43, Cert.Reference30Ideal.Read.val_main_v42, Cert.Reference30Ideal.Read.val_main_v41, Cert.Reference30Ideal.Read.val_main_v40, Cert.Reference30Ideal.Read.val_main_v39, Cert.Reference30Ideal.Read.val_main_v38, Cert.Reference30Ideal.Read.val_main_v37, Cert.Reference30Ideal.Read.val_main_v36, Cert.Reference30Ideal.Read.val_main_v35, Cert.Reference30Ideal.Read.val_main_v34, Cert.Reference30Ideal.Read.val_main_v33, Cert.Reference30Ideal.Read.val_main_v32, Cert.Reference30Ideal.Read.val_main_v31, Cert.Reference30Ideal.Read.val_main_v30, Cert.Reference30Ideal.Read.val_main_v29, Cert.Reference30Ideal.Read.val_main_v28, Cert.Reference30Ideal.Read.val_main_v27, Cert.Reference30Ideal.Read.val_main_v26, Cert.Reference30Ideal.Read.val_main_v25, Cert.Reference30Ideal.Read.val_main_v24, Cert.Reference30Ideal.Read.val_main_v23, Cert.Reference30Ideal.Read.val_main_v22, Cert.Reference30Ideal.Read.val_main_v21, Cert.Reference30Ideal.Read.val_main_v20, Cert.Reference30Ideal.Read.val_main_v19, Cert.Reference30Ideal.Read.val_main_v17, Cert.Reference30Ideal.Read.val_main_cst_3, col, query, key]
  have e : (384 + b.val) % 64 = b.val % 64 := by omega
  simp only [e]
  refine congrArg (· * Ideal.ofBits FTy.f32 1040187392#32) ?_
  refine dite_congr rfl (fun _ => ?_) (fun _ => dite_congr rfl (fun _ => ?_) (fun _ => ?_))
  · exact congrArg₂ (· - ·) (congrArg (· * _) (at_eq x r (by omega))) (congrArg (· * _) (at_eq x r (by omega)))
  · exact congrArg₂ (· + ·) (congrArg (· * _) (at_eq x r (by omega))) (congrArg (· * _) (at_eq x r (by omega)))
  · exact at_eq x r (by omega)

/-- What the reference has at a lane. -/
theorem turned4 (x : S8192x7040.Idx → EReal) (p : S8192.Idx → BitVec 32) (r : Fin 8192) (b : Fin 128) :
    Cert.Reference30Ideal.Read.val_main_v59 (F := Ideal) x p (ix2 r b)
      = spin (fun k => x (ix2 r (key k))) (cosine p r) (sine p r) b := by
  unfold spin
  pointwise [Cert.Reference30Ideal.Read.val_main_v60, Cert.Reference30Ideal.Read.val_main_v59, Cert.Reference30Ideal.Read.val_main_v58, Cert.Reference30Ideal.Read.val_main_v57, Cert.Reference30Ideal.Read.val_main_v56, Cert.Reference30Ideal.Read.val_main_v55, Cert.Reference30Ideal.Read.val_main_v54, Cert.Reference30Ideal.Read.val_main_v53, Cert.Reference30Ideal.Read.val_main_v52, Cert.Reference30Ideal.Read.val_main_v51, Cert.Reference30Ideal.Read.val_main_v50, Cert.Reference30Ideal.Read.val_main_v49, Cert.Reference30Ideal.Read.val_main_v48, Cert.Reference30Ideal.Read.val_main_v47, Cert.Reference30Ideal.Read.val_main_v46, Cert.Reference30Ideal.Read.val_main_v45, Cert.Reference30Ideal.Read.val_main_v44, Cert.Reference30Ideal.Read.val_main_v43, Cert.Reference30Ideal.Read.val_main_v42, Cert.Reference30Ideal.Read.val_main_v41, Cert.Reference30Ideal.Read.val_main_v40, Cert.Reference30Ideal.Read.val_main_v39, Cert.Reference30Ideal.Read.val_main_v38, Cert.Reference30Ideal.Read.val_main_v37, Cert.Reference30Ideal.Read.val_main_v36, Cert.Reference30Ideal.Read.val_main_v35, Cert.Reference30Ideal.Read.val_main_v34, Cert.Reference30Ideal.Read.val_main_v33, Cert.Reference30Ideal.Read.val_main_v32, Cert.Reference30Ideal.Read.val_main_v31, Cert.Reference30Ideal.Read.val_main_v30, Cert.Reference30Ideal.Read.val_main_v29, Cert.Reference30Ideal.Read.val_main_v28, Cert.Reference30Ideal.Read.val_main_v27, Cert.Reference30Ideal.Read.val_main_v26, Cert.Reference30Ideal.Read.val_main_v25, Cert.Reference30Ideal.Read.val_main_v24, Cert.Reference30Ideal.Read.val_main_v23, Cert.Reference30Ideal.Read.val_main_v22, Cert.Reference30Ideal.Read.val_main_v21, Cert.Reference30Ideal.Read.val_main_v20, Cert.Reference30Ideal.Read.val_main_v19, Cert.Reference30Ideal.Read.val_main_v17, Cert.Reference30Ideal.Read.val_main_cst_3, col, query, key]
  refine dite_congr rfl (fun _ => ?_) (fun _ => dite_congr rfl (fun _ => ?_) (fun _ => ?_))
  · exact congrArg₂ (· - ·) (congrArg (· * _) (at_eq x r (by omega))) (congrArg (· * _) (at_eq x r (by omega)))
  · exact congrArg₂ (· + ·) (congrArg (· * _) (at_eq x r (by omega))) (congrArg (· * _) (at_eq x r (by omega)))
  · exact at_eq x r (by omega)

theorem left0 (c : Dev nD) (t : Fin cfg0.N) (a : Fin 512) (j : Fin 128) :
    ((outsAt0 m c t).1 : S512x512.Idx → EReal) (ix2 a (col 0 j))
      = Cert.Reference30Ideal.Read.val_main_v57 (F := Ideal) (m ((c : Thread nD τ).loc main_arg0)) (m ((c : Thread nD τ).loc main_arg1)) (ix2 (row t a) (col 0 j)) := by
  unfold outsAt0
  frame_out
  have e : (ix2 a (col 0 j) : S512x512.Idx) = (Rect.unit (s := S512x512) ![0, 0] ![512, 128] inb_S512x512_S512x128_0_0).emb (ix2 a j : S512x128.Idx) := by
    funext i
    match i with
    | ⟨0, _⟩ => exact Fin.ext (by simp [col, Rect.emb, Rect.unit])
    | ⟨1, _⟩ => exact Fin.ext (by simp [col, Rect.emb, Rect.unit])
  refine (View.canon_cons_of_not_mem _ _ ?_).trans ?_
  · intro hm
    have := ((Rect.mem_set_unit (inb := inb_S512x512_S512x128_0_384)).mp hm 1).1
    change 384 ≤ 0 * 128 + j.val at this
    omega
  refine (View.canon_cons_of_not_mem _ _ ?_).trans ?_
  · intro hm
    have := ((Rect.mem_set_unit (inb := inb_S512x512_S512x128_0_256)).mp hm 1).1
    change 256 ≤ 0 * 128 + j.val at this
    omega
  refine (View.canon_cons_of_not_mem _ _ ?_).trans ?_
  · intro hm
    have := ((Rect.mem_set_unit (inb := inb_S512x512_S512x128_0_128)).mp hm 1).1
    change 128 ≤ 0 * 128 + j.val at this
    omega
  rw [e]
  refine (View.canon_cons_emb _ _ _ _).trans ?_
  refine (pay0 _ _ _ _ _).trans (Eq.trans ?_ (turned0 _ _ (row t a) j).symm)
  simp only [queries0, cos_block, sin_block, turn_eq]

theorem left1 (c : Dev nD) (t : Fin cfg0.N) (a : Fin 512) (j : Fin 128) :
    ((outsAt0 m c t).1 : S512x512.Idx → EReal) (ix2 a (col 1 j))
      = Cert.Reference30Ideal.Read.val_main_v57 (F := Ideal) (m ((c : Thread nD τ).loc main_arg0)) (m ((c : Thread nD τ).loc main_arg1)) (ix2 (row t a) (col 1 j)) := by
  unfold outsAt0
  frame_out
  have e : (ix2 a (col 1 j) : S512x512.Idx) = (Rect.unit (s := S512x512) ![0, 128] ![512, 128] inb_S512x512_S512x128_0_128).emb (ix2 a j : S512x128.Idx) := by
    funext i
    match i with
    | ⟨0, _⟩ => exact Fin.ext (by simp [col, Rect.emb, Rect.unit])
    | ⟨1, _⟩ => exact Fin.ext (by simp [col, Rect.emb, Rect.unit])
  refine (View.canon_cons_of_not_mem _ _ ?_).trans ?_
  · intro hm
    have := ((Rect.mem_set_unit (inb := inb_S512x512_S512x128_0_384)).mp hm 1).1
    change 384 ≤ 1 * 128 + j.val at this
    omega
  refine (View.canon_cons_of_not_mem _ _ ?_).trans ?_
  · intro hm
    have := ((Rect.mem_set_unit (inb := inb_S512x512_S512x128_0_256)).mp hm 1).1
    change 256 ≤ 1 * 128 + j.val at this
    omega
  rw [e]
  refine (View.canon_cons_emb _ _ _ _).trans ?_
  refine (pay1 _ _ _ _ _).trans (Eq.trans ?_ (turned1 _ _ (row t a) j).symm)
  simp only [queries1, cos_block, sin_block, turn_eq]

theorem left2 (c : Dev nD) (t : Fin cfg0.N) (a : Fin 512) (j : Fin 128) :
    ((outsAt0 m c t).1 : S512x512.Idx → EReal) (ix2 a (col 2 j))
      = Cert.Reference30Ideal.Read.val_main_v57 (F := Ideal) (m ((c : Thread nD τ).loc main_arg0)) (m ((c : Thread nD τ).loc main_arg1)) (ix2 (row t a) (col 2 j)) := by
  unfold outsAt0
  frame_out
  have e : (ix2 a (col 2 j) : S512x512.Idx) = (Rect.unit (s := S512x512) ![0, 256] ![512, 128] inb_S512x512_S512x128_0_256).emb (ix2 a j : S512x128.Idx) := by
    funext i
    match i with
    | ⟨0, _⟩ => exact Fin.ext (by simp [col, Rect.emb, Rect.unit])
    | ⟨1, _⟩ => exact Fin.ext (by simp [col, Rect.emb, Rect.unit])
  refine (View.canon_cons_of_not_mem _ _ ?_).trans ?_
  · intro hm
    have := ((Rect.mem_set_unit (inb := inb_S512x512_S512x128_0_384)).mp hm 1).1
    change 384 ≤ 2 * 128 + j.val at this
    omega
  rw [e]
  refine (View.canon_cons_emb _ _ _ _).trans ?_
  refine (pay2 _ _ _ _ _).trans (Eq.trans ?_ (turned2 _ _ (row t a) j).symm)
  simp only [queries2, cos_block, sin_block, turn_eq]

theorem left3 (c : Dev nD) (t : Fin cfg0.N) (a : Fin 512) (j : Fin 128) :
    ((outsAt0 m c t).1 : S512x512.Idx → EReal) (ix2 a (col 3 j))
      = Cert.Reference30Ideal.Read.val_main_v57 (F := Ideal) (m ((c : Thread nD τ).loc main_arg0)) (m ((c : Thread nD τ).loc main_arg1)) (ix2 (row t a) (col 3 j)) := by
  unfold outsAt0
  frame_out
  have e : (ix2 a (col 3 j) : S512x512.Idx) = (Rect.unit (s := S512x512) ![0, 384] ![512, 128] inb_S512x512_S512x128_0_384).emb (ix2 a j : S512x128.Idx) := by
    funext i
    match i with
    | ⟨0, _⟩ => exact Fin.ext (by simp [col, Rect.emb, Rect.unit])
    | ⟨1, _⟩ => exact Fin.ext (by simp [col, Rect.emb, Rect.unit])
  rw [e]
  refine (View.canon_cons_emb _ _ _ _).trans ?_
  refine (pay3 _ _ _ _ _).trans (Eq.trans ?_ (turned3 _ _ (row t a) j).symm)
  simp only [queries3, cos_block, sin_block, turn_eq]

theorem left (c : Dev nD) (t : Fin cfg0.N) (h : Fin 4) (a : Fin 512) (j : Fin 128) :
    ((outsAt0 m c t).1 : S512x512.Idx → EReal) (ix2 a (col h j))
      = Cert.Reference30Ideal.Read.val_main_v57 (F := Ideal) (m ((c : Thread nD τ).loc main_arg0)) (m ((c : Thread nD τ).loc main_arg1)) (ix2 (row t a) (col h j)) :=
  match h with
  | 0 => left0 m c t a j
  | 1 => left1 m c t a j
  | 2 => left2 m c t a j
  | 3 => left3 m c t a j

/-- The call's first array is the turned queries. -/
theorem final5 (c : Dev nD) :
    (dats m 0 c).arrAt 5 (cfgs 0).N = Cert.Reference30Ideal.Read.val_main_v57 (F := Ideal) (m ((c : Thread nD τ).loc main_arg0)) (m ((c : Thread nD τ).loc main_arg1)) := by
  refine (dats m 0 c).arrAt_eq_of_covers 5 _ (by decide +kernel) fun t hf y => ?_
  obtain ⟨a, b, rfl⟩ : ∃ (a : Fin 512) (b : Fin 512), y = (ix2 a b : S512x512.Idx) :=
    ⟨y 0, y 1, by funext i; match i with | ⟨0, _⟩ => rfl | ⟨1, _⟩ => rfl⟩
  refine Eq.trans ?_ (congrArg _ (place5 t a b).symm)
  obtain ⟨h, j, rfl⟩ : ∃ (h : Fin 4) (j : Fin 128), b = col h j :=
    ⟨⟨b.val / 128, by omega⟩, ⟨b.val % 128, by omega⟩, Fin.ext (by simp only [col]; omega)⟩
  blk_simp
  rw [after0_5]
  exact left m c t h a j

/-- The call's second array is the turned keys. -/
theorem final6 (c : Dev nD) :
    (dats m 0 c).arrAt 6 (cfgs 0).N = Cert.Reference30Ideal.Read.val_main_v59 (F := Ideal) (m ((c : Thread nD τ).loc main_arg0)) (m ((c : Thread nD τ).loc main_arg1)) := by
  refine (dats m 0 c).arrAt_eq_of_covers 6 _ (by decide +kernel) fun t hf y => ?_
  obtain ⟨a, b, rfl⟩ : ∃ (a : Fin 512) (b : Fin 128), y = (ix2 a b : S512x128.Idx) :=
    ⟨y 0, y 1, by funext i; match i with | ⟨0, _⟩ => rfl | ⟨1, _⟩ => rfl⟩
  refine Eq.trans ?_ (congrArg _ (place6 t a b).symm)
  blk_simp
  rw [after0_6]
  unfold outsAt0
  frame_out
  refine (pay4 _ _ _ _ _).trans (Eq.trans ?_ (turned4 _ _ (row t a) b).symm)
  simp only [keys, cos_block, sin_block, turn_eq]

/-- The call's third array is the values. -/
theorem final7 (c : Dev nD) :
    (dats m 0 c).arrAt 7 (cfgs 0).N = Cert.Reference30Ideal.Read.val_main_v60 (F := Ideal) (m ((c : Thread nD τ).loc main_arg0)) := by
  refine (dats m 0 c).arrAt_eq_of_covers 7 _ (by decide +kernel) fun t hf y => ?_
  obtain ⟨a, b, rfl⟩ : ∃ (a : Fin 512) (b : Fin 128), y = (ix2 a b : S512x128.Idx) :=
    ⟨y 0, y 1, by funext i; match i with | ⟨0, _⟩ => rfl | ⟨1, _⟩ => rfl⟩
  refine Eq.trans ?_ (congrArg _ (place7 t a b).symm)
  blk_simp
  rw [after0_7]
  unfold outsAt0
  frame_out
  refine (values m c t a b).trans ?_
  pointwise [Cert.Reference30Ideal.Read.val_main_v60, value]

end Cert.Kernel30Ideal.Value

namespace Cert.Rope

open Cert.Reference30Ideal Cert.Reference30Ideal.Gen in
/-- The reference's run, with its arrays named. -/
theorem run_forward (m : (ℓ : Loc nD τ sig) → Buf (Elt Idealize.ShloMosaic.Ideal) ℓ) (ρ : Dev nD → PrngReg) :
    θ_run defs (onTc (τ := τ) (main (F := Idealize.ShloMosaic.Ideal))) ⟨m, fun _ => 0, ρ⟩ fun r => ∀ c : Dev nD,
      r.2.mem ((c.tc : Thread nD τ).loc main_v57) = Read.val_main_v57 (m ((c.tc : Thread nD τ).loc main_arg0)) (m ((c.tc : Thread nD τ).loc main_arg1))
      ∧ r.2.mem ((c.tc : Thread nD τ).loc main_v59) = Read.val_main_v59 (m ((c.tc : Thread nD τ).loc main_arg0)) (m ((c.tc : Thread nD τ).loc main_arg1))
      ∧ r.2.mem ((c.tc : Thread nD τ).loc main_v60) = Read.val_main_v60 (m ((c.tc : Thread nD τ).loc main_arg0))
      ∧ r.2.mem ((c.tc : Thread nD τ).loc main_arg0) = (m ((c.tc : Thread nD τ).loc main_arg0))
      ∧ r.2.mem ((c.tc : Thread nD τ).loc main_arg1) = (m ((c.tc : Thread nD τ).loc main_arg1)) :=
  (θ_run defs _ _).mono (fun _ h c => ⟨(h c).1.trans (Read.val_main_v57_eq _ _), (h c).2.1.trans (Read.val_main_v59_eq _ _),
    (h c).2.2.1.trans (Read.val_main_v60_eq _), (h c).2.2.2⟩)
    (Value.run m ρ)

/-- The call and its reference return the same queries, keys and values. -/
theorem algebraic_forward : Cert.algebraic_Kernel30Ideal_Reference30Ideal (hKernel30Ideal := Cert.Kernel30Ideal.Gen.facts)
    (hReference30Ideal := Cert.Reference30Ideal.Gen.facts) := by
  pair_intro
  · run_from Cert.Kernel30Ideal.Gen.run_main m g
  · run_from run_forward m' g'
    · exact (Cert.Kernel30Ideal.Value.final5 m c).symm
    · exact (Cert.Kernel30Ideal.Value.final6 m c).symm
    · exact (Cert.Kernel30Ideal.Value.final7 m c).symm

/-- The reference terminates, and leaves its arguments and the semaphores as they were. -/
theorem frame_forward : Cert.quiescent_Reference30Ideal (hReference30Ideal := Cert.Reference30Ideal.Gen.facts) := fun m g _ =>
  (θ_run _ _ _).mono (fun r h => ⟨fun c => (h c).2.2.2, sem_eq_zero_of_no_sems (by decide) r.2⟩)
    (Cert.Reference30Ideal.Value.run m g)

end Cert.Rope
-- ==== Proof.lean ====
/- The claims of the certificate, from the modules that prove them: the backward scan of the delta rule (Scan), the
   products of the step with their gradients (Product), the optimiser's step (Optimiser), the norms (Norm), the gates (Gate),
   the rotary embedding (Rope). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Gen.Pre_finite24
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gen.Kernel30.Frame
public import proofs.«01_k».proof.Proof.Scan.Claim
public import proofs.«01_k».proof.Proof.Product.WeightIn
public import proofs.«01_k».proof.Proof.Product.WeightGateUp
public import proofs.«01_k».proof.Proof.Product.WeightDown
public import proofs.«01_k».proof.Proof.Product.WeightOut
public import proofs.«01_k».proof.Proof.Product.WeightBranch
public import proofs.«01_k».proof.Proof.Product.InputIn
public import proofs.«01_k».proof.Proof.Product.InputGateUp
public import proofs.«01_k».proof.Proof.Product.InputDown
public import proofs.«01_k».proof.Proof.Product.InputOut
public import proofs.«01_k».proof.Proof.Product.InputBranch
public import proofs.«01_k».proof.Proof.Product.ForwardIn
public import proofs.«01_k».proof.Proof.Product.ForwardGateUp
public import proofs.«01_k».proof.Proof.Product.ForwardBranch
public import proofs.«01_k».proof.Proof.Product.ForwardDown
public import proofs.«01_k».proof.Proof.Product.ForwardOut
public import proofs.«01_k».proof.Proof.Optimiser.InWeight
public import proofs.«01_k».proof.Proof.Optimiser.BranchWeight
public import proofs.«01_k».proof.Proof.Optimiser.OutWeight
public import proofs.«01_k».proof.Proof.Optimiser.GateUpWeight
public import proofs.«01_k».proof.Proof.Optimiser.DownWeight
public import proofs.«01_k».proof.Proof.Optimiser.ConvWeight
public import proofs.«01_k».proof.Proof.Norm.Backward
public import proofs.«01_k».proof.Proof.Gate.UnitGradient
public import proofs.«01_k».proof.Proof.Gate.MergeGradient
public import proofs.«01_k».proof.Proof.Gate.Unit
public import proofs.«01_k».proof.Proof.Gate.Merge
public import proofs.«01_k».proof.Proof.Norm.Forward
public import proofs.«01_k».proof.Proof.Gate.Heads
public import proofs.«01_k».proof.Proof.Rope.Forward

@[expose] public section

noncomputable section

namespace Cert.Proof

open Idealize.ShloMosaic Idealize.SL.Sem

/-- Every claim of the certificate. -/
theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Pre_finite.Gen.facts, Cert.Pre_finite24.Gen.facts,
  fun m ρ _ => Cert.Kernel.Gen.frame m ρ, fun m ρ _ => Cert.KernelIdeal.Gen.frame m ρ,
  fun m ρ _ => Cert.KernelIdeal.Gen.frame m ρ,
  Cert.Scan.frame_reference, fun m ρ _ => Cert.Scan.frame_reference m ρ trivial,
  fun m ρ _ => Cert.Kernel2.Gen.frame m ρ, fun m ρ _ => Cert.Kernel2Ideal.Gen.frame m ρ, Cert.Product.frame_weightIn,
  fun m ρ _ => Cert.Kernel3.Gen.frame m ρ, fun m ρ _ => Cert.Kernel3Ideal.Gen.frame m ρ, Cert.Product.frame_weightGateUp,
  fun m ρ _ => Cert.Kernel4.Gen.frame m ρ, fun m ρ _ => Cert.Kernel4Ideal.Gen.frame m ρ, Cert.Product.frame_weightDown,
  fun m ρ _ => Cert.Kernel5.Gen.frame m ρ, fun m ρ _ => Cert.Kernel5Ideal.Gen.frame m ρ, Cert.Product.frame_weightOut,
  fun m ρ _ => Cert.Kernel6.Gen.frame m ρ, fun m ρ _ => Cert.Kernel6Ideal.Gen.frame m ρ, Cert.Product.frame_weightBranch,
  fun m ρ _ => Cert.Kernel7.Gen.frame m ρ, fun m ρ _ => Cert.Kernel7Ideal.Gen.frame m ρ, Cert.Product.frame_inputIn,
  fun m ρ _ => Cert.Kernel8.Gen.frame m ρ, fun m ρ _ => Cert.Kernel8Ideal.Gen.frame m ρ, Cert.Product.frame_inputGateUp,
  fun m ρ _ => Cert.Kernel9.Gen.frame m ρ, fun m ρ _ => Cert.Kernel9Ideal.Gen.frame m ρ, Cert.Product.frame_inputDown,
  fun m ρ _ => Cert.Kernel10.Gen.frame m ρ, fun m ρ _ => Cert.Kernel10Ideal.Gen.frame m ρ, Cert.Product.frame_inputOut,
  fun m ρ _ => Cert.Kernel11.Gen.frame m ρ, fun m ρ _ => Cert.Kernel11Ideal.Gen.frame m ρ, Cert.Product.frame_inputBranch,
  fun m ρ _ => Cert.Kernel12.Gen.frame m ρ, fun m ρ _ => Cert.Kernel12Ideal.Gen.frame m ρ, Cert.Product.frame_forwardIn,
  fun m ρ _ => Cert.Kernel13.Gen.frame m ρ, fun m ρ _ => Cert.Kernel13Ideal.Gen.frame m ρ, Cert.Product.frame_forwardGateUp,
  fun m ρ _ => Cert.Kernel14.Gen.frame m ρ, fun m ρ _ => Cert.Kernel14Ideal.Gen.frame m ρ, Cert.Product.frame_forwardBranch,
  fun m ρ _ => Cert.Kernel15.Gen.frame m ρ, fun m ρ _ => Cert.Kernel15Ideal.Gen.frame m ρ, Cert.Product.frame_forwardDown,
  fun m ρ _ => Cert.Kernel16.Gen.frame m ρ, fun m ρ _ => Cert.Kernel16Ideal.Gen.frame m ρ, Cert.Product.frame_forwardOut,
  fun m ρ _ => Cert.Kernel17.Gen.frame m ρ, fun m ρ _ => Cert.Kernel17Ideal.Gen.frame m ρ, Cert.Optimiser.frame_inWeight,
  fun m ρ _ => Cert.Kernel18.Gen.frame m ρ, fun m ρ _ => Cert.Kernel18Ideal.Gen.frame m ρ, Cert.Optimiser.frame_branchWeight,
  fun m ρ _ => Cert.Kernel19.Gen.frame m ρ, fun m ρ _ => Cert.Kernel19Ideal.Gen.frame m ρ, Cert.Optimiser.frame_outWeight,
  fun m ρ _ => Cert.Kernel20.Gen.frame m ρ, fun m ρ _ => Cert.Kernel20Ideal.Gen.frame m ρ, Cert.Optimiser.frame_gateUpWeight,
  fun m ρ _ => Cert.Kernel21.Gen.frame m ρ, fun m ρ _ => Cert.Kernel21Ideal.Gen.frame m ρ, Cert.Optimiser.frame_downWeight,
  fun m ρ _ => Cert.Kernel22.Gen.frame m ρ, fun m ρ _ => Cert.Kernel22Ideal.Gen.frame m ρ, Cert.Optimiser.frame_convWeight,
  fun m ρ _ => Cert.Kernel23.Gen.frame m ρ, fun m ρ _ => Cert.Kernel23Ideal.Gen.frame m ρ, Cert.Norm.frame_backward,
  fun m ρ _ => Cert.Kernel24.Gen.frame m ρ, fun m ρ _ => Cert.Kernel24Ideal.Gen.frame m ρ,
  fun m ρ _ => Cert.Kernel24Ideal.Gen.frame m ρ,
  Cert.Gate.frame_unit_gradient, fun m ρ _ => Cert.Gate.frame_unit_gradient m ρ trivial,
  fun m ρ _ => Cert.Kernel25.Gen.frame m ρ, fun m ρ _ => Cert.Kernel25Ideal.Gen.frame m ρ, Cert.Gate.frame_merge_gradient,
  fun m ρ _ => Cert.Kernel26.Gen.frame m ρ, fun m ρ _ => Cert.Kernel26Ideal.Gen.frame m ρ, Cert.Gate.frame_unit,
  fun m ρ _ => Cert.Kernel27.Gen.frame m ρ, fun m ρ _ => Cert.Kernel27Ideal.Gen.frame m ρ, Cert.Gate.frame_merge,
  fun m ρ _ => Cert.Kernel28.Gen.frame m ρ, fun m ρ _ => Cert.Kernel28Ideal.Gen.frame m ρ, Cert.Norm.frame_forward,
  fun m ρ _ => Cert.Kernel29.Gen.frame m ρ, fun m ρ _ => Cert.Kernel29Ideal.Gen.frame m ρ, Cert.Gate.frame_heads,
  fun m ρ _ => Cert.Kernel30.Gen.frame m ρ, fun m ρ _ => Cert.Kernel30Ideal.Gen.frame m ρ, Cert.Rope.frame_forward,
  trivial, Cert.Scan.algebraic,
  trivial, Cert.Product.algebraic_weightIn,
  trivial, Cert.Product.algebraic_weightGateUp,
  trivial, Cert.Product.algebraic_weightDown,
  trivial, Cert.Product.algebraic_weightOut,
  trivial, Cert.Product.algebraic_weightBranch,
  trivial, Cert.Product.algebraic_inputIn,
  trivial, Cert.Product.algebraic_inputGateUp,
  trivial, Cert.Product.algebraic_inputDown,
  trivial, Cert.Product.algebraic_inputOut,
  trivial, Cert.Product.algebraic_inputBranch,
  trivial, Cert.Product.algebraic_forwardIn,
  trivial, Cert.Product.algebraic_forwardGateUp,
  trivial, Cert.Product.algebraic_forwardBranch,
  trivial, Cert.Product.algebraic_forwardDown,
  trivial, Cert.Product.algebraic_forwardOut,
  trivial, Cert.Optimiser.algebraic_inWeight,
  trivial, Cert.Optimiser.algebraic_branchWeight,
  trivial, Cert.Optimiser.algebraic_outWeight,
  trivial, Cert.Optimiser.algebraic_gateUpWeight,
  trivial, Cert.Optimiser.algebraic_downWeight,
  trivial, Cert.Optimiser.algebraic_convWeight,
  trivial, Cert.Norm.algebraic_backward,
  trivial, Cert.Gate.algebraic_unit_gradient,
  trivial, Cert.Gate.algebraic_merge_gradient,
  trivial, Cert.Gate.algebraic_unit,
  trivial, Cert.Gate.algebraic_merge,
  trivial, Cert.Norm.algebraic_forward,
  trivial, Cert.Gate.algebraic_heads,
  trivial, Cert.Rope.algebraic_forward⟩

end Cert.Proof

end
